-- ==== Defs.lean ====
def Pre_Kernel0 (m : (ℓ : Loc Cert.Kernel0.nD Cert.Kernel0.τ Cert.Kernel0.sig) → Buf (Elt Bits) ℓ) : Prop :=
  True

def Pre_Kernel0Ideal (m : (ℓ : Loc Cert.Kernel0Ideal.nD Cert.Kernel0Ideal.τ Cert.Kernel0Ideal.sig) → Buf (Elt Ideal) ℓ) : Prop :=
  True

def Pre_Reference0Ideal (m : (ℓ : Loc Cert.Reference0Ideal.nD Cert.Reference0Ideal.τ Cert.Reference0Ideal.sig) → Buf (Elt Ideal) ℓ) : Prop :=
  True

def quiescent_Kernel0 [hKernel0 : Cert.Kernel0.Facts] : Prop :=
  ∀ (m : (ℓ : Loc Cert.Kernel0.nD Cert.Kernel0.τ Cert.Kernel0.sig) → Buf (Elt Bits) ℓ) (g : Dev Cert.Kernel0.nD → PrngReg), Pre_Kernel0 m →
    θ_run (Cert.Kernel0.defs (F := Bits)) (onTc (τ := Cert.Kernel0.τ) (Cert.Kernel0.main (F := Bits))) ⟨m, fun _ => 0, g⟩ (fun r => (∀ c : Dev Cert.Kernel0.nD,
      r.2.mem ((c.tc : Thread Cert.Kernel0.nD Cert.Kernel0.τ).loc Cert.Kernel0.main_arg0) = m ((c.tc : Thread Cert.Kernel0.nD Cert.Kernel0.τ).loc Cert.Kernel0.main_arg0)
      ∧ r.2.mem ((c.tc : Thread Cert.Kernel0.nD Cert.Kernel0.τ).loc Cert.Kernel0.main_arg1) = m ((c.tc : Thread Cert.Kernel0.nD Cert.Kernel0.τ).loc Cert.Kernel0.main_arg1)
      ∧ r.2.mem ((c.tc : Thread Cert.Kernel0.nD Cert.Kernel0.τ).loc Cert.Kernel0.main_arg2) = m ((c.tc : Thread Cert.Kernel0.nD Cert.Kernel0.τ).loc Cert.Kernel0.main_arg2)
      ∧ r.2.mem ((c.tc : Thread Cert.Kernel0.nD Cert.Kernel0.τ).loc Cert.Kernel0.main_arg3) = m ((c.tc : Thread Cert.Kernel0.nD Cert.Kernel0.τ).loc Cert.Kernel0.main_arg3)
      ∧ r.2.mem ((c.tc : Thread Cert.Kernel0.nD Cert.Kernel0.τ).loc Cert.Kernel0.main_arg4) = m ((c.tc : Thread Cert.Kernel0.nD Cert.Kernel0.τ).loc Cert.Kernel0.main_arg4)
      ∧ r.2.mem ((c.tc : Thread Cert.Kernel0.nD Cert.Kernel0.τ).loc Cert.Kernel0.main_arg5) = m ((c.tc : Thread Cert.Kernel0.nD Cert.Kernel0.τ).loc Cert.Kernel0.main_arg5))
      ∧ r.2.sem = fun _ => 0)

def quiescent_Kernel0Ideal [hKernel0Ideal : Cert.Kernel0Ideal.Facts] : Prop :=
  ∀ (m : (ℓ : Loc Cert.Kernel0Ideal.nD Cert.Kernel0Ideal.τ Cert.Kernel0Ideal.sig) → Buf (Elt Ideal) ℓ) (g : Dev Cert.Kernel0Ideal.nD → PrngReg), Pre_Kernel0Ideal m →
    θ_run (Cert.Kernel0Ideal.defs (F := Ideal)) (onTc (τ := Cert.Kernel0Ideal.τ) (Cert.Kernel0Ideal.main (F := Ideal))) ⟨m, fun _ => 0, g⟩ (fun r => (∀ c : Dev Cert.Kernel0Ideal.nD,
      r.2.mem ((c.tc : Thread Cert.Kernel0Ideal.nD Cert.Kernel0Ideal.τ).loc Cert.Kernel0Ideal.main_arg0) = m ((c.tc : Thread Cert.Kernel0Ideal.nD Cert.Kernel0Ideal.τ).loc Cert.Kernel0Ideal.main_arg0)
      ∧ r.2.mem ((c.tc : Thread Cert.Kernel0Ideal.nD Cert.Kernel0Ideal.τ).loc Cert.Kernel0Ideal.main_arg1) = m ((c.tc : Thread Cert.Kernel0Ideal.nD Cert.Kernel0Ideal.τ).loc Cert.Kernel0Ideal.main_arg1)
      ∧ r.2.mem ((c.tc : Thread Cert.Kernel0Ideal.nD Cert.Kernel0Ideal.τ).loc Cert.Kernel0Ideal.main_arg2) = m ((c.tc : Thread Cert.Kernel0Ideal.nD Cert.Kernel0Ideal.τ).loc Cert.Kernel0Ideal.main_arg2)
      ∧ r.2.mem ((c.tc : Thread Cert.Kernel0Ideal.nD Cert.Kernel0Ideal.τ).loc Cert.Kernel0Ideal.main_arg3) = m ((c.tc : Thread Cert.Kernel0Ideal.nD Cert.Kernel0Ideal.τ).loc Cert.Kernel0Ideal.main_arg3)
      ∧ r.2.mem ((c.tc : Thread Cert.Kernel0Ideal.nD Cert.Kernel0Ideal.τ).loc Cert.Kernel0Ideal.main_arg4) = m ((c.tc : Thread Cert.Kernel0Ideal.nD Cert.Kernel0Ideal.τ).loc Cert.Kernel0Ideal.main_arg4)
      ∧ r.2.mem ((c.tc : Thread Cert.Kernel0Ideal.nD Cert.Kernel0Ideal.τ).loc Cert.Kernel0Ideal.main_arg5) = m ((c.tc : Thread Cert.Kernel0Ideal.nD Cert.Kernel0Ideal.τ).loc Cert.Kernel0Ideal.main_arg5))
      ∧ r.2.sem = fun _ => 0)

def quiescent_Reference0Ideal [hReference0Ideal : Cert.Reference0Ideal.Facts] : Prop :=
  ∀ (m : (ℓ : Loc Cert.Reference0Ideal.nD Cert.Reference0Ideal.τ Cert.Reference0Ideal.sig) → Buf (Elt Ideal) ℓ) (g : Dev Cert.Reference0Ideal.nD → PrngReg), Pre_Reference0Ideal m →
    θ_run (Cert.Reference0Ideal.defs (F := Ideal)) (onTc (τ := Cert.Reference0Ideal.τ) (Cert.Reference0Ideal.main (F := Ideal))) ⟨m, fun _ => 0, g⟩ (fun r => (∀ c : Dev Cert.Reference0Ideal.nD,
      r.2.mem ((c.tc : Thread Cert.Reference0Ideal.nD Cert.Reference0Ideal.τ).loc Cert.Reference0Ideal.main_arg0) = m ((c.tc : Thread Cert.Reference0Ideal.nD Cert.Reference0Ideal.τ).loc Cert.Reference0Ideal.main_arg0)
      ∧ r.2.mem ((c.tc : Thread Cert.Reference0Ideal.nD Cert.Reference0Ideal.τ).loc Cert.Reference0Ideal.main_arg1) = m ((c.tc : Thread Cert.Reference0Ideal.nD Cert.Reference0Ideal.τ).loc Cert.Reference0Ideal.main_arg1)
      ∧ r.2.mem ((c.tc : Thread Cert.Reference0Ideal.nD Cert.Reference0Ideal.τ).loc Cert.Reference0Ideal.main_arg2) = m ((c.tc : Thread Cert.Reference0Ideal.nD Cert.Reference0Ideal.τ).loc Cert.Reference0Ideal.main_arg2)
      ∧ r.2.mem ((c.tc : Thread Cert.Reference0Ideal.nD Cert.Reference0Ideal.τ).loc Cert.Reference0Ideal.main_arg3) = m ((c.tc : Thread Cert.Reference0Ideal.nD Cert.Reference0Ideal.τ).loc Cert.Reference0Ideal.main_arg3)
      ∧ r.2.mem ((c.tc : Thread Cert.Reference0Ideal.nD Cert.Reference0Ideal.τ).loc Cert.Reference0Ideal.main_arg4) = m ((c.tc : Thread Cert.Reference0Ideal.nD Cert.Reference0Ideal.τ).loc Cert.Reference0Ideal.main_arg4)
      ∧ r.2.mem ((c.tc : Thread Cert.Reference0Ideal.nD Cert.Reference0Ideal.τ).loc Cert.Reference0Ideal.main_arg5) = m ((c.tc : Thread Cert.Reference0Ideal.nD Cert.Reference0Ideal.τ).loc Cert.Reference0Ideal.main_arg5))
      ∧ r.2.sem = fun _ => 0)

def preserves_Kernel0_Kernel0Ideal : Prop :=
  True

def algebraic_Kernel0Ideal_Reference0Ideal [hKernel0Ideal : Cert.Kernel0Ideal.Facts] [hReference0Ideal : Cert.Reference0Ideal.Facts] : Prop :=
  ∀ (m : (ℓ : Loc Cert.Kernel0Ideal.nD Cert.Kernel0Ideal.τ Cert.Kernel0Ideal.sig) → Buf (Elt Ideal) ℓ) (g : Dev Cert.Kernel0Ideal.nD → PrngReg)
    (m' : (ℓ : Loc Cert.Reference0Ideal.nD Cert.Reference0Ideal.τ Cert.Reference0Ideal.sig) → Buf (Elt Ideal) ℓ) (g' : Dev Cert.Reference0Ideal.nD → PrngReg), Pre_Kernel0Ideal m →
    (∀ c : Dev Cert.Kernel0Ideal.nD,
      m' ((c.tc : Thread Cert.Reference0Ideal.nD Cert.Reference0Ideal.τ).loc Cert.Reference0Ideal.main_arg0) = m ((c.tc : Thread Cert.Kernel0Ideal.nD Cert.Kernel0Ideal.τ).loc Cert.Kernel0Ideal.main_arg0)
      ∧ m' ((c.tc : Thread Cert.Reference0Ideal.nD Cert.Reference0Ideal.τ).loc Cert.Reference0Ideal.main_arg1) = m ((c.tc : Thread Cert.Kernel0Ideal.nD Cert.Kernel0Ideal.τ).loc Cert.Kernel0Ideal.main_arg1)
      ∧ m' ((c.tc : Thread Cert.Reference0Ideal.nD Cert.Reference0Ideal.τ).loc Cert.Reference0Ideal.main_arg2) = m ((c.tc : Thread Cert.Kernel0Ideal.nD Cert.Kernel0Ideal.τ).loc Cert.Kernel0Ideal.main_arg2)
      ∧ m' ((c.tc : Thread Cert.Reference0Ideal.nD Cert.Reference0Ideal.τ).loc Cert.Reference0Ideal.main_arg3) = m ((c.tc : Thread Cert.Kernel0Ideal.nD Cert.Kernel0Ideal.τ).loc Cert.Kernel0Ideal.main_arg3)
      ∧ m' ((c.tc : Thread Cert.Reference0Ideal.nD Cert.Reference0Ideal.τ).loc Cert.Reference0Ideal.main_arg4) = m ((c.tc : Thread Cert.Kernel0Ideal.nD Cert.Kernel0Ideal.τ).loc Cert.Kernel0Ideal.main_arg4)
      ∧ m' ((c.tc : Thread Cert.Reference0Ideal.nD Cert.Reference0Ideal.τ).loc Cert.Reference0Ideal.main_arg5) = m ((c.tc : Thread Cert.Kernel0Ideal.nD Cert.Kernel0Ideal.τ).loc Cert.Kernel0Ideal.main_arg5)) →
    ∃ (v0 : (c : Dev Cert.Kernel0Ideal.nD) → Buf (Elt Ideal) ((c.tc : Thread Cert.Kernel0Ideal.nD Cert.Kernel0Ideal.τ).loc Cert.Kernel0Ideal.main_v471)) (v1 : (c : Dev Cert.Kernel0Ideal.nD) → Buf (Elt Ideal) ((c.tc : Thread Cert.Kernel0Ideal.nD Cert.Kernel0Ideal.τ).loc Cert.Kernel0Ideal.main_v472)) (v2 : (c : Dev Cert.Kernel0Ideal.nD) → Buf (Elt Ideal) ((c.tc : Thread Cert.Kernel0Ideal.nD Cert.Kernel0Ideal.τ).loc Cert.Kernel0Ideal.main_v476)) (v3 : (c : Dev Cert.Kernel0Ideal.nD) → Buf (Elt Ideal) ((c.tc : Thread Cert.Kernel0Ideal.nD Cert.Kernel0Ideal.τ).loc Cert.Kernel0Ideal.main_v477)),
      θ_run (Cert.Kernel0Ideal.defs (F := Ideal)) (onTc (τ := Cert.Kernel0Ideal.τ) (Cert.Kernel0Ideal.main (F := Ideal))) ⟨m, fun _ => 0, g⟩ (fun r => ∀ c : Dev Cert.Kernel0Ideal.nD,
          r.2.mem ((c.tc : Thread Cert.Kernel0Ideal.nD Cert.Kernel0Ideal.τ).loc Cert.Kernel0Ideal.main_v471) = v0 c
          ∧ r.2.mem ((c.tc : Thread Cert.Kernel0Ideal.nD Cert.Kernel0Ideal.τ).loc Cert.Kernel0Ideal.main_v472) = v1 c
          ∧ r.2.mem ((c.tc : Thread Cert.Kernel0Ideal.nD Cert.Kernel0Ideal.τ).loc Cert.Kernel0Ideal.main_v476) = v2 c
          ∧ r.2.mem ((c.tc : Thread Cert.Kernel0Ideal.nD Cert.Kernel0Ideal.τ).loc Cert.Kernel0Ideal.main_v477) = v3 c
          ∧ r.2.mem ((c.tc : Thread Cert.Kernel0Ideal.nD Cert.Kernel0Ideal.τ).loc Cert.Kernel0Ideal.main_arg0) = m ((c.tc : Thread Cert.Kernel0Ideal.nD Cert.Kernel0Ideal.τ).loc Cert.Kernel0Ideal.main_arg0)
          ∧ r.2.mem ((c.tc : Thread Cert.Kernel0Ideal.nD Cert.Kernel0Ideal.τ).loc Cert.Kernel0Ideal.main_arg1) = m ((c.tc : Thread Cert.Kernel0Ideal.nD Cert.Kernel0Ideal.τ).loc Cert.Kernel0Ideal.main_arg1)
          ∧ r.2.mem ((c.tc : Thread Cert.Kernel0Ideal.nD Cert.Kernel0Ideal.τ).loc Cert.Kernel0Ideal.main_arg2) = m ((c.tc : Thread Cert.Kernel0Ideal.nD Cert.Kernel0Ideal.τ).loc Cert.Kernel0Ideal.main_arg2)
          ∧ r.2.mem ((c.tc : Thread Cert.Kernel0Ideal.nD Cert.Kernel0Ideal.τ).loc Cert.Kernel0Ideal.main_arg3) = m ((c.tc : Thread Cert.Kernel0Ideal.nD Cert.Kernel0Ideal.τ).loc Cert.Kernel0Ideal.main_arg3)
          ∧ r.2.mem ((c.tc : Thread Cert.Kernel0Ideal.nD Cert.Kernel0Ideal.τ).loc Cert.Kernel0Ideal.main_arg4) = m ((c.tc : Thread Cert.Kernel0Ideal.nD Cert.Kernel0Ideal.τ).loc Cert.Kernel0Ideal.main_arg4)
          ∧ r.2.mem ((c.tc : Thread Cert.Kernel0Ideal.nD Cert.Kernel0Ideal.τ).loc Cert.Kernel0Ideal.main_arg5) = m ((c.tc : Thread Cert.Kernel0Ideal.nD Cert.Kernel0Ideal.τ).loc Cert.Kernel0Ideal.main_arg5))
      ∧ θ_run (Cert.Reference0Ideal.defs (F := Ideal)) (onTc (τ := Cert.Reference0Ideal.τ) (Cert.Reference0Ideal.main (F := Ideal))) ⟨m', fun _ => 0, g'⟩ (fun r => ∀ c : Dev Cert.Reference0Ideal.nD,
          r.2.mem ((c.tc : Thread Cert.Reference0Ideal.nD Cert.Reference0Ideal.τ).loc Cert.Reference0Ideal.main_v190) = v0 c
          ∧ r.2.mem ((c.tc : Thread Cert.Reference0Ideal.nD Cert.Reference0Ideal.τ).loc Cert.Reference0Ideal.main_v381) = v1 c
          ∧ r.2.mem ((c.tc : Thread Cert.Reference0Ideal.nD Cert.Reference0Ideal.τ).loc Cert.Reference0Ideal.main_v569) = v2 c
          ∧ r.2.mem ((c.tc : Thread Cert.Reference0Ideal.nD Cert.Reference0Ideal.τ).loc Cert.Reference0Ideal.main_v757) = v3 c
          ∧ r.2.mem ((c.tc : Thread Cert.Reference0Ideal.nD Cert.Reference0Ideal.τ).loc Cert.Reference0Ideal.main_arg0) = m' ((c.tc : Thread Cert.Reference0Ideal.nD Cert.Reference0Ideal.τ).loc Cert.Reference0Ideal.main_arg0)
          ∧ r.2.mem ((c.tc : Thread Cert.Reference0Ideal.nD Cert.Reference0Ideal.τ).loc Cert.Reference0Ideal.main_arg1) = m' ((c.tc : Thread Cert.Reference0Ideal.nD Cert.Reference0Ideal.τ).loc Cert.Reference0Ideal.main_arg1)
          ∧ r.2.mem ((c.tc : Thread Cert.Reference0Ideal.nD Cert.Reference0Ideal.τ).loc Cert.Reference0Ideal.main_arg2) = m' ((c.tc : Thread Cert.Reference0Ideal.nD Cert.Reference0Ideal.τ).loc Cert.Reference0Ideal.main_arg2)
          ∧ r.2.mem ((c.tc : Thread Cert.Reference0Ideal.nD Cert.Reference0Ideal.τ).loc Cert.Reference0Ideal.main_arg3) = m' ((c.tc : Thread Cert.Reference0Ideal.nD Cert.Reference0Ideal.τ).loc Cert.Reference0Ideal.main_arg3)
          ∧ r.2.mem ((c.tc : Thread Cert.Reference0Ideal.nD Cert.Reference0Ideal.τ).loc Cert.Reference0Ideal.main_arg4) = m' ((c.tc : Thread Cert.Reference0Ideal.nD Cert.Reference0Ideal.τ).loc Cert.Reference0Ideal.main_arg4)
          ∧ r.2.mem ((c.tc : Thread Cert.Reference0Ideal.nD Cert.Reference0Ideal.τ).loc Cert.Reference0Ideal.main_arg5) = m' ((c.tc : Thread Cert.Reference0Ideal.nD Cert.Reference0Ideal.τ).loc Cert.Reference0Ideal.main_arg5))

def Claim : Prop :=
  ∃ (hKernel0 : Cert.Kernel0.Facts) (hKernel0Ideal : Cert.Kernel0Ideal.Facts) (hReference0Ideal : Cert.Reference0Ideal.Facts),
    quiescent_Kernel0 (hKernel0 := hKernel0)
    ∧ quiescent_Kernel0Ideal (hKernel0Ideal := hKernel0Ideal)
    ∧ quiescent_Reference0Ideal (hReference0Ideal := hReference0Ideal)
    ∧ preserves_Kernel0_Kernel0Ideal
    ∧ algebraic_Kernel0Ideal_Reference0Ideal (hKernel0Ideal := hKernel0Ideal) (hReference0Ideal := hReference0Ideal)
-- ==== Kernel0.lean ====
abbrev S2x48x384x640 : Shape := ⟨4, ![2, 48, 384, 640]⟩
abbrev S2x1x384x640 : Shape := ⟨4, ![2, 1, 384, 640]⟩
abbrev S2x2x384x640 : Shape := ⟨4, ![2, 2, 384, 640]⟩
abbrev S2x49x384x640 : Shape := ⟨4, ![2, 49, 384, 640]⟩
abbrev S4x49x384x640 : Shape := ⟨4, ![4, 49, 384, 640]⟩
abbrev S4x384x640x49 : Shape := ⟨4, ![4, 384, 640, 49]⟩
abbrev S4x245760x1x49 : Shape := ⟨4, ![4, 245760, 1, 49]⟩
abbrev S4x2x384x640 : Shape := ⟨4, ![4, 2, 384, 640]⟩
abbrev S640 : Shape := ⟨1, ![640]⟩
abbrev S1x1x640 : Shape := ⟨3, ![1, 1, 640]⟩
abbrev S4x1x384x640 : Shape := ⟨4, ![4, 1, 384, 640]⟩
abbrev S4x384x640 : Shape := ⟨3, ![4, 384, 640]⟩
abbrev S384 : Shape := ⟨1, ![384]⟩
abbrev S1x384x1 : Shape := ⟨3, ![1, 384, 1]⟩
abbrev S_ : Shape := ⟨0, ![]⟩
abbrev S4x245760 : Shape := ⟨2, ![4, 245760]⟩
abbrev S4x245760x1 : Shape := ⟨3, ![4, 245760, 1]⟩
abbrev S4x245760x4 : Shape := ⟨3, ![4, 245760, 4]⟩
abbrev S4x1x245760x4 : Shape := ⟨4, ![4, 1, 245760, 4]⟩
abbrev S4x3x245760x4 : Shape := ⟨4, ![4, 3, 245760, 4]⟩
abbrev S12x245760x4 : Shape := ⟨3, ![12, 245760, 4]⟩
abbrev S12x240x1x4096 : Shape := ⟨4, ![12, 240, 1, 4096]⟩
abbrev S12x82432x1x128 : Shape := ⟨4, ![12, 82432, 1, 128]⟩
abbrev S1x1024x1x49 : Shape := ⟨4, ![1, 1024, 1, 49]⟩
abbrev S1x1x1x4096 : Shape := ⟨4, ![1, 1, 1, 4096]⟩
abbrev S1x82432x1x128 : Shape := ⟨4, ![1, 82432, 1, 128]⟩
abbrev S1024x1x128 : Shape := ⟨3, ![1024, 1, 128]⟩
abbrev S512x1x128 : Shape := ⟨3, ![512, 1, 128]⟩
abbrev S1x512x1x128 : Shape := ⟨4, ![1, 512, 1, 128]⟩
abbrev S1024x1x49 : Shape := ⟨3, ![1024, 1, 49]⟩
abbrev S1024x1x1 : Shape := ⟨3, ![1024, 1, 1]⟩
abbrev S1024x1x77 : Shape := ⟨3, ![1024, 1, 77]⟩
abbrev S1x1x128 : Shape := ⟨3, ![1, 1, 128]⟩
abbrev S1x128 : Shape := ⟨2, ![1, 128]⟩
abbrev S1x1x1x1 : Shape := ⟨4, ![1, 1, 1, 1]⟩
abbrev S1x1x1x128 : Shape := ⟨4, ![1, 1, 1, 128]⟩
abbrev S512x1x1 : Shape := ⟨3, ![512, 1, 1]⟩
abbrev S512x1x49 : Shape := ⟨3, ![512, 1, 49]⟩
abbrev S512x1x78 : Shape := ⟨3, ![512, 1, 78]⟩
abbrev S12x81920x1x50 : Shape := ⟨4, ![12, 81920, 1, 50]⟩
abbrev S12x81920x50 : Shape := ⟨3, ![12, 81920, 50]⟩
abbrev S4x245760x50 : Shape := ⟨3, ![4, 245760, 50]⟩
abbrev S4x245760x49 : Shape := ⟨3, ![4, 245760, 49]⟩
abbrev S4x384x640x1 : Shape := ⟨4, ![4, 384, 640, 1]⟩

abbrev nBuf : Space → Nat
  | .hbm => 690
  | .vmem => 4
  | .smem => 4
  | _ => 0

abbrev hbmTy0_0 (i : Nat) : BufTy := match i % 128 with
  | 0 => ⟨S2x48x384x640, .f32⟩
  | 1 => ⟨S2x48x384x640, .f32⟩
  | 2 => ⟨S2x1x384x640, .f32⟩
  | 3 => ⟨S2x1x384x640, .f32⟩
  | 4 => ⟨S2x2x384x640, .f32⟩
  | 5 => ⟨S2x2x384x640, .f32⟩
  | 6 => ⟨S2x49x384x640, .f32⟩
  | 7 => ⟨S2x49x384x640, .f32⟩
  | 8 => ⟨S4x49x384x640, .f32⟩
  | 9 => ⟨S4x384x640x49, .f32⟩
  | 10 => ⟨S4x245760x1x49, .f32⟩
  | 11 => ⟨S4x2x384x640, .f32⟩
  | 12 => ⟨S640, .f32⟩
  | 13 => ⟨S1x1x640, .f32⟩
  | 14 => ⟨S4x1x384x640, .f32⟩
  | 15 => ⟨S4x384x640, .f32⟩
  | 16 => ⟨S4x384x640, .f32⟩
  | 17 => ⟨S4x384x640, .f32⟩
  | 18 => ⟨S384, .f32⟩
  | 19 => ⟨S1x384x1, .f32⟩
  | 20 => ⟨S4x1x384x640, .f32⟩
  | 21 => ⟨S4x384x640, .f32⟩
  | 22 => ⟨S4x384x640, .f32⟩
  | 23 => ⟨S4x384x640, .f32⟩
  | 24 => ⟨S_, .f32⟩
  | 25 => ⟨S_, .f32⟩
  | 26 => ⟨S_, .f32⟩
  | 27 => ⟨S4x384x640, .f32⟩
  | 28 => ⟨S4x384x640, .f32⟩
  | 29 => ⟨S_, .f32⟩
  | 30 => ⟨S4x384x640, .f32⟩
  | 31 => ⟨S4x384x640, .f32⟩
  | 32 => ⟨S_, .f32⟩
  | 33 => ⟨S_, .f32⟩
  | 34 => ⟨S_, .f32⟩
  | 35 => ⟨S4x384x640, .f32⟩
  | 36 => ⟨S4x384x640, .f32⟩
  | 37 => ⟨S_, .f32⟩
  | 38 => ⟨S4x384x640, .f32⟩
  | 39 => ⟨S4x384x640, .f32⟩
  | 40 => ⟨S4x384x640, .f32⟩
  | 41 => ⟨S4x384x640, .f32⟩
  | 42 => ⟨S4x384x640, .f32⟩
  | 43 => ⟨S4x384x640, .f32⟩
  | 44 => ⟨S4x384x640, .i32⟩
  | 45 => ⟨S4x384x640, .i32⟩
  | 46 => ⟨S_, .i32⟩
  | 47 => ⟨S4x384x640, .i32⟩
  | 48 => ⟨S4x384x640, .i32⟩
  | 49 => ⟨S_, .i32⟩
  | 50 => ⟨S4x384x640, .i32⟩
  | 51 => ⟨S4x384x640, .i32⟩
  | 52 => ⟨S_, .f32⟩
  | 53 => ⟨S4x384x640, .f32⟩
  | 54 => ⟨S4x384x640, .f32⟩
  | 55 => ⟨S_, .f32⟩
  | 56 => ⟨S4x384x640, .f32⟩
  | 57 => ⟨S4x384x640, .f32⟩
  | 58 => ⟨S4x384x640, .f32⟩
  | 59 => ⟨S_, .i32⟩
  | 60 => ⟨S4x384x640, .i32⟩
  | 61 => ⟨S4x384x640, .i32⟩
  | 62 => ⟨S4x384x640, .i32⟩
  | 63 => ⟨S_, .i32⟩
  | 64 => ⟨S4x384x640, .i32⟩
  | 65 => ⟨S4x384x640, .i32⟩
  | 66 => ⟨S_, .i32⟩
  | 67 => ⟨S4x384x640, .i32⟩
  | 68 => ⟨S4x384x640, .i1⟩
  | 69 => ⟨S_, .i32⟩
  | 70 => ⟨S4x384x640, .i32⟩
  | 71 => ⟨S4x384x640, .i1⟩
  | 72 => ⟨S4x384x640, .i1⟩
  | 73 => ⟨S_, .i32⟩
  | 74 => ⟨S4x384x640, .i32⟩
  | 75 => ⟨S4x384x640, .i1⟩
  | 76 => ⟨S4x384x640, .i1⟩
  | 77 => ⟨S_, .i32⟩
  | 78 => ⟨S4x384x640, .i32⟩
  | 79 => ⟨S4x384x640, .i1⟩
  | 80 => ⟨S4x384x640, .i1⟩
  | 81 => ⟨S_, .i32⟩
  | 82 => ⟨S4x384x640, .i32⟩
  | 83 => ⟨S4x384x640, .i1⟩
  | 84 => ⟨S4x384x640, .i1⟩
  | 85 => ⟨S_, .i32⟩
  | 86 => ⟨S4x384x640, .i32⟩
  | 87 => ⟨S4x384x640, .i1⟩
  | 88 => ⟨S4x384x640, .i1⟩
  | 89 => ⟨S_, .i32⟩
  | 90 => ⟨S4x384x640, .i32⟩
  | 91 => ⟨S4x384x640, .i32⟩
  | 92 => ⟨S4x245760, .i32⟩
  | 93 => ⟨S_, .f32⟩
  | 94 => ⟨S_, .f32⟩
  | 95 => ⟨S4x384x640, .f32⟩
  | 96 => ⟨S4x384x640, .f32⟩
  | 97 => ⟨S4x245760, .f32⟩
  | 98 => ⟨S_, .i32⟩
  | 99 => ⟨S4x384x640, .i32⟩
  | 100 => ⟨S4x384x640, .i32⟩
  | 101 => ⟨S_, .i32⟩
  | 102 => ⟨S4x384x640, .i32⟩
  | 103 => ⟨S4x384x640, .i32⟩
  | 104 => ⟨S_, .f32⟩
  | 105 => ⟨S4x384x640, .f32⟩
  | 106 => ⟨S4x384x640, .f32⟩
  | 107 => ⟨S4x384x640, .f32⟩
  | 108 => ⟨S_, .i32⟩
  | 109 => ⟨S4x384x640, .i32⟩
  | 110 => ⟨S4x384x640, .i32⟩
  | 111 => ⟨S4x384x640, .i32⟩
  | 112 => ⟨S_, .i32⟩
  | 113 => ⟨S4x384x640, .i32⟩
  | 114 => ⟨S4x384x640, .i32⟩
  | 115 => ⟨S_, .i32⟩
  | 116 => ⟨S4x384x640, .i32⟩
  | 117 => ⟨S4x384x640, .i1⟩
  | 118 => ⟨S_, .i32⟩
  | 119 => ⟨S4x384x640, .i32⟩
  | 120 => ⟨S4x384x640, .i1⟩
  | 121 => ⟨S4x384x640, .i1⟩
  | 122 => ⟨S_, .i32⟩
  | 123 => ⟨S4x384x640, .i32⟩
  | 124 => ⟨S4x384x640, .i1⟩
  | 125 => ⟨S4x384x640, .i1⟩
  | 126 => ⟨S_, .i32⟩
  | 127 => ⟨S4x384x640, .i32⟩
  | _ => ⟨S2x48x384x640, .f32⟩

abbrev hbmTy0_1 (i : Nat) : BufTy := match i % 128 with
  | 0 => ⟨S4x384x640, .i1⟩
  | 1 => ⟨S4x384x640, .i1⟩
  | 2 => ⟨S_, .i32⟩
  | 3 => ⟨S4x384x640, .i32⟩
  | 4 => ⟨S4x384x640, .i1⟩
  | 5 => ⟨S4x384x640, .i1⟩
  | 6 => ⟨S_, .i32⟩
  | 7 => ⟨S4x384x640, .i32⟩
  | 8 => ⟨S4x384x640, .i1⟩
  | 9 => ⟨S4x384x640, .i1⟩
  | 10 => ⟨S_, .i32⟩
  | 11 => ⟨S4x384x640, .i32⟩
  | 12 => ⟨S4x384x640, .i32⟩
  | 13 => ⟨S4x245760, .i32⟩
  | 14 => ⟨S_, .f32⟩
  | 15 => ⟨S_, .f32⟩
  | 16 => ⟨S4x384x640, .f32⟩
  | 17 => ⟨S4x384x640, .f32⟩
  | 18 => ⟨S4x245760, .f32⟩
  | 19 => ⟨S_, .i32⟩
  | 20 => ⟨S4x384x640, .i32⟩
  | 21 => ⟨S4x384x640, .i32⟩
  | 22 => ⟨S_, .i32⟩
  | 23 => ⟨S4x384x640, .i32⟩
  | 24 => ⟨S4x384x640, .i32⟩
  | 25 => ⟨S_, .f32⟩
  | 26 => ⟨S4x384x640, .f32⟩
  | 27 => ⟨S4x384x640, .f32⟩
  | 28 => ⟨S4x384x640, .f32⟩
  | 29 => ⟨S_, .i32⟩
  | 30 => ⟨S4x384x640, .i32⟩
  | 31 => ⟨S4x384x640, .i32⟩
  | 32 => ⟨S4x384x640, .i32⟩
  | 33 => ⟨S_, .i32⟩
  | 34 => ⟨S4x384x640, .i32⟩
  | 35 => ⟨S4x384x640, .i32⟩
  | 36 => ⟨S_, .i32⟩
  | 37 => ⟨S4x384x640, .i32⟩
  | 38 => ⟨S4x384x640, .i1⟩
  | 39 => ⟨S_, .i32⟩
  | 40 => ⟨S4x384x640, .i32⟩
  | 41 => ⟨S4x384x640, .i1⟩
  | 42 => ⟨S4x384x640, .i1⟩
  | 43 => ⟨S_, .i32⟩
  | 44 => ⟨S4x384x640, .i32⟩
  | 45 => ⟨S4x384x640, .i1⟩
  | 46 => ⟨S4x384x640, .i1⟩
  | 47 => ⟨S_, .i32⟩
  | 48 => ⟨S4x384x640, .i32⟩
  | 49 => ⟨S4x384x640, .i1⟩
  | 50 => ⟨S4x384x640, .i1⟩
  | 51 => ⟨S_, .i32⟩
  | 52 => ⟨S4x384x640, .i32⟩
  | 53 => ⟨S4x384x640, .i1⟩
  | 54 => ⟨S4x384x640, .i1⟩
  | 55 => ⟨S_, .i32⟩
  | 56 => ⟨S4x384x640, .i32⟩
  | 57 => ⟨S4x384x640, .i1⟩
  | 58 => ⟨S4x384x640, .i1⟩
  | 59 => ⟨S_, .i32⟩
  | 60 => ⟨S4x384x640, .i32⟩
  | 61 => ⟨S4x384x640, .i32⟩
  | 62 => ⟨S4x245760, .i32⟩
  | 63 => ⟨S_, .f32⟩
  | 64 => ⟨S_, .f32⟩
  | 65 => ⟨S4x384x640, .f32⟩
  | 66 => ⟨S4x384x640, .f32⟩
  | 67 => ⟨S4x245760, .f32⟩
  | 68 => ⟨S_, .i32⟩
  | 69 => ⟨S4x384x640, .i32⟩
  | 70 => ⟨S4x384x640, .i32⟩
  | 71 => ⟨S_, .i32⟩
  | 72 => ⟨S4x384x640, .i32⟩
  | 73 => ⟨S4x384x640, .i32⟩
  | 74 => ⟨S4x384x640, .f32⟩
  | 75 => ⟨S_, .i32⟩
  | 76 => ⟨S4x384x640, .i32⟩
  | 77 => ⟨S4x384x640, .i32⟩
  | 78 => ⟨S4x384x640, .i32⟩
  | 79 => ⟨S_, .i32⟩
  | 80 => ⟨S4x384x640, .i32⟩
  | 81 => ⟨S4x384x640, .i32⟩
  | 82 => ⟨S_, .i32⟩
  | 83 => ⟨S4x384x640, .i32⟩
  | 84 => ⟨S4x384x640, .i1⟩
  | 85 => ⟨S_, .i32⟩
  | 86 => ⟨S4x384x640, .i32⟩
  | 87 => ⟨S4x384x640, .i1⟩
  | 88 => ⟨S4x384x640, .i1⟩
  | 89 => ⟨S_, .i32⟩
  | 90 => ⟨S4x384x640, .i32⟩
  | 91 => ⟨S4x384x640, .i1⟩
  | 92 => ⟨S4x384x640, .i1⟩
  | 93 => ⟨S_, .i32⟩
  | 94 => ⟨S4x384x640, .i32⟩
  | 95 => ⟨S4x384x640, .i1⟩
  | 96 => ⟨S4x384x640, .i1⟩
  | 97 => ⟨S_, .i32⟩
  | 98 => ⟨S4x384x640, .i32⟩
  | 99 => ⟨S4x384x640, .i1⟩
  | 100 => ⟨S4x384x640, .i1⟩
  | 101 => ⟨S_, .i32⟩
  | 102 => ⟨S4x384x640, .i32⟩
  | 103 => ⟨S4x384x640, .i1⟩
  | 104 => ⟨S4x384x640, .i1⟩
  | 105 => ⟨S_, .i32⟩
  | 106 => ⟨S4x384x640, .i32⟩
  | 107 => ⟨S4x384x640, .i32⟩
  | 108 => ⟨S4x245760, .i32⟩
  | 109 => ⟨S_, .f32⟩
  | 110 => ⟨S_, .f32⟩
  | 111 => ⟨S4x384x640, .f32⟩
  | 112 => ⟨S4x384x640, .f32⟩
  | 113 => ⟨S4x245760, .f32⟩
  | 114 => ⟨S4x245760x1, .i32⟩
  | 115 => ⟨S4x245760x1, .i32⟩
  | 116 => ⟨S4x245760x1, .i32⟩
  | 117 => ⟨S4x245760x1, .i32⟩
  | 118 => ⟨S4x245760x4, .i32⟩
  | 119 => ⟨S4x245760x1, .f32⟩
  | 120 => ⟨S4x245760x1, .f32⟩
  | 121 => ⟨S4x245760x1, .f32⟩
  | 122 => ⟨S4x245760x1, .f32⟩
  | 123 => ⟨S4x245760x4, .f32⟩
  | 124 => ⟨S_, .i32⟩
  | 125 => ⟨S4x384x640, .i32⟩
  | 126 => ⟨S4x384x640, .i32⟩
  | 127 => ⟨S_, .i32⟩
  | _ => ⟨S2x48x384x640, .f32⟩

abbrev hbmTy0_2 (i : Nat) : BufTy := match i % 128 with
  | 0 => ⟨S4x384x640, .i32⟩
  | 1 => ⟨S4x384x640, .i32⟩
  | 2 => ⟨S_, .f32⟩
  | 3 => ⟨S4x384x640, .f32⟩
  | 4 => ⟨S4x384x640, .f32⟩
  | 5 => ⟨S_, .f32⟩
  | 6 => ⟨S4x384x640, .f32⟩
  | 7 => ⟨S4x384x640, .f32⟩
  | 8 => ⟨S4x384x640, .f32⟩
  | 9 => ⟨S_, .i32⟩
  | 10 => ⟨S4x384x640, .i32⟩
  | 11 => ⟨S4x384x640, .i32⟩
  | 12 => ⟨S4x384x640, .i32⟩
  | 13 => ⟨S_, .i32⟩
  | 14 => ⟨S4x384x640, .i32⟩
  | 15 => ⟨S4x384x640, .i32⟩
  | 16 => ⟨S_, .i32⟩
  | 17 => ⟨S4x384x640, .i32⟩
  | 18 => ⟨S4x384x640, .i1⟩
  | 19 => ⟨S_, .i32⟩
  | 20 => ⟨S4x384x640, .i32⟩
  | 21 => ⟨S4x384x640, .i1⟩
  | 22 => ⟨S4x384x640, .i1⟩
  | 23 => ⟨S_, .i32⟩
  | 24 => ⟨S4x384x640, .i32⟩
  | 25 => ⟨S4x384x640, .i1⟩
  | 26 => ⟨S4x384x640, .i1⟩
  | 27 => ⟨S_, .i32⟩
  | 28 => ⟨S4x384x640, .i32⟩
  | 29 => ⟨S4x384x640, .i1⟩
  | 30 => ⟨S4x384x640, .i1⟩
  | 31 => ⟨S_, .i32⟩
  | 32 => ⟨S4x384x640, .i32⟩
  | 33 => ⟨S4x384x640, .i1⟩
  | 34 => ⟨S4x384x640, .i1⟩
  | 35 => ⟨S_, .i32⟩
  | 36 => ⟨S4x384x640, .i32⟩
  | 37 => ⟨S4x384x640, .i1⟩
  | 38 => ⟨S4x384x640, .i1⟩
  | 39 => ⟨S_, .i32⟩
  | 40 => ⟨S4x384x640, .i32⟩
  | 41 => ⟨S4x384x640, .i32⟩
  | 42 => ⟨S4x245760, .i32⟩
  | 43 => ⟨S_, .f32⟩
  | 44 => ⟨S_, .f32⟩
  | 45 => ⟨S4x384x640, .f32⟩
  | 46 => ⟨S4x384x640, .f32⟩
  | 47 => ⟨S4x245760, .f32⟩
  | 48 => ⟨S_, .i32⟩
  | 49 => ⟨S4x384x640, .i32⟩
  | 50 => ⟨S4x384x640, .i32⟩
  | 51 => ⟨S_, .i32⟩
  | 52 => ⟨S4x384x640, .i32⟩
  | 53 => ⟨S4x384x640, .i32⟩
  | 54 => ⟨S_, .f32⟩
  | 55 => ⟨S4x384x640, .f32⟩
  | 56 => ⟨S4x384x640, .f32⟩
  | 57 => ⟨S4x384x640, .f32⟩
  | 58 => ⟨S_, .i32⟩
  | 59 => ⟨S4x384x640, .i32⟩
  | 60 => ⟨S4x384x640, .i32⟩
  | 61 => ⟨S4x384x640, .i32⟩
  | 62 => ⟨S_, .i32⟩
  | 63 => ⟨S4x384x640, .i32⟩
  | 64 => ⟨S4x384x640, .i32⟩
  | 65 => ⟨S_, .i32⟩
  | 66 => ⟨S4x384x640, .i32⟩
  | 67 => ⟨S4x384x640, .i1⟩
  | 68 => ⟨S_, .i32⟩
  | 69 => ⟨S4x384x640, .i32⟩
  | 70 => ⟨S4x384x640, .i1⟩
  | 71 => ⟨S4x384x640, .i1⟩
  | 72 => ⟨S_, .i32⟩
  | 73 => ⟨S4x384x640, .i32⟩
  | 74 => ⟨S4x384x640, .i1⟩
  | 75 => ⟨S4x384x640, .i1⟩
  | 76 => ⟨S_, .i32⟩
  | 77 => ⟨S4x384x640, .i32⟩
  | 78 => ⟨S4x384x640, .i1⟩
  | 79 => ⟨S4x384x640, .i1⟩
  | 80 => ⟨S_, .i32⟩
  | 81 => ⟨S4x384x640, .i32⟩
  | 82 => ⟨S4x384x640, .i1⟩
  | 83 => ⟨S4x384x640, .i1⟩
  | 84 => ⟨S_, .i32⟩
  | 85 => ⟨S4x384x640, .i32⟩
  | 86 => ⟨S4x384x640, .i1⟩
  | 87 => ⟨S4x384x640, .i1⟩
  | 88 => ⟨S_, .i32⟩
  | 89 => ⟨S4x384x640, .i32⟩
  | 90 => ⟨S4x384x640, .i32⟩
  | 91 => ⟨S4x245760, .i32⟩
  | 92 => ⟨S_, .f32⟩
  | 93 => ⟨S_, .f32⟩
  | 94 => ⟨S4x384x640, .f32⟩
  | 95 => ⟨S4x384x640, .f32⟩
  | 96 => ⟨S4x245760, .f32⟩
  | 97 => ⟨S_, .i32⟩
  | 98 => ⟨S4x384x640, .i32⟩
  | 99 => ⟨S4x384x640, .i32⟩
  | 100 => ⟨S_, .i32⟩
  | 101 => ⟨S4x384x640, .i32⟩
  | 102 => ⟨S4x384x640, .i32⟩
  | 103 => ⟨S_, .f32⟩
  | 104 => ⟨S4x384x640, .f32⟩
  | 105 => ⟨S4x384x640, .f32⟩
  | 106 => ⟨S4x384x640, .f32⟩
  | 107 => ⟨S_, .i32⟩
  | 108 => ⟨S4x384x640, .i32⟩
  | 109 => ⟨S4x384x640, .i32⟩
  | 110 => ⟨S4x384x640, .i32⟩
  | 111 => ⟨S_, .i32⟩
  | 112 => ⟨S4x384x640, .i32⟩
  | 113 => ⟨S4x384x640, .i32⟩
  | 114 => ⟨S_, .i32⟩
  | 115 => ⟨S4x384x640, .i32⟩
  | 116 => ⟨S4x384x640, .i1⟩
  | 117 => ⟨S_, .i32⟩
  | 118 => ⟨S4x384x640, .i32⟩
  | 119 => ⟨S4x384x640, .i1⟩
  | 120 => ⟨S4x384x640, .i1⟩
  | 121 => ⟨S_, .i32⟩
  | 122 => ⟨S4x384x640, .i32⟩
  | 123 => ⟨S4x384x640, .i1⟩
  | 124 => ⟨S4x384x640, .i1⟩
  | 125 => ⟨S_, .i32⟩
  | 126 => ⟨S4x384x640, .i32⟩
  | 127 => ⟨S4x384x640, .i1⟩
  | _ => ⟨S2x48x384x640, .f32⟩

abbrev hbmTy0_3 (i : Nat) : BufTy := match i % 128 with
  | 0 => ⟨S4x384x640, .i1⟩
  | 1 => ⟨S_, .i32⟩
  | 2 => ⟨S4x384x640, .i32⟩
  | 3 => ⟨S4x384x640, .i1⟩
  | 4 => ⟨S4x384x640, .i1⟩
  | 5 => ⟨S_, .i32⟩
  | 6 => ⟨S4x384x640, .i32⟩
  | 7 => ⟨S4x384x640, .i1⟩
  | 8 => ⟨S4x384x640, .i1⟩
  | 9 => ⟨S_, .i32⟩
  | 10 => ⟨S4x384x640, .i32⟩
  | 11 => ⟨S4x384x640, .i32⟩
  | 12 => ⟨S4x245760, .i32⟩
  | 13 => ⟨S_, .f32⟩
  | 14 => ⟨S_, .f32⟩
  | 15 => ⟨S4x384x640, .f32⟩
  | 16 => ⟨S4x384x640, .f32⟩
  | 17 => ⟨S4x245760, .f32⟩
  | 18 => ⟨S_, .i32⟩
  | 19 => ⟨S4x384x640, .i32⟩
  | 20 => ⟨S4x384x640, .i32⟩
  | 21 => ⟨S_, .i32⟩
  | 22 => ⟨S4x384x640, .i32⟩
  | 23 => ⟨S4x384x640, .i32⟩
  | 24 => ⟨S4x384x640, .f32⟩
  | 25 => ⟨S_, .i32⟩
  | 26 => ⟨S4x384x640, .i32⟩
  | 27 => ⟨S4x384x640, .i32⟩
  | 28 => ⟨S4x384x640, .i32⟩
  | 29 => ⟨S_, .i32⟩
  | 30 => ⟨S4x384x640, .i32⟩
  | 31 => ⟨S4x384x640, .i32⟩
  | 32 => ⟨S_, .i32⟩
  | 33 => ⟨S4x384x640, .i32⟩
  | 34 => ⟨S4x384x640, .i1⟩
  | 35 => ⟨S_, .i32⟩
  | 36 => ⟨S4x384x640, .i32⟩
  | 37 => ⟨S4x384x640, .i1⟩
  | 38 => ⟨S4x384x640, .i1⟩
  | 39 => ⟨S_, .i32⟩
  | 40 => ⟨S4x384x640, .i32⟩
  | 41 => ⟨S4x384x640, .i1⟩
  | 42 => ⟨S4x384x640, .i1⟩
  | 43 => ⟨S_, .i32⟩
  | 44 => ⟨S4x384x640, .i32⟩
  | 45 => ⟨S4x384x640, .i1⟩
  | 46 => ⟨S4x384x640, .i1⟩
  | 47 => ⟨S_, .i32⟩
  | 48 => ⟨S4x384x640, .i32⟩
  | 49 => ⟨S4x384x640, .i1⟩
  | 50 => ⟨S4x384x640, .i1⟩
  | 51 => ⟨S_, .i32⟩
  | 52 => ⟨S4x384x640, .i32⟩
  | 53 => ⟨S4x384x640, .i1⟩
  | 54 => ⟨S4x384x640, .i1⟩
  | 55 => ⟨S_, .i32⟩
  | 56 => ⟨S4x384x640, .i32⟩
  | 57 => ⟨S4x384x640, .i32⟩
  | 58 => ⟨S4x245760, .i32⟩
  | 59 => ⟨S_, .f32⟩
  | 60 => ⟨S_, .f32⟩
  | 61 => ⟨S4x384x640, .f32⟩
  | 62 => ⟨S4x384x640, .f32⟩
  | 63 => ⟨S4x245760, .f32⟩
  | 64 => ⟨S4x245760x1, .i32⟩
  | 65 => ⟨S4x245760x1, .i32⟩
  | 66 => ⟨S4x245760x1, .i32⟩
  | 67 => ⟨S4x245760x1, .i32⟩
  | 68 => ⟨S4x245760x4, .i32⟩
  | 69 => ⟨S4x245760x1, .f32⟩
  | 70 => ⟨S4x245760x1, .f32⟩
  | 71 => ⟨S4x245760x1, .f32⟩
  | 72 => ⟨S4x245760x1, .f32⟩
  | 73 => ⟨S4x245760x4, .f32⟩
  | 74 => ⟨S_, .i32⟩
  | 75 => ⟨S4x384x640, .i32⟩
  | 76 => ⟨S4x384x640, .i32⟩
  | 77 => ⟨S_, .i32⟩
  | 78 => ⟨S4x384x640, .i32⟩
  | 79 => ⟨S4x384x640, .i32⟩
  | 80 => ⟨S_, .f32⟩
  | 81 => ⟨S4x384x640, .f32⟩
  | 82 => ⟨S4x384x640, .f32⟩
  | 83 => ⟨S_, .f32⟩
  | 84 => ⟨S4x384x640, .f32⟩
  | 85 => ⟨S4x384x640, .f32⟩
  | 86 => ⟨S4x384x640, .f32⟩
  | 87 => ⟨S_, .i32⟩
  | 88 => ⟨S4x384x640, .i32⟩
  | 89 => ⟨S4x384x640, .i32⟩
  | 90 => ⟨S4x384x640, .i32⟩
  | 91 => ⟨S_, .i32⟩
  | 92 => ⟨S4x384x640, .i32⟩
  | 93 => ⟨S4x384x640, .i32⟩
  | 94 => ⟨S_, .i32⟩
  | 95 => ⟨S4x384x640, .i32⟩
  | 96 => ⟨S4x384x640, .i1⟩
  | 97 => ⟨S_, .i32⟩
  | 98 => ⟨S4x384x640, .i32⟩
  | 99 => ⟨S4x384x640, .i1⟩
  | 100 => ⟨S4x384x640, .i1⟩
  | 101 => ⟨S_, .i32⟩
  | 102 => ⟨S4x384x640, .i32⟩
  | 103 => ⟨S4x384x640, .i1⟩
  | 104 => ⟨S4x384x640, .i1⟩
  | 105 => ⟨S_, .i32⟩
  | 106 => ⟨S4x384x640, .i32⟩
  | 107 => ⟨S4x384x640, .i1⟩
  | 108 => ⟨S4x384x640, .i1⟩
  | 109 => ⟨S_, .i32⟩
  | 110 => ⟨S4x384x640, .i32⟩
  | 111 => ⟨S4x384x640, .i1⟩
  | 112 => ⟨S4x384x640, .i1⟩
  | 113 => ⟨S_, .i32⟩
  | 114 => ⟨S4x384x640, .i32⟩
  | 115 => ⟨S4x384x640, .i1⟩
  | 116 => ⟨S4x384x640, .i1⟩
  | 117 => ⟨S_, .i32⟩
  | 118 => ⟨S4x384x640, .i32⟩
  | 119 => ⟨S4x384x640, .i32⟩
  | 120 => ⟨S4x245760, .i32⟩
  | 121 => ⟨S_, .f32⟩
  | 122 => ⟨S_, .f32⟩
  | 123 => ⟨S4x384x640, .f32⟩
  | 124 => ⟨S4x384x640, .f32⟩
  | 125 => ⟨S4x245760, .f32⟩
  | 126 => ⟨S_, .i32⟩
  | 127 => ⟨S4x384x640, .i32⟩
  | _ => ⟨S2x48x384x640, .f32⟩

abbrev hbmTy0_4 (i : Nat) : BufTy := match i % 128 with
  | 0 => ⟨S4x384x640, .i32⟩
  | 1 => ⟨S_, .i32⟩
  | 2 => ⟨S4x384x640, .i32⟩
  | 3 => ⟨S4x384x640, .i32⟩
  | 4 => ⟨S_, .f32⟩
  | 5 => ⟨S4x384x640, .f32⟩
  | 6 => ⟨S4x384x640, .f32⟩
  | 7 => ⟨S4x384x640, .f32⟩
  | 8 => ⟨S_, .i32⟩
  | 9 => ⟨S4x384x640, .i32⟩
  | 10 => ⟨S4x384x640, .i32⟩
  | 11 => ⟨S4x384x640, .i32⟩
  | 12 => ⟨S_, .i32⟩
  | 13 => ⟨S4x384x640, .i32⟩
  | 14 => ⟨S4x384x640, .i32⟩
  | 15 => ⟨S_, .i32⟩
  | 16 => ⟨S4x384x640, .i32⟩
  | 17 => ⟨S4x384x640, .i1⟩
  | 18 => ⟨S_, .i32⟩
  | 19 => ⟨S4x384x640, .i32⟩
  | 20 => ⟨S4x384x640, .i1⟩
  | 21 => ⟨S4x384x640, .i1⟩
  | 22 => ⟨S_, .i32⟩
  | 23 => ⟨S4x384x640, .i32⟩
  | 24 => ⟨S4x384x640, .i1⟩
  | 25 => ⟨S4x384x640, .i1⟩
  | 26 => ⟨S_, .i32⟩
  | 27 => ⟨S4x384x640, .i32⟩
  | 28 => ⟨S4x384x640, .i1⟩
  | 29 => ⟨S4x384x640, .i1⟩
  | 30 => ⟨S_, .i32⟩
  | 31 => ⟨S4x384x640, .i32⟩
  | 32 => ⟨S4x384x640, .i1⟩
  | 33 => ⟨S4x384x640, .i1⟩
  | 34 => ⟨S_, .i32⟩
  | 35 => ⟨S4x384x640, .i32⟩
  | 36 => ⟨S4x384x640, .i1⟩
  | 37 => ⟨S4x384x640, .i1⟩
  | 38 => ⟨S_, .i32⟩
  | 39 => ⟨S4x384x640, .i32⟩
  | 40 => ⟨S4x384x640, .i32⟩
  | 41 => ⟨S4x245760, .i32⟩
  | 42 => ⟨S_, .f32⟩
  | 43 => ⟨S_, .f32⟩
  | 44 => ⟨S4x384x640, .f32⟩
  | 45 => ⟨S4x384x640, .f32⟩
  | 46 => ⟨S4x245760, .f32⟩
  | 47 => ⟨S_, .i32⟩
  | 48 => ⟨S4x384x640, .i32⟩
  | 49 => ⟨S4x384x640, .i32⟩
  | 50 => ⟨S_, .i32⟩
  | 51 => ⟨S4x384x640, .i32⟩
  | 52 => ⟨S4x384x640, .i32⟩
  | 53 => ⟨S_, .f32⟩
  | 54 => ⟨S4x384x640, .f32⟩
  | 55 => ⟨S4x384x640, .f32⟩
  | 56 => ⟨S4x384x640, .f32⟩
  | 57 => ⟨S_, .i32⟩
  | 58 => ⟨S4x384x640, .i32⟩
  | 59 => ⟨S4x384x640, .i32⟩
  | 60 => ⟨S4x384x640, .i32⟩
  | 61 => ⟨S_, .i32⟩
  | 62 => ⟨S4x384x640, .i32⟩
  | 63 => ⟨S4x384x640, .i32⟩
  | 64 => ⟨S_, .i32⟩
  | 65 => ⟨S4x384x640, .i32⟩
  | 66 => ⟨S4x384x640, .i1⟩
  | 67 => ⟨S_, .i32⟩
  | 68 => ⟨S4x384x640, .i32⟩
  | 69 => ⟨S4x384x640, .i1⟩
  | 70 => ⟨S4x384x640, .i1⟩
  | 71 => ⟨S_, .i32⟩
  | 72 => ⟨S4x384x640, .i32⟩
  | 73 => ⟨S4x384x640, .i1⟩
  | 74 => ⟨S4x384x640, .i1⟩
  | 75 => ⟨S_, .i32⟩
  | 76 => ⟨S4x384x640, .i32⟩
  | 77 => ⟨S4x384x640, .i1⟩
  | 78 => ⟨S4x384x640, .i1⟩
  | 79 => ⟨S_, .i32⟩
  | 80 => ⟨S4x384x640, .i32⟩
  | 81 => ⟨S4x384x640, .i1⟩
  | 82 => ⟨S4x384x640, .i1⟩
  | 83 => ⟨S_, .i32⟩
  | 84 => ⟨S4x384x640, .i32⟩
  | 85 => ⟨S4x384x640, .i1⟩
  | 86 => ⟨S4x384x640, .i1⟩
  | 87 => ⟨S_, .i32⟩
  | 88 => ⟨S4x384x640, .i32⟩
  | 89 => ⟨S4x384x640, .i32⟩
  | 90 => ⟨S4x245760, .i32⟩
  | 91 => ⟨S_, .f32⟩
  | 92 => ⟨S_, .f32⟩
  | 93 => ⟨S4x384x640, .f32⟩
  | 94 => ⟨S4x384x640, .f32⟩
  | 95 => ⟨S4x245760, .f32⟩
  | 96 => ⟨S_, .i32⟩
  | 97 => ⟨S4x384x640, .i32⟩
  | 98 => ⟨S4x384x640, .i32⟩
  | 99 => ⟨S_, .i32⟩
  | 100 => ⟨S4x384x640, .i32⟩
  | 101 => ⟨S4x384x640, .i32⟩
  | 102 => ⟨S4x384x640, .f32⟩
  | 103 => ⟨S_, .i32⟩
  | 104 => ⟨S4x384x640, .i32⟩
  | 105 => ⟨S4x384x640, .i32⟩
  | 106 => ⟨S4x384x640, .i32⟩
  | 107 => ⟨S_, .i32⟩
  | 108 => ⟨S4x384x640, .i32⟩
  | 109 => ⟨S4x384x640, .i32⟩
  | 110 => ⟨S_, .i32⟩
  | 111 => ⟨S4x384x640, .i32⟩
  | 112 => ⟨S4x384x640, .i1⟩
  | 113 => ⟨S_, .i32⟩
  | 114 => ⟨S4x384x640, .i32⟩
  | 115 => ⟨S4x384x640, .i1⟩
  | 116 => ⟨S4x384x640, .i1⟩
  | 117 => ⟨S_, .i32⟩
  | 118 => ⟨S4x384x640, .i32⟩
  | 119 => ⟨S4x384x640, .i1⟩
  | 120 => ⟨S4x384x640, .i1⟩
  | 121 => ⟨S_, .i32⟩
  | 122 => ⟨S4x384x640, .i32⟩
  | 123 => ⟨S4x384x640, .i1⟩
  | 124 => ⟨S4x384x640, .i1⟩
  | 125 => ⟨S_, .i32⟩
  | 126 => ⟨S4x384x640, .i32⟩
  | 127 => ⟨S4x384x640, .i1⟩
  | _ => ⟨S2x48x384x640, .f32⟩

abbrev hbmTy0_5 (i : Nat) : BufTy := match i % 128 with
  | 0 => ⟨S4x384x640, .i1⟩
  | 1 => ⟨S_, .i32⟩
  | 2 => ⟨S4x384x640, .i32⟩
  | 3 => ⟨S4x384x640, .i1⟩
  | 4 => ⟨S4x384x640, .i1⟩
  | 5 => ⟨S_, .i32⟩
  | 6 => ⟨S4x384x640, .i32⟩
  | 7 => ⟨S4x384x640, .i32⟩
  | 8 => ⟨S4x245760, .i32⟩
  | 9 => ⟨S_, .f32⟩
  | 10 => ⟨S_, .f32⟩
  | 11 => ⟨S4x384x640, .f32⟩
  | 12 => ⟨S4x384x640, .f32⟩
  | 13 => ⟨S4x245760, .f32⟩
  | 14 => ⟨S4x245760x1, .i32⟩
  | 15 => ⟨S4x245760x1, .i32⟩
  | 16 => ⟨S4x245760x1, .i32⟩
  | 17 => ⟨S4x245760x1, .i32⟩
  | 18 => ⟨S4x245760x4, .i32⟩
  | 19 => ⟨S4x245760x1, .f32⟩
  | 20 => ⟨S4x245760x1, .f32⟩
  | 21 => ⟨S4x245760x1, .f32⟩
  | 22 => ⟨S4x245760x1, .f32⟩
  | 23 => ⟨S4x245760x4, .f32⟩
  | 24 => ⟨S4x1x245760x4, .i32⟩
  | 25 => ⟨S4x1x245760x4, .i32⟩
  | 26 => ⟨S4x1x245760x4, .i32⟩
  | 27 => ⟨S4x3x245760x4, .i32⟩
  | 28 => ⟨S12x245760x4, .i32⟩
  | 29 => ⟨S4x1x245760x4, .f32⟩
  | 30 => ⟨S4x1x245760x4, .f32⟩
  | 31 => ⟨S4x1x245760x4, .f32⟩
  | 32 => ⟨S4x3x245760x4, .f32⟩
  | 33 => ⟨S12x245760x4, .f32⟩
  | 34 => ⟨S12x240x1x4096, .i32⟩
  | 35 => ⟨S12x240x1x4096, .f32⟩
  | 36 => ⟨S12x82432x1x128, .f32⟩
  | 37 => ⟨S12x81920x1x50, .f32⟩
  | 38 => ⟨S12x81920x50, .f32⟩
  | 39 => ⟨S4x245760x50, .f32⟩
  | 40 => ⟨S4x245760x49, .f32⟩
  | 41 => ⟨S4x384x640x49, .f32⟩
  | 42 => ⟨S4x49x384x640, .f32⟩
  | 43 => ⟨S2x49x384x640, .f32⟩
  | 44 => ⟨S2x49x384x640, .f32⟩
  | 45 => ⟨S4x245760x1, .f32⟩
  | 46 => ⟨S4x384x640x1, .f32⟩
  | 47 => ⟨S4x1x384x640, .f32⟩
  | 48 => ⟨S2x1x384x640, .f32⟩
  | 49 => ⟨S2x1x384x640, .f32⟩
  | _ => ⟨S2x48x384x640, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S2x48x384x640, .f32⟩

abbrev bufTy : (tb : Table) → Fin (tcTables nBuf tb) → BufTy
  | .hbm, ⟨i, _⟩ => hbmTy i
  | .local _ .vmem, ⟨0, _⟩ => ⟨S1x1024x1x49, .f32⟩
  | .local _ .vmem, ⟨1, _⟩ => ⟨S1x1024x1x49, .f32⟩
  | .local _ .vmem, ⟨2, _⟩ => ⟨S1x82432x1x128, .f32⟩
  | .local _ .vmem, ⟨3, _⟩ => ⟨S1024x1x128, .f32⟩
  | .local _ .smem, ⟨0, _⟩ => ⟨S1x1x1x4096, .i32⟩
  | .local _ .smem, ⟨1, _⟩ => ⟨S1x1x1x4096, .i32⟩
  | .local _ .smem, ⟨2, _⟩ => ⟨S1x1x1x4096, .f32⟩
  | .local _ .smem, ⟨3, _⟩ => ⟨S1x1x1x4096, .f32⟩
  | _, _ => ⟨S2x48x384x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v18 : Ref sig .tc := ⟨.hbm, 31, rfl⟩
abbrev main_cst_1 : Ref sig .tc := ⟨.hbm, 32, rfl⟩
abbrev main_cst_2 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c : Ref sig .tc := ⟨.hbm, 46, rfl⟩
abbrev main_v26 : Ref sig .tc := ⟨.hbm, 47, rfl⟩
abbrev main_v27 : Ref sig .tc := ⟨.hbm, 48, rfl⟩
abbrev main_c_3 : Ref sig .tc := ⟨.hbm, 49, rfl⟩
abbrev main_v28 : Ref sig .tc := ⟨.hbm, 50, rfl⟩
abbrev main_v29 : Ref sig .tc := ⟨.hbm, 51, rfl⟩
abbrev main_cst_4 : Ref sig .tc := ⟨.hbm, 52, rfl⟩
abbrev main_v30 : Ref sig .tc := ⟨.hbm, 53, rfl⟩
abbrev main_v31 : Ref sig .tc := ⟨.hbm, 54, rfl⟩
abbrev main_cst_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_6 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_7 : Ref sig .tc := ⟨.hbm, 63, rfl⟩
abbrev main_v38 : Ref sig .tc := ⟨.hbm, 64, rfl⟩
abbrev main_v39 : Ref sig .tc := ⟨.hbm, 65, rfl⟩
abbrev main_c_8 : Ref sig .tc := ⟨.hbm, 66, rfl⟩
abbrev main_v40 : Ref sig .tc := ⟨.hbm, 67, rfl⟩
abbrev main_v41 : Ref sig .tc := ⟨.hbm, 68, rfl⟩
abbrev main_c_9 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_c_10 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_c_11 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_c_12 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_c_13 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_c_14 : Ref sig .tc := ⟨.hbm, 89, rfl⟩
abbrev main_call2_v0 : Ref sig .tc := ⟨.hbm, 90, rfl⟩
abbrev main_v57 : Ref sig .tc := ⟨.hbm, 91, rfl⟩
abbrev main_v58 : Ref sig .tc := ⟨.hbm, 92, rfl⟩
abbrev main_cst_15 : Ref sig .tc := ⟨.hbm, 93, rfl⟩
abbrev main_call3_v0 : Ref sig .tc := ⟨.hbm, 94, rfl⟩
abbrev main_call3_v1 : Ref sig .tc := ⟨.hbm, 95, rfl⟩
abbrev main_v59 : Ref sig .tc := ⟨.hbm, 96, rfl⟩
abbrev main_v60 : Ref sig .tc := ⟨.hbm, 97, rfl⟩
abbrev main_c_16 : Ref sig .tc := ⟨.hbm, 98, rfl⟩
abbrev main_v61 : Ref sig .tc := ⟨.hbm, 99, rfl⟩
abbrev main_v62 : Ref sig .tc := ⟨.hbm, 100, rfl⟩
abbrev main_c_17 : Ref sig .tc := ⟨.hbm, 101, rfl⟩
abbrev main_v63 : Ref sig .tc := ⟨.hbm, 102, rfl⟩
abbrev main_v64 : Ref sig .tc := ⟨.hbm, 103, rfl⟩
abbrev main_cst_18 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_c_19 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_c_20 : Ref sig .tc := ⟨.hbm, 112, rfl⟩
abbrev main_v71 : Ref sig .tc := ⟨.hbm, 113, rfl⟩
abbrev main_v72 : Ref sig .tc := ⟨.hbm, 114, rfl⟩
abbrev main_c_21 : Ref sig .tc := ⟨.hbm, 115, rfl⟩
abbrev main_v73 : Ref sig .tc := ⟨.hbm, 116, rfl⟩
abbrev main_v74 : Ref sig .tc := ⟨.hbm, 117, rfl⟩
abbrev main_c_22 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_c_23 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_c_24 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_c_25 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_c_26 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_c_27 : Ref sig .tc := ⟨.hbm, 138, rfl⟩
abbrev main_call4_v0 : Ref sig .tc := ⟨.hbm, 139, rfl⟩
abbrev main_v90 : Ref sig .tc := ⟨.hbm, 140, rfl⟩
abbrev main_v91 : Ref sig .tc := ⟨.hbm, 141, rfl⟩
abbrev main_cst_28 : Ref sig .tc := ⟨.hbm, 142, rfl⟩
abbrev main_call5_v0 : Ref sig .tc := ⟨.hbm, 143, rfl⟩
abbrev main_call5_v1 : Ref sig .tc := ⟨.hbm, 144, rfl⟩
abbrev main_v92 : Ref sig .tc := ⟨.hbm, 145, rfl⟩
abbrev main_v93 : Ref sig .tc := ⟨.hbm, 146, rfl⟩
abbrev main_c_29 : Ref sig .tc := ⟨.hbm, 147, rfl⟩
abbrev main_v94 : Ref sig .tc := ⟨.hbm, 148, rfl⟩
abbrev main_v95 : Ref sig .tc := ⟨.hbm, 149, rfl⟩
abbrev main_c_30 : Ref sig .tc := ⟨.hbm, 150, rfl⟩
abbrev main_v96 : Ref sig .tc := ⟨.hbm, 151, rfl⟩
abbrev main_v97 : Ref sig .tc := ⟨.hbm, 152, rfl⟩
abbrev main_cst_31 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_c_32 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_c_33 : Ref sig .tc := ⟨.hbm, 161, rfl⟩
abbrev main_v104 : Ref sig .tc := ⟨.hbm, 162, rfl⟩
abbrev main_v105 : Ref sig .tc := ⟨.hbm, 163, rfl⟩
abbrev main_c_34 : Ref sig .tc := ⟨.hbm, 164, rfl⟩
abbrev main_v106 : Ref sig .tc := ⟨.hbm, 165, rfl⟩
abbrev main_v107 : Ref sig .tc := ⟨.hbm, 166, rfl⟩
abbrev main_c_35 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_c_36 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_c_37 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_c_38 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_c_39 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_c_40 : Ref sig .tc := ⟨.hbm, 187, rfl⟩
abbrev main_call6_v0 : Ref sig .tc := ⟨.hbm, 188, rfl⟩
abbrev main_v123 : Ref sig .tc := ⟨.hbm, 189, rfl⟩
abbrev main_v124 : Ref sig .tc := ⟨.hbm, 190, rfl⟩
abbrev main_cst_41 : Ref sig .tc := ⟨.hbm, 191, rfl⟩
abbrev main_call7_v0 : Ref sig .tc := ⟨.hbm, 192, rfl⟩
abbrev main_call7_v1 : Ref sig .tc := ⟨.hbm, 193, rfl⟩
abbrev main_v125 : Ref sig .tc := ⟨.hbm, 194, rfl⟩
abbrev main_v126 : Ref sig .tc := ⟨.hbm, 195, rfl⟩
abbrev main_c_42 : Ref sig .tc := ⟨.hbm, 196, rfl⟩
abbrev main_v127 : Ref sig .tc := ⟨.hbm, 197, rfl⟩
abbrev main_v128 : Ref sig .tc := ⟨.hbm, 198, rfl⟩
abbrev main_c_43 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_c_44 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_c_45 : Ref sig .tc := ⟨.hbm, 207, rfl⟩
abbrev main_v135 : Ref sig .tc := ⟨.hbm, 208, rfl⟩
abbrev main_v136 : Ref sig .tc := ⟨.hbm, 209, rfl⟩
abbrev main_c_46 : Ref sig .tc := ⟨.hbm, 210, rfl⟩
abbrev main_v137 : Ref sig .tc := ⟨.hbm, 211, rfl⟩
abbrev main_v138 : Ref sig .tc := ⟨.hbm, 212, rfl⟩
abbrev main_c_47 : Ref sig .tc := ⟨.hbm, 213, rfl⟩
abbrev main_v139 : Ref sig .tc := ⟨.hbm, 214, rfl⟩
abbrev main_v140 : Ref sig .tc := ⟨.hbm, 215, rfl⟩
abbrev main_v141 : Ref sig .tc := ⟨.hbm, 216, rfl⟩
abbrev main_c_48 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_c_49 : Ref sig .tc := ⟨.hbm, 221, rfl⟩
abbrev main_v145 : Ref sig .tc := ⟨.hbm, 222, rfl⟩
abbrev main_v146 : Ref sig .tc := ⟨.hbm, 223, rfl⟩
abbrev main_v147 : Ref sig .tc := ⟨.hbm, 224, rfl⟩
abbrev main_c_50 : Ref sig .tc := ⟨.hbm, 225, rfl⟩
abbrev main_v148 : Ref sig .tc := ⟨.hbm, 226, rfl⟩
abbrev main_v149 : Ref sig .tc := ⟨.hbm, 227, rfl⟩
abbrev main_v150 : Ref sig .tc := ⟨.hbm, 228, rfl⟩
abbrev main_c_51 : Ref sig .tc := ⟨.hbm, 229, rfl⟩
abbrev main_v151 : Ref sig .tc := ⟨.hbm, 230, rfl⟩
abbrev main_v152 : Ref sig .tc := ⟨.hbm, 231, rfl⟩
abbrev main_v153 : Ref sig .tc := ⟨.hbm, 232, rfl⟩
abbrev main_c_52 : Ref sig .tc := ⟨.hbm, 233, rfl⟩
abbrev main_call8_v0 : Ref sig .tc := ⟨.hbm, 234, rfl⟩
abbrev main_v154 : Ref sig .tc := ⟨.hbm, 235, rfl⟩
abbrev main_v155 : Ref sig .tc := ⟨.hbm, 236, rfl⟩
abbrev main_cst_53 : Ref sig .tc := ⟨.hbm, 237, rfl⟩
abbrev main_call9_v0 : Ref sig .tc := ⟨.hbm, 238, rfl⟩
abbrev main_call9_v1 : Ref sig .tc := ⟨.hbm, 239, rfl⟩
abbrev main_v156 : Ref sig .tc := ⟨.hbm, 240, rfl⟩
abbrev main_v157 : Ref sig .tc := ⟨.hbm, 241, rfl⟩
abbrev main_v158 : Ref sig .tc := ⟨.hbm, 242, rfl⟩
abbrev main_v159 : Ref sig .tc := ⟨.hbm, 243, rfl⟩
abbrev main_v160 : Ref sig .tc := ⟨.hbm, 244, rfl⟩
abbrev main_v161 : Ref sig .tc := ⟨.hbm, 245, rfl⟩
abbrev main_v162 : Ref sig .tc := ⟨.hbm, 246, rfl⟩
abbrev main_v163 : Ref sig .tc := ⟨.hbm, 247, rfl⟩
abbrev main_v164 : Ref sig .tc := ⟨.hbm, 248, rfl⟩
abbrev main_v165 : Ref sig .tc := ⟨.hbm, 249, rfl⟩
abbrev main_v166 : Ref sig .tc := ⟨.hbm, 250, rfl⟩
abbrev main_v167 : Ref sig .tc := ⟨.hbm, 251, rfl⟩
abbrev main_c_54 : Ref sig .tc := ⟨.hbm, 252, rfl⟩
abbrev main_v168 : Ref sig .tc := ⟨.hbm, 253, rfl⟩
abbrev main_v169 : Ref sig .tc := ⟨.hbm, 254, rfl⟩
abbrev main_c_55 : Ref sig .tc := ⟨.hbm, 255, rfl⟩
abbrev main_v170 : Ref sig .tc := ⟨.hbm, 256, rfl⟩
abbrev main_v171 : Ref sig .tc := ⟨.hbm, 257, rfl⟩
abbrev main_cst_56 : Ref sig .tc := ⟨.hbm, 258, rfl⟩
abbrev main_v172 : Ref sig .tc := ⟨.hbm, 259, rfl⟩
abbrev main_v173 : Ref sig .tc := ⟨.hbm, 260, rfl⟩
abbrev main_cst_57 : Ref sig .tc := ⟨.hbm, 261, rfl⟩
abbrev main_v174 : Ref sig .tc := ⟨.hbm, 262, rfl⟩
abbrev main_v175 : Ref sig .tc := ⟨.hbm, 263, rfl⟩
abbrev main_v176 : Ref sig .tc := ⟨.hbm, 264, rfl⟩
abbrev main_c_58 : Ref sig .tc := ⟨.hbm, 265, rfl⟩
abbrev main_v177 : Ref sig .tc := ⟨.hbm, 266, rfl⟩
abbrev main_v178 : Ref sig .tc := ⟨.hbm, 267, rfl⟩
abbrev main_v179 : Ref sig .tc := ⟨.hbm, 268, rfl⟩
abbrev main_c_59 : Ref sig .tc := ⟨.hbm, 269, rfl⟩
abbrev main_v180 : Ref sig .tc := ⟨.hbm, 270, rfl⟩
abbrev main_v181 : Ref sig .tc := ⟨.hbm, 271, rfl⟩
abbrev main_c_60 : Ref sig .tc := ⟨.hbm, 272, rfl⟩
abbrev main_v182 : Ref sig .tc := ⟨.hbm, 273, rfl⟩
abbrev main_v183 : Ref sig .tc := ⟨.hbm, 274, rfl⟩
abbrev main_c_61 : Ref sig .tc := ⟨.hbm, 275, rfl⟩
abbrev main_v184 : Ref sig .tc := ⟨.hbm, 276, rfl⟩
abbrev main_v185 : Ref sig .tc := ⟨.hbm, 277, rfl⟩
abbrev main_v186 : Ref sig .tc := ⟨.hbm, 278, rfl⟩
abbrev main_c_62 : Ref sig .tc := ⟨.hbm, 279, rfl⟩
abbrev main_v187 : Ref sig .tc := ⟨.hbm, 280, rfl⟩
abbrev main_v188 : Ref sig .tc := ⟨.hbm, 281, rfl⟩
abbrev main_v189 : Ref sig .tc := ⟨.hbm, 282, rfl⟩
abbrev main_c_63 : Ref sig .tc := ⟨.hbm, 283, rfl⟩
abbrev main_v190 : Ref sig .tc := ⟨.hbm, 284, rfl⟩
abbrev main_v191 : Ref sig .tc := ⟨.hbm, 285, rfl⟩
abbrev main_v192 : Ref sig .tc := ⟨.hbm, 286, rfl⟩
abbrev main_c_64 : Ref sig .tc := ⟨.hbm, 287, rfl⟩
abbrev main_v193 : Ref sig .tc := ⟨.hbm, 288, rfl⟩
abbrev main_v194 : Ref sig .tc := ⟨.hbm, 289, rfl⟩
abbrev main_v195 : Ref sig .tc := ⟨.hbm, 290, rfl⟩
abbrev main_c_65 : Ref sig .tc := ⟨.hbm, 291, rfl⟩
abbrev main_v196 : Ref sig .tc := ⟨.hbm, 292, rfl⟩
abbrev main_v197 : Ref sig .tc := ⟨.hbm, 293, rfl⟩
abbrev main_v198 : Ref sig .tc := ⟨.hbm, 294, rfl⟩
abbrev main_c_66 : Ref sig .tc := ⟨.hbm, 295, rfl⟩
abbrev main_call10_v0 : Ref sig .tc := ⟨.hbm, 296, rfl⟩
abbrev main_v199 : Ref sig .tc := ⟨.hbm, 297, rfl⟩
abbrev main_v200 : Ref sig .tc := ⟨.hbm, 298, rfl⟩
abbrev main_cst_67 : Ref sig .tc := ⟨.hbm, 299, rfl⟩
abbrev main_call11_v0 : Ref sig .tc := ⟨.hbm, 300, rfl⟩
abbrev main_call11_v1 : Ref sig .tc := ⟨.hbm, 301, rfl⟩
abbrev main_v201 : Ref sig .tc := ⟨.hbm, 302, rfl⟩
abbrev main_v202 : Ref sig .tc := ⟨.hbm, 303, rfl⟩
abbrev main_c_68 : Ref sig .tc := ⟨.hbm, 304, rfl⟩
abbrev main_v203 : Ref sig .tc := ⟨.hbm, 305, rfl⟩
abbrev main_v204 : Ref sig .tc := ⟨.hbm, 306, rfl⟩
abbrev main_c_69 : Ref sig .tc := ⟨.hbm, 307, rfl⟩
abbrev main_v205 : Ref sig .tc := ⟨.hbm, 308, rfl⟩
abbrev main_v206 : Ref sig .tc := ⟨.hbm, 309, rfl⟩
abbrev main_cst_70 : Ref sig .tc := ⟨.hbm, 310, rfl⟩
abbrev main_v207 : Ref sig .tc := ⟨.hbm, 311, rfl⟩
abbrev main_v208 : Ref sig .tc := ⟨.hbm, 312, rfl⟩
abbrev main_v209 : Ref sig .tc := ⟨.hbm, 313, rfl⟩
abbrev main_c_71 : Ref sig .tc := ⟨.hbm, 314, rfl⟩
abbrev main_v210 : Ref sig .tc := ⟨.hbm, 315, rfl⟩
abbrev main_v211 : Ref sig .tc := ⟨.hbm, 316, rfl⟩
abbrev main_v212 : Ref sig .tc := ⟨.hbm, 317, rfl⟩
abbrev main_c_72 : Ref sig .tc := ⟨.hbm, 318, rfl⟩
abbrev main_v213 : Ref sig .tc := ⟨.hbm, 319, rfl⟩
abbrev main_v214 : Ref sig .tc := ⟨.hbm, 320, rfl⟩
abbrev main_c_73 : Ref sig .tc := ⟨.hbm, 321, rfl⟩
abbrev main_v215 : Ref sig .tc := ⟨.hbm, 322, rfl⟩
abbrev main_v216 : Ref sig .tc := ⟨.hbm, 323, rfl⟩
abbrev main_c_74 : Ref sig .tc := ⟨.hbm, 324, rfl⟩
abbrev main_v217 : Ref sig .tc := ⟨.hbm, 325, rfl⟩
abbrev main_v218 : Ref sig .tc := ⟨.hbm, 326, rfl⟩
abbrev main_v219 : Ref sig .tc := ⟨.hbm, 327, rfl⟩
abbrev main_c_75 : Ref sig .tc := ⟨.hbm, 328, rfl⟩
abbrev main_v220 : Ref sig .tc := ⟨.hbm, 329, rfl⟩
abbrev main_v221 : Ref sig .tc := ⟨.hbm, 330, rfl⟩
abbrev main_v222 : Ref sig .tc := ⟨.hbm, 331, rfl⟩
abbrev main_c_76 : Ref sig .tc := ⟨.hbm, 332, rfl⟩
abbrev main_v223 : Ref sig .tc := ⟨.hbm, 333, rfl⟩
abbrev main_v224 : Ref sig .tc := ⟨.hbm, 334, rfl⟩
abbrev main_v225 : Ref sig .tc := ⟨.hbm, 335, rfl⟩
abbrev main_c_77 : Ref sig .tc := ⟨.hbm, 336, rfl⟩
abbrev main_v226 : Ref sig .tc := ⟨.hbm, 337, rfl⟩
abbrev main_v227 : Ref sig .tc := ⟨.hbm, 338, rfl⟩
abbrev main_v228 : Ref sig .tc := ⟨.hbm, 339, rfl⟩
abbrev main_c_78 : Ref sig .tc := ⟨.hbm, 340, rfl⟩
abbrev main_v229 : Ref sig .tc := ⟨.hbm, 341, rfl⟩
abbrev main_v230 : Ref sig .tc := ⟨.hbm, 342, rfl⟩
abbrev main_v231 : Ref sig .tc := ⟨.hbm, 343, rfl⟩
abbrev main_c_79 : Ref sig .tc := ⟨.hbm, 344, rfl⟩
abbrev main_call12_v0 : Ref sig .tc := ⟨.hbm, 345, rfl⟩
abbrev main_v232 : Ref sig .tc := ⟨.hbm, 346, rfl⟩
abbrev main_v233 : Ref sig .tc := ⟨.hbm, 347, rfl⟩
abbrev main_cst_80 : Ref sig .tc := ⟨.hbm, 348, rfl⟩
abbrev main_call13_v0 : Ref sig .tc := ⟨.hbm, 349, rfl⟩
abbrev main_call13_v1 : Ref sig .tc := ⟨.hbm, 350, rfl⟩
abbrev main_v234 : Ref sig .tc := ⟨.hbm, 351, rfl⟩
abbrev main_v235 : Ref sig .tc := ⟨.hbm, 352, rfl⟩
abbrev main_c_81 : Ref sig .tc := ⟨.hbm, 353, rfl⟩
abbrev main_v236 : Ref sig .tc := ⟨.hbm, 354, rfl⟩
abbrev main_v237 : Ref sig .tc := ⟨.hbm, 355, rfl⟩
abbrev main_c_82 : Ref sig .tc := ⟨.hbm, 356, rfl⟩
abbrev main_v238 : Ref sig .tc := ⟨.hbm, 357, rfl⟩
abbrev main_v239 : Ref sig .tc := ⟨.hbm, 358, rfl⟩
abbrev main_cst_83 : Ref sig .tc := ⟨.hbm, 359, rfl⟩
abbrev main_v240 : Ref sig .tc := ⟨.hbm, 360, rfl⟩
abbrev main_v241 : Ref sig .tc := ⟨.hbm, 361, rfl⟩
abbrev main_v242 : Ref sig .tc := ⟨.hbm, 362, rfl⟩
abbrev main_c_84 : Ref sig .tc := ⟨.hbm, 363, rfl⟩
abbrev main_v243 : Ref sig .tc := ⟨.hbm, 364, rfl⟩
abbrev main_v244 : Ref sig .tc := ⟨.hbm, 365, rfl⟩
abbrev main_v245 : Ref sig .tc := ⟨.hbm, 366, rfl⟩
abbrev main_c_85 : Ref sig .tc := ⟨.hbm, 367, rfl⟩
abbrev main_v246 : Ref sig .tc := ⟨.hbm, 368, rfl⟩
abbrev main_v247 : Ref sig .tc := ⟨.hbm, 369, rfl⟩
abbrev main_c_86 : Ref sig .tc := ⟨.hbm, 370, rfl⟩
abbrev main_v248 : Ref sig .tc := ⟨.hbm, 371, rfl⟩
abbrev main_v249 : Ref sig .tc := ⟨.hbm, 372, rfl⟩
abbrev main_c_87 : Ref sig .tc := ⟨.hbm, 373, rfl⟩
abbrev main_v250 : Ref sig .tc := ⟨.hbm, 374, rfl⟩
abbrev main_v251 : Ref sig .tc := ⟨.hbm, 375, rfl⟩
abbrev main_v252 : Ref sig .tc := ⟨.hbm, 376, rfl⟩
abbrev main_c_88 : Ref sig .tc := ⟨.hbm, 377, rfl⟩
abbrev main_v253 : Ref sig .tc := ⟨.hbm, 378, rfl⟩
abbrev main_v254 : Ref sig .tc := ⟨.hbm, 379, rfl⟩
abbrev main_v255 : Ref sig .tc := ⟨.hbm, 380, rfl⟩
abbrev main_c_89 : Ref sig .tc := ⟨.hbm, 381, rfl⟩
abbrev main_v256 : Ref sig .tc := ⟨.hbm, 382, rfl⟩
abbrev main_v257 : Ref sig .tc := ⟨.hbm, 383, rfl⟩
abbrev main_v258 : Ref sig .tc := ⟨.hbm, 384, rfl⟩
abbrev main_c_90 : Ref sig .tc := ⟨.hbm, 385, rfl⟩
abbrev main_v259 : Ref sig .tc := ⟨.hbm, 386, rfl⟩
abbrev main_v260 : Ref sig .tc := ⟨.hbm, 387, rfl⟩
abbrev main_v261 : Ref sig .tc := ⟨.hbm, 388, rfl⟩
abbrev main_c_91 : Ref sig .tc := ⟨.hbm, 389, rfl⟩
abbrev main_v262 : Ref sig .tc := ⟨.hbm, 390, rfl⟩
abbrev main_v263 : Ref sig .tc := ⟨.hbm, 391, rfl⟩
abbrev main_v264 : Ref sig .tc := ⟨.hbm, 392, rfl⟩
abbrev main_c_92 : Ref sig .tc := ⟨.hbm, 393, rfl⟩
abbrev main_call14_v0 : Ref sig .tc := ⟨.hbm, 394, rfl⟩
abbrev main_v265 : Ref sig .tc := ⟨.hbm, 395, rfl⟩
abbrev main_v266 : Ref sig .tc := ⟨.hbm, 396, rfl⟩
abbrev main_cst_93 : Ref sig .tc := ⟨.hbm, 397, rfl⟩
abbrev main_call15_v0 : Ref sig .tc := ⟨.hbm, 398, rfl⟩
abbrev main_call15_v1 : Ref sig .tc := ⟨.hbm, 399, rfl⟩
abbrev main_v267 : Ref sig .tc := ⟨.hbm, 400, rfl⟩
abbrev main_v268 : Ref sig .tc := ⟨.hbm, 401, rfl⟩
abbrev main_c_94 : Ref sig .tc := ⟨.hbm, 402, rfl⟩
abbrev main_v269 : Ref sig .tc := ⟨.hbm, 403, rfl⟩
abbrev main_v270 : Ref sig .tc := ⟨.hbm, 404, rfl⟩
abbrev main_c_95 : Ref sig .tc := ⟨.hbm, 405, rfl⟩
abbrev main_v271 : Ref sig .tc := ⟨.hbm, 406, rfl⟩
abbrev main_v272 : Ref sig .tc := ⟨.hbm, 407, rfl⟩
abbrev main_v273 : Ref sig .tc := ⟨.hbm, 408, rfl⟩
abbrev main_c_96 : Ref sig .tc := ⟨.hbm, 409, rfl⟩
abbrev main_v274 : Ref sig .tc := ⟨.hbm, 410, rfl⟩
abbrev main_v275 : Ref sig .tc := ⟨.hbm, 411, rfl⟩
abbrev main_v276 : Ref sig .tc := ⟨.hbm, 412, rfl⟩
abbrev main_c_97 : Ref sig .tc := ⟨.hbm, 413, rfl⟩
abbrev main_v277 : Ref sig .tc := ⟨.hbm, 414, rfl⟩
abbrev main_v278 : Ref sig .tc := ⟨.hbm, 415, rfl⟩
abbrev main_c_98 : Ref sig .tc := ⟨.hbm, 416, rfl⟩
abbrev main_v279 : Ref sig .tc := ⟨.hbm, 417, rfl⟩
abbrev main_v280 : Ref sig .tc := ⟨.hbm, 418, rfl⟩
abbrev main_c_99 : Ref sig .tc := ⟨.hbm, 419, rfl⟩
abbrev main_v281 : Ref sig .tc := ⟨.hbm, 420, rfl⟩
abbrev main_v282 : Ref sig .tc := ⟨.hbm, 421, rfl⟩
abbrev main_v283 : Ref sig .tc := ⟨.hbm, 422, rfl⟩
abbrev main_c_100 : Ref sig .tc := ⟨.hbm, 423, rfl⟩
abbrev main_v284 : Ref sig .tc := ⟨.hbm, 424, rfl⟩
abbrev main_v285 : Ref sig .tc := ⟨.hbm, 425, rfl⟩
abbrev main_v286 : Ref sig .tc := ⟨.hbm, 426, rfl⟩
abbrev main_c_101 : Ref sig .tc := ⟨.hbm, 427, rfl⟩
abbrev main_v287 : Ref sig .tc := ⟨.hbm, 428, rfl⟩
abbrev main_v288 : Ref sig .tc := ⟨.hbm, 429, rfl⟩
abbrev main_v289 : Ref sig .tc := ⟨.hbm, 430, rfl⟩
abbrev main_c_102 : Ref sig .tc := ⟨.hbm, 431, rfl⟩
abbrev main_v290 : Ref sig .tc := ⟨.hbm, 432, rfl⟩
abbrev main_v291 : Ref sig .tc := ⟨.hbm, 433, rfl⟩
abbrev main_v292 : Ref sig .tc := ⟨.hbm, 434, rfl⟩
abbrev main_c_103 : Ref sig .tc := ⟨.hbm, 435, rfl⟩
abbrev main_v293 : Ref sig .tc := ⟨.hbm, 436, rfl⟩
abbrev main_v294 : Ref sig .tc := ⟨.hbm, 437, rfl⟩
abbrev main_v295 : Ref sig .tc := ⟨.hbm, 438, rfl⟩
abbrev main_c_104 : Ref sig .tc := ⟨.hbm, 439, rfl⟩
abbrev main_call16_v0 : Ref sig .tc := ⟨.hbm, 440, rfl⟩
abbrev main_v296 : Ref sig .tc := ⟨.hbm, 441, rfl⟩
abbrev main_v297 : Ref sig .tc := ⟨.hbm, 442, rfl⟩
abbrev main_cst_105 : Ref sig .tc := ⟨.hbm, 443, rfl⟩
abbrev main_call17_v0 : Ref sig .tc := ⟨.hbm, 444, rfl⟩
abbrev main_call17_v1 : Ref sig .tc := ⟨.hbm, 445, rfl⟩
abbrev main_v298 : Ref sig .tc := ⟨.hbm, 446, rfl⟩
abbrev main_v299 : Ref sig .tc := ⟨.hbm, 447, rfl⟩
abbrev main_v300 : Ref sig .tc := ⟨.hbm, 448, rfl⟩
abbrev main_v301 : Ref sig .tc := ⟨.hbm, 449, rfl⟩
abbrev main_v302 : Ref sig .tc := ⟨.hbm, 450, rfl⟩
abbrev main_v303 : Ref sig .tc := ⟨.hbm, 451, rfl⟩
abbrev main_v304 : Ref sig .tc := ⟨.hbm, 452, rfl⟩
abbrev main_v305 : Ref sig .tc := ⟨.hbm, 453, rfl⟩
abbrev main_v306 : Ref sig .tc := ⟨.hbm, 454, rfl⟩
abbrev main_v307 : Ref sig .tc := ⟨.hbm, 455, rfl⟩
abbrev main_v308 : Ref sig .tc := ⟨.hbm, 456, rfl⟩
abbrev main_v309 : Ref sig .tc := ⟨.hbm, 457, rfl⟩
abbrev main_c_106 : Ref sig .tc := ⟨.hbm, 458, rfl⟩
abbrev main_v310 : Ref sig .tc := ⟨.hbm, 459, rfl⟩
abbrev main_v311 : Ref sig .tc := ⟨.hbm, 460, rfl⟩
abbrev main_c_107 : Ref sig .tc := ⟨.hbm, 461, rfl⟩
abbrev main_v312 : Ref sig .tc := ⟨.hbm, 462, rfl⟩
abbrev main_v313 : Ref sig .tc := ⟨.hbm, 463, rfl⟩
abbrev main_cst_108 : Ref sig .tc := ⟨.hbm, 464, rfl⟩
abbrev main_v314 : Ref sig .tc := ⟨.hbm, 465, rfl⟩
abbrev main_v315 : Ref sig .tc := ⟨.hbm, 466, rfl⟩
abbrev main_cst_109 : Ref sig .tc := ⟨.hbm, 467, rfl⟩
abbrev main_v316 : Ref sig .tc := ⟨.hbm, 468, rfl⟩
abbrev main_v317 : Ref sig .tc := ⟨.hbm, 469, rfl⟩
abbrev main_v318 : Ref sig .tc := ⟨.hbm, 470, rfl⟩
abbrev main_c_110 : Ref sig .tc := ⟨.hbm, 471, rfl⟩
abbrev main_v319 : Ref sig .tc := ⟨.hbm, 472, rfl⟩
abbrev main_v320 : Ref sig .tc := ⟨.hbm, 473, rfl⟩
abbrev main_v321 : Ref sig .tc := ⟨.hbm, 474, rfl⟩
abbrev main_c_111 : Ref sig .tc := ⟨.hbm, 475, rfl⟩
abbrev main_v322 : Ref sig .tc := ⟨.hbm, 476, rfl⟩
abbrev main_v323 : Ref sig .tc := ⟨.hbm, 477, rfl⟩
abbrev main_c_112 : Ref sig .tc := ⟨.hbm, 478, rfl⟩
abbrev main_v324 : Ref sig .tc := ⟨.hbm, 479, rfl⟩
abbrev main_v325 : Ref sig .tc := ⟨.hbm, 480, rfl⟩
abbrev main_c_113 : Ref sig .tc := ⟨.hbm, 481, rfl⟩
abbrev main_v326 : Ref sig .tc := ⟨.hbm, 482, rfl⟩
abbrev main_v327 : Ref sig .tc := ⟨.hbm, 483, rfl⟩
abbrev main_v328 : Ref sig .tc := ⟨.hbm, 484, rfl⟩
abbrev main_c_114 : Ref sig .tc := ⟨.hbm, 485, rfl⟩
abbrev main_v329 : Ref sig .tc := ⟨.hbm, 486, rfl⟩
abbrev main_v330 : Ref sig .tc := ⟨.hbm, 487, rfl⟩
abbrev main_v331 : Ref sig .tc := ⟨.hbm, 488, rfl⟩
abbrev main_c_115 : Ref sig .tc := ⟨.hbm, 489, rfl⟩
abbrev main_v332 : Ref sig .tc := ⟨.hbm, 490, rfl⟩
abbrev main_v333 : Ref sig .tc := ⟨.hbm, 491, rfl⟩
abbrev main_v334 : Ref sig .tc := ⟨.hbm, 492, rfl⟩
abbrev main_c_116 : Ref sig .tc := ⟨.hbm, 493, rfl⟩
abbrev main_v335 : Ref sig .tc := ⟨.hbm, 494, rfl⟩
abbrev main_v336 : Ref sig .tc := ⟨.hbm, 495, rfl⟩
abbrev main_v337 : Ref sig .tc := ⟨.hbm, 496, rfl⟩
abbrev main_c_117 : Ref sig .tc := ⟨.hbm, 497, rfl⟩
abbrev main_v338 : Ref sig .tc := ⟨.hbm, 498, rfl⟩
abbrev main_v339 : Ref sig .tc := ⟨.hbm, 499, rfl⟩
abbrev main_v340 : Ref sig .tc := ⟨.hbm, 500, rfl⟩
abbrev main_c_118 : Ref sig .tc := ⟨.hbm, 501, rfl⟩
abbrev main_call18_v0 : Ref sig .tc := ⟨.hbm, 502, rfl⟩
abbrev main_v341 : Ref sig .tc := ⟨.hbm, 503, rfl⟩
abbrev main_v342 : Ref sig .tc := ⟨.hbm, 504, rfl⟩
abbrev main_cst_119 : Ref sig .tc := ⟨.hbm, 505, rfl⟩
abbrev main_call19_v0 : Ref sig .tc := ⟨.hbm, 506, rfl⟩
abbrev main_call19_v1 : Ref sig .tc := ⟨.hbm, 507, rfl⟩
abbrev main_v343 : Ref sig .tc := ⟨.hbm, 508, rfl⟩
abbrev main_v344 : Ref sig .tc := ⟨.hbm, 509, rfl⟩
abbrev main_c_120 : Ref sig .tc := ⟨.hbm, 510, rfl⟩
abbrev main_v345 : Ref sig .tc := ⟨.hbm, 511, rfl⟩
abbrev main_v346 : Ref sig .tc := ⟨.hbm, 512, rfl⟩
abbrev main_c_121 : Ref sig .tc := ⟨.hbm, 513, rfl⟩
abbrev main_v347 : Ref sig .tc := ⟨.hbm, 514, rfl⟩
abbrev main_v348 : Ref sig .tc := ⟨.hbm, 515, rfl⟩
abbrev main_cst_122 : Ref sig .tc := ⟨.hbm, 516, rfl⟩
abbrev main_v349 : Ref sig .tc := ⟨.hbm, 517, rfl⟩
abbrev main_v350 : Ref sig .tc := ⟨.hbm, 518, rfl⟩
abbrev main_v351 : Ref sig .tc := ⟨.hbm, 519, rfl⟩
abbrev main_c_123 : Ref sig .tc := ⟨.hbm, 520, rfl⟩
abbrev main_v352 : Ref sig .tc := ⟨.hbm, 521, rfl⟩
abbrev main_v353 : Ref sig .tc := ⟨.hbm, 522, rfl⟩
abbrev main_v354 : Ref sig .tc := ⟨.hbm, 523, rfl⟩
abbrev main_c_124 : Ref sig .tc := ⟨.hbm, 524, rfl⟩
abbrev main_v355 : Ref sig .tc := ⟨.hbm, 525, rfl⟩
abbrev main_v356 : Ref sig .tc := ⟨.hbm, 526, rfl⟩
abbrev main_c_125 : Ref sig .tc := ⟨.hbm, 527, rfl⟩
abbrev main_v357 : Ref sig .tc := ⟨.hbm, 528, rfl⟩
abbrev main_v358 : Ref sig .tc := ⟨.hbm, 529, rfl⟩
abbrev main_c_126 : Ref sig .tc := ⟨.hbm, 530, rfl⟩
abbrev main_v359 : Ref sig .tc := ⟨.hbm, 531, rfl⟩
abbrev main_v360 : Ref sig .tc := ⟨.hbm, 532, rfl⟩
abbrev main_v361 : Ref sig .tc := ⟨.hbm, 533, rfl⟩
abbrev main_c_127 : Ref sig .tc := ⟨.hbm, 534, rfl⟩
abbrev main_v362 : Ref sig .tc := ⟨.hbm, 535, rfl⟩
abbrev main_v363 : Ref sig .tc := ⟨.hbm, 536, rfl⟩
abbrev main_v364 : Ref sig .tc := ⟨.hbm, 537, rfl⟩
abbrev main_c_128 : Ref sig .tc := ⟨.hbm, 538, rfl⟩
abbrev main_v365 : Ref sig .tc := ⟨.hbm, 539, rfl⟩
abbrev main_v366 : Ref sig .tc := ⟨.hbm, 540, rfl⟩
abbrev main_v367 : Ref sig .tc := ⟨.hbm, 541, rfl⟩
abbrev main_c_129 : Ref sig .tc := ⟨.hbm, 542, rfl⟩
abbrev main_v368 : Ref sig .tc := ⟨.hbm, 543, rfl⟩
abbrev main_v369 : Ref sig .tc := ⟨.hbm, 544, rfl⟩
abbrev main_v370 : Ref sig .tc := ⟨.hbm, 545, rfl⟩
abbrev main_c_130 : Ref sig .tc := ⟨.hbm, 546, rfl⟩
abbrev main_v371 : Ref sig .tc := ⟨.hbm, 547, rfl⟩
abbrev main_v372 : Ref sig .tc := ⟨.hbm, 548, rfl⟩
abbrev main_v373 : Ref sig .tc := ⟨.hbm, 549, rfl⟩
abbrev main_c_131 : Ref sig .tc := ⟨.hbm, 550, rfl⟩
abbrev main_call20_v0 : Ref sig .tc := ⟨.hbm, 551, rfl⟩
abbrev main_v374 : Ref sig .tc := ⟨.hbm, 552, rfl⟩
abbrev main_v375 : Ref sig .tc := ⟨.hbm, 553, rfl⟩
abbrev main_cst_132 : Ref sig .tc := ⟨.hbm, 554, rfl⟩
abbrev main_call21_v0 : Ref sig .tc := ⟨.hbm, 555, rfl⟩
abbrev main_call21_v1 : Ref sig .tc := ⟨.hbm, 556, rfl⟩
abbrev main_v376 : Ref sig .tc := ⟨.hbm, 557, rfl⟩
abbrev main_v377 : Ref sig .tc := ⟨.hbm, 558, rfl⟩
abbrev main_c_133 : Ref sig .tc := ⟨.hbm, 559, rfl⟩
abbrev main_v378 : Ref sig .tc := ⟨.hbm, 560, rfl⟩
abbrev main_v379 : Ref sig .tc := ⟨.hbm, 561, rfl⟩
abbrev main_c_134 : Ref sig .tc := ⟨.hbm, 562, rfl⟩
abbrev main_v380 : Ref sig .tc := ⟨.hbm, 563, rfl⟩
abbrev main_v381 : Ref sig .tc := ⟨.hbm, 564, rfl⟩
abbrev main_cst_135 : Ref sig .tc := ⟨.hbm, 565, rfl⟩
abbrev main_v382 : Ref sig .tc := ⟨.hbm, 566, rfl⟩
abbrev main_v383 : Ref sig .tc := ⟨.hbm, 567, rfl⟩
abbrev main_v384 : Ref sig .tc := ⟨.hbm, 568, rfl⟩
abbrev main_c_136 : Ref sig .tc := ⟨.hbm, 569, rfl⟩
abbrev main_v385 : Ref sig .tc := ⟨.hbm, 570, rfl⟩
abbrev main_v386 : Ref sig .tc := ⟨.hbm, 571, rfl⟩
abbrev main_v387 : Ref sig .tc := ⟨.hbm, 572, rfl⟩
abbrev main_c_137 : Ref sig .tc := ⟨.hbm, 573, rfl⟩
abbrev main_v388 : Ref sig .tc := ⟨.hbm, 574, rfl⟩
abbrev main_v389 : Ref sig .tc := ⟨.hbm, 575, rfl⟩
abbrev main_c_138 : Ref sig .tc := ⟨.hbm, 576, rfl⟩
abbrev main_v390 : Ref sig .tc := ⟨.hbm, 577, rfl⟩
abbrev main_v391 : Ref sig .tc := ⟨.hbm, 578, rfl⟩
abbrev main_c_139 : Ref sig .tc := ⟨.hbm, 579, rfl⟩
abbrev main_v392 : Ref sig .tc := ⟨.hbm, 580, rfl⟩
abbrev main_v393 : Ref sig .tc := ⟨.hbm, 581, rfl⟩
abbrev main_v394 : Ref sig .tc := ⟨.hbm, 582, rfl⟩
abbrev main_c_140 : Ref sig .tc := ⟨.hbm, 583, rfl⟩
abbrev main_v395 : Ref sig .tc := ⟨.hbm, 584, rfl⟩
abbrev main_v396 : Ref sig .tc := ⟨.hbm, 585, rfl⟩
abbrev main_v397 : Ref sig .tc := ⟨.hbm, 586, rfl⟩
abbrev main_c_141 : Ref sig .tc := ⟨.hbm, 587, rfl⟩
abbrev main_v398 : Ref sig .tc := ⟨.hbm, 588, rfl⟩
abbrev main_v399 : Ref sig .tc := ⟨.hbm, 589, rfl⟩
abbrev main_v400 : Ref sig .tc := ⟨.hbm, 590, rfl⟩
abbrev main_c_142 : Ref sig .tc := ⟨.hbm, 591, rfl⟩
abbrev main_v401 : Ref sig .tc := ⟨.hbm, 592, rfl⟩
abbrev main_v402 : Ref sig .tc := ⟨.hbm, 593, rfl⟩
abbrev main_v403 : Ref sig .tc := ⟨.hbm, 594, rfl⟩
abbrev main_c_143 : Ref sig .tc := ⟨.hbm, 595, rfl⟩
abbrev main_v404 : Ref sig .tc := ⟨.hbm, 596, rfl⟩
abbrev main_v405 : Ref sig .tc := ⟨.hbm, 597, rfl⟩
abbrev main_v406 : Ref sig .tc := ⟨.hbm, 598, rfl⟩
abbrev main_c_144 : Ref sig .tc := ⟨.hbm, 599, rfl⟩
abbrev main_call22_v0 : Ref sig .tc := ⟨.hbm, 600, rfl⟩
abbrev main_v407 : Ref sig .tc := ⟨.hbm, 601, rfl⟩
abbrev main_v408 : Ref sig .tc := ⟨.hbm, 602, rfl⟩
abbrev main_cst_145 : Ref sig .tc := ⟨.hbm, 603, rfl⟩
abbrev main_call23_v0 : Ref sig .tc := ⟨.hbm, 604, rfl⟩
abbrev main_call23_v1 : Ref sig .tc := ⟨.hbm, 605, rfl⟩
abbrev main_v409 : Ref sig .tc := ⟨.hbm, 606, rfl⟩
abbrev main_v410 : Ref sig .tc := ⟨.hbm, 607, rfl⟩
abbrev main_c_146 : Ref sig .tc := ⟨.hbm, 608, rfl⟩
abbrev main_v411 : Ref sig .tc := ⟨.hbm, 609, rfl⟩
abbrev main_v412 : Ref sig .tc := ⟨.hbm, 610, rfl⟩
abbrev main_c_147 : Ref sig .tc := ⟨.hbm, 611, rfl⟩
abbrev main_v413 : Ref sig .tc := ⟨.hbm, 612, rfl⟩
abbrev main_v414 : Ref sig .tc := ⟨.hbm, 613, rfl⟩
abbrev main_v415 : Ref sig .tc := ⟨.hbm, 614, rfl⟩
abbrev main_c_148 : Ref sig .tc := ⟨.hbm, 615, rfl⟩
abbrev main_v416 : Ref sig .tc := ⟨.hbm, 616, rfl⟩
abbrev main_v417 : Ref sig .tc := ⟨.hbm, 617, rfl⟩
abbrev main_v418 : Ref sig .tc := ⟨.hbm, 618, rfl⟩
abbrev main_c_149 : Ref sig .tc := ⟨.hbm, 619, rfl⟩
abbrev main_v419 : Ref sig .tc := ⟨.hbm, 620, rfl⟩
abbrev main_v420 : Ref sig .tc := ⟨.hbm, 621, rfl⟩
abbrev main_c_150 : Ref sig .tc := ⟨.hbm, 622, rfl⟩
abbrev main_v421 : Ref sig .tc := ⟨.hbm, 623, rfl⟩
abbrev main_v422 : Ref sig .tc := ⟨.hbm, 624, rfl⟩
abbrev main_c_151 : Ref sig .tc := ⟨.hbm, 625, rfl⟩
abbrev main_v423 : Ref sig .tc := ⟨.hbm, 626, rfl⟩
abbrev main_v424 : Ref sig .tc := ⟨.hbm, 627, rfl⟩
abbrev main_v425 : Ref sig .tc := ⟨.hbm, 628, rfl⟩
abbrev main_c_152 : Ref sig .tc := ⟨.hbm, 629, rfl⟩
abbrev main_v426 : Ref sig .tc := ⟨.hbm, 630, rfl⟩
abbrev main_v427 : Ref sig .tc := ⟨.hbm, 631, rfl⟩
abbrev main_v428 : Ref sig .tc := ⟨.hbm, 632, rfl⟩
abbrev main_c_153 : Ref sig .tc := ⟨.hbm, 633, rfl⟩
abbrev main_v429 : Ref sig .tc := ⟨.hbm, 634, rfl⟩
abbrev main_v430 : Ref sig .tc := ⟨.hbm, 635, rfl⟩
abbrev main_v431 : Ref sig .tc := ⟨.hbm, 636, rfl⟩
abbrev main_c_154 : Ref sig .tc := ⟨.hbm, 637, rfl⟩
abbrev main_v432 : Ref sig .tc := ⟨.hbm, 638, rfl⟩
abbrev main_v433 : Ref sig .tc := ⟨.hbm, 639, rfl⟩
abbrev main_v434 : Ref sig .tc := ⟨.hbm, 640, rfl⟩
abbrev main_c_155 : Ref sig .tc := ⟨.hbm, 641, rfl⟩
abbrev main_v435 : Ref sig .tc := ⟨.hbm, 642, rfl⟩
abbrev main_v436 : Ref sig .tc := ⟨.hbm, 643, rfl⟩
abbrev main_v437 : Ref sig .tc := ⟨.hbm, 644, rfl⟩
abbrev main_c_156 : Ref sig .tc := ⟨.hbm, 645, rfl⟩
abbrev main_call24_v0 : Ref sig .tc := ⟨.hbm, 646, rfl⟩
abbrev main_v438 : Ref sig .tc := ⟨.hbm, 647, rfl⟩
abbrev main_v439 : Ref sig .tc := ⟨.hbm, 648, rfl⟩
abbrev main_cst_157 : Ref sig .tc := ⟨.hbm, 649, rfl⟩
abbrev main_call25_v0 : Ref sig .tc := ⟨.hbm, 650, rfl⟩
abbrev main_call25_v1 : Ref sig .tc := ⟨.hbm, 651, rfl⟩
abbrev main_v440 : Ref sig .tc := ⟨.hbm, 652, rfl⟩
abbrev main_v441 : Ref sig .tc := ⟨.hbm, 653, rfl⟩
abbrev main_v442 : Ref sig .tc := ⟨.hbm, 654, rfl⟩
abbrev main_v443 : Ref sig .tc := ⟨.hbm, 655, rfl⟩
abbrev main_v444 : Ref sig .tc := ⟨.hbm, 656, rfl⟩
abbrev main_v445 : Ref sig .tc := ⟨.hbm, 657, rfl⟩
abbrev main_v446 : Ref sig .tc := ⟨.hbm, 658, rfl⟩
abbrev main_v447 : Ref sig .tc := ⟨.hbm, 659, rfl⟩
abbrev main_v448 : Ref sig .tc := ⟨.hbm, 660, rfl⟩
abbrev main_v449 : Ref sig .tc := ⟨.hbm, 661, rfl⟩
abbrev main_v450 : Ref sig .tc := ⟨.hbm, 662, rfl⟩
abbrev main_v451 : Ref sig .tc := ⟨.hbm, 663, rfl⟩
abbrev main_v452 : Ref sig .tc := ⟨.hbm, 664, rfl⟩
abbrev main_v453 : Ref sig .tc := ⟨.hbm, 665, rfl⟩
abbrev main_v454 : Ref sig .tc := ⟨.hbm, 666, rfl⟩
abbrev main_v455 : Ref sig .tc := ⟨.hbm, 667, rfl⟩
abbrev main_v456 : Ref sig .tc := ⟨.hbm, 668, rfl⟩
abbrev main_v457 : Ref sig .tc := ⟨.hbm, 669, rfl⟩
abbrev main_v458 : Ref sig .tc := ⟨.hbm, 670, rfl⟩
abbrev main_v459 : Ref sig .tc := ⟨.hbm, 671, rfl⟩
abbrev main_v460 : Ref sig .tc := ⟨.hbm, 672, rfl⟩
abbrev main_v461 : Ref sig .tc := ⟨.hbm, 673, rfl⟩
abbrev main_v462 : Ref sig .tc := ⟨.hbm, 674, rfl⟩
abbrev main_v463 : Ref sig .tc := ⟨.hbm, 675, rfl⟩
abbrev main_v464 : Ref sig .tc := ⟨.hbm, 676, rfl⟩
abbrev main_v465 : Ref sig .tc := ⟨.hbm, 677, rfl⟩
abbrev main_v466 : Ref sig .tc := ⟨.hbm, 678, rfl⟩
abbrev main_v467 : Ref sig .tc := ⟨.hbm, 679, rfl⟩
abbrev main_v468 : Ref sig .tc := ⟨.hbm, 680, rfl⟩
abbrev main_v469 : Ref sig .tc := ⟨.hbm, 681, rfl⟩
abbrev main_v470 : Ref sig .tc := ⟨.hbm, 682, rfl⟩
abbrev main_v471 : Ref sig .tc := ⟨.hbm, 683, rfl⟩
abbrev main_v472 : Ref sig .tc := ⟨.hbm, 684, rfl⟩
abbrev main_v473 : Ref sig .tc := ⟨.hbm, 685, rfl⟩
abbrev main_v474 : Ref sig .tc := ⟨.hbm, 686, rfl⟩
abbrev main_v475 : Ref sig .tc := ⟨.hbm, 687, rfl⟩
abbrev main_v476 : Ref sig .tc := ⟨.hbm, 688, rfl⟩
abbrev main_v477 : Ref sig .tc := ⟨.hbm, 689, rfl⟩
abbrev cc0_stg0_0 : Ref sig .tc := ⟨.vmem, 0, rfl⟩
abbrev cc0_stg0_1 : Ref sig .tc := ⟨.vmem, 1, rfl⟩
abbrev cc0_stg3_0 : Ref sig .tc := ⟨.vmem, 2, rfl⟩
abbrev cc0_scratch0 : Ref sig .tc := ⟨.vmem, 3, rfl⟩
abbrev cc0_stg1_0 : Ref sig .tc := ⟨.smem, 0, rfl⟩
abbrev cc0_stg1_1 : Ref sig .tc := ⟨.smem, 1, rfl⟩
abbrev cc0_stg2_0 : Ref sig .tc := ⟨.smem, 2, rfl⟩
abbrev cc0_stg2_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![12, 240], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_14 : BitVec 32 := 0#32
  let c161_i32 : BitVec 32 := 161#32
  let v25 : BitVec 32 := Scalar.addi c0_i32_14 c161_i32
  let c1_i32_15 : BitVec 32 := 1#32
  ⟨c0_i32_14, v25, c1_i32_15⟩
def k0_off1 (k0_t1 : Fin k0_t1_loop.trips) : Fin 4 → Nat :=
  let c0_18 : Index := 0#32
  let c0_i32_14 : BitVec 32 := 0#32
  let c1_i32_15 : BitVec 32 := 1#32
  let arg7 : BitVec 32 := Scf.iv c0_i32_14 c1_i32_15 k0_t1
  let c512_i32 : BitVec 32 := 512#32
  let v27 : BitVec 32 := Scalar.muli arg7 c512_i32
  let v28 : Index := Scalar.indexCast v27
  let c0_19 : Index := 0#32
  let c0_20 : Index := 0#32
  ![0, v28.toNat, 0, 0]
@[reducible] def k0_t2_loop : Scf.Loop 32 :=
  let c0_i32_11 : BitVec 32 := 0#32
  let c256_i32 : BitVec 32 := 256#32
  let v21 : BitVec 32 := Scalar.addi c0_i32_11 c256_i32
  let c1_i32 : BitVec 32 := 1#32
  ⟨c0_i32_11, v21, c1_i32⟩
def k0_off2 (k0_t2 : Fin k0_t2_loop.trips) : Fin 3 → Nat :=
  let c0_i32_11 : BitVec 32 := 0#32
  let c1_i32 : BitVec 32 := 1#32
  let arg7 : BitVec 32 := Scf.iv c0_i32_11 c1_i32 k0_t2
  let c4_i32 : BitVec 32 := 4#32
  let v25 : BitVec 32 := Scalar.muli arg7 c4_i32
  let c0_i32_14 : BitVec 32 := 0#32
  let v26 : BitVec 32 := Scalar.addi v25 c0_i32_14
  let v27 : Index := Scalar.indexCast v26
  let c0_15 : Index := 0#32
  let c0_16 : Index := 0#32
  ![v27.toNat, 0, 0]
def k0_off3 (k0_t2 : Fin k0_t2_loop.trips) : Fin 4 → Nat :=
  let c0_18 : Index := 0#32
  let c0_19 : Index := 0#32
  let c0_20 : Index := 0#32
  let c0_i32_11 : BitVec 32 := 0#32
  let c1_i32 : BitVec 32 := 1#32
  let arg7 : BitVec 32 := Scf.iv c0_i32_11 c1_i32 k0_t2
  let c4_i32 : BitVec 32 := 4#32
  let v25 : BitVec 32 := Scalar.muli arg7 c4_i32
  let c0_i32_14 : BitVec 32 := 0#32
  let v26 : BitVec 32 := Scalar.addi v25 c0_i32_14
  let c4_i32_17 : BitVec 32 := 4#32
  let v30 : BitVec 32 := Scalar.muli v26 c4_i32_17
  let v31 : Index := Scalar.indexCast v30
  ![0, 0, 0, v31.toNat]
def k0_off4 (k0_t2 : Fin k0_t2_loop.trips) (c1_i32_21 : BitVec 32) : Fin 4 → Nat :=
  let c0_22 : Index := 0#32
  let c0_23 : Index := 0#32
  let c0_24 : Index := 0#32
  let c0_i32_11 : BitVec 32 := 0#32
  let c1_i32 : BitVec 32 := 1#32
  let arg7 : BitVec 32 := Scf.iv c0_i32_11 c1_i32 k0_t2
  let c4_i32 : BitVec 32 := 4#32
  let v25 : BitVec 32 := Scalar.muli arg7 c4_i32
  let c0_i32_14 : BitVec 32 := 0#32
  let v26 : BitVec 32 := Scalar.addi v25 c0_i32_14
  let c4_i32_17 : BitVec 32 := 4#32
  let v30 : BitVec 32 := Scalar.muli v26 c4_i32_17
  let v33 : BitVec 32 := Scalar.addi v30 c1_i32_21
  let v34 : Index := Scalar.indexCast v33
  ![0, 0, 0, v34.toNat]
def k0_off5 (v32 : BitVec 32) : Fin 4 → Nat :=
  let c0_46 : Index := 0#32
  let v53 : Index := Scalar.indexCast v32
  let c0_47 : Index := 0#32
  let c0_48 : Index := 0#32
  ![0, v53.toNat, 0, 0]

def k0_off6 (v35 : BitVec 32) : Fin 4 → Nat :=
  let c0_49 : Index := 0#32
  let v56 : Index := Scalar.indexCast v35
  let c0_50 : Index := 0#32
  let c0_51 : Index := 0#32
  ![0, v56.toNat, 0, 0]

def k0_off7 (v38 : BitVec 32) : Fin 4 → Nat :=
  let c0_52 : Index := 0#32
  let v59 : Index := Scalar.indexCast v38
  let c0_53 : Index := 0#32
  let c0_54 : Index := 0#32
  ![0, v59.toNat, 0, 0]

def k0_off8 (v41 : BitVec 32) : Fin 4 → Nat :=
  let c0_55 : Index := 0#32
  let v62 : Index := Scalar.indexCast v41
  let c0_56 : Index := 0#32
  let c0_57 : Index := 0#32
  ![0, v62.toNat, 0, 0]

def k0_chk4 (v41 : BitVec 32) : Prop :=
  (∀ a, (k0_off8 v41) a + S1x1x1x128.size a ≤ S1x82432x1x128.size a)
theorem k0_off8_inb : ∀ (v41 : BitVec 32) (k0_hw4 : k0_chk4 v41), ∀ a, (k0_off8 v41) a + S1x1x1x128.size a ≤ S1x82432x1x128.size a := fun v41 k0_hw4 => k0_hw4

def k0_off9 (v32 : BitVec 32) : Fin 4 → Nat :=
  let c0_58 : Index := 0#32
  let v68 : Index := Scalar.indexCast v32
  let c0_59 : Index := 0#32
  let c0_60 : Index := 0#32
  ![0, v68.toNat, 0, 0]

def k0_chk1 (v32 : BitVec 32) : Prop :=
  (∀ a, (k0_off5 v32) a + S1x1x1x128.size a ≤ S1x82432x1x128.size a) ∧
  (∀ a, (k0_off9 v32) a + S1x1x1x128.size a ≤ S1x82432x1x128.size a)
theorem k0_off5_inb : ∀ (v32 : BitVec 32) (k0_hw1 : k0_chk1 v32), ∀ a, (k0_off5 v32) a + S1x1x1x128.size a ≤ S1x82432x1x128.size a := fun v32 k0_hw1 => k0_hw1.1
theorem k0_off9_inb : ∀ (v32 : BitVec 32) (k0_hw1 : k0_chk1 v32), ∀ a, (k0_off9 v32) a + S1x1x1x128.size a ≤ S1x82432x1x128.size a := fun v32 k0_hw1 => k0_hw1.2

def k0_off10 (v35 : BitVec 32) : Fin 4 → Nat :=
  let c0_61 : Index := 0#32
  let v75 : Index := Scalar.indexCast v35
  let c0_62 : Index := 0#32
  let c0_63 : Index := 0#32
  ![0, v75.toNat, 0, 0]

def k0_chk2 (v35 : BitVec 32) : Prop :=
  (∀ a, (k0_off6 v35) a + S1x1x1x128.size a ≤ S1x82432x1x128.size a) ∧
  (∀ a, (k0_off10 v35) a + S1x1x1x128.size a ≤ S1x82432x1x128.size a)
theorem k0_off6_inb : ∀ (v35 : BitVec 32) (k0_hw2 : k0_chk2 v35), ∀ a, (k0_off6 v35) a + S1x1x1x128.size a ≤ S1x82432x1x128.size a := fun v35 k0_hw2 => k0_hw2.1
theorem k0_off10_inb : ∀ (v35 : BitVec 32) (k0_hw2 : k0_chk2 v35), ∀ a, (k0_off10 v35) a + S1x1x1x128.size a ≤ S1x82432x1x128.size a := fun v35 k0_hw2 => k0_hw2.2

def k0_off11 (v38 : BitVec 32) : Fin 4 → Nat :=
  let c0_64 : Index := 0#32
  let v82 : Index := Scalar.indexCast v38
  let c0_65 : Index := 0#32
  let c0_66 : Index := 0#32
  ![0, v82.toNat, 0, 0]

def k0_chk3 (v38 : BitVec 32) : Prop :=
  (∀ a, (k0_off7 v38) a + S1x1x1x128.size a ≤ S1x82432x1x128.size a) ∧
  (∀ a, (k0_off11 v38) a + S1x1x1x128.size a ≤ S1x82432x1x128.size a)
theorem k0_off7_inb : ∀ (v38 : BitVec 32) (k0_hw3 : k0_chk3 v38), ∀ a, (k0_off7 v38) a + S1x1x1x128.size a ≤ S1x82432x1x128.size a := fun v38 k0_hw3 => k0_hw3.1
theorem k0_off11_inb : ∀ (v38 : BitVec 32) (k0_hw3 : k0_chk3 v38), ∀ a, (k0_off11 v38) a + S1x1x1x128.size a ≤ S1x82432x1x128.size a := fun v38 k0_hw3 => k0_hw3.2

def k0_off12 (k0_t2 : Fin k0_t2_loop.trips) : Fin 3 → Nat :=
  let c0_i32_11 : BitVec 32 := 0#32
  let c1_i32 : BitVec 32 := 1#32
  let arg7 : BitVec 32 := Scf.iv c0_i32_11 c1_i32 k0_t2
  let c4_i32_70 : BitVec 32 := 4#32
  let v93 : BitVec 32 := Scalar.muli arg7 c4_i32_70
  let c1_i32_71 : BitVec 32 := 1#32
  let v94 : BitVec 32 := Scalar.addi v93 c1_i32_71
  let v95 : Index := Scalar.indexCast v94
  let c0_72 : Index := 0#32
  let c0_73 : Index := 0#32
  ![v95.toNat, 0, 0]
def k0_off13 (k0_t2 : Fin k0_t2_loop.trips) : Fin 4 → Nat :=
  let c0_75 : Index := 0#32
  let c0_76 : Index := 0#32
  let c0_77 : Index := 0#32
  let c0_i32_11 : BitVec 32 := 0#32
  let c1_i32 : BitVec 32 := 1#32
  let arg7 : BitVec 32 := Scf.iv c0_i32_11 c1_i32 k0_t2
  let c4_i32_70 : BitVec 32 := 4#32
  let v93 : BitVec 32 := Scalar.muli arg7 c4_i32_70
  let c1_i32_71 : BitVec 32 := 1#32
  let v94 : BitVec 32 := Scalar.addi v93 c1_i32_71
  let c4_i32_74 : BitVec 32 := 4#32
  let v98 : BitVec 32 := Scalar.muli v94 c4_i32_74
  let v99 : Index := Scalar.indexCast v98
  ![0, 0, 0, v99.toNat]
def k0_off14 (k0_t2 : Fin k0_t2_loop.trips) (c1_i32_78 : BitVec 32) : Fin 4 → Nat :=
  let c0_79 : Index := 0#32
  let c0_80 : Index := 0#32
  let c0_81 : Index := 0#32
  let c0_i32_11 : BitVec 32 := 0#32
  let c1_i32 : BitVec 32 := 1#32
  let arg7 : BitVec 32 := Scf.iv c0_i32_11 c1_i32 k0_t2
  let c4_i32_70 : BitVec 32 := 4#32
  let v93 : BitVec 32 := Scalar.muli arg7 c4_i32_70
  let c1_i32_71 : BitVec 32 := 1#32
  let v94 : BitVec 32 := Scalar.addi v93 c1_i32_71
  let c4_i32_74 : BitVec 32 := 4#32
  let v98 : BitVec 32 := Scalar.muli v94 c4_i32_74
  let v101 : BitVec 32 := Scalar.addi v98 c1_i32_78
  let v102 : Index := Scalar.indexCast v101
  ![0, 0, 0, v102.toNat]
def k0_off15 (v100 : BitVec 32) : Fin 4 → Nat :=
  let c0_105 : Index := 0#32
  let v121 : Index := Scalar.indexCast v100
  let c0_106 : Index := 0#32
  let c0_107 : Index := 0#32
  ![0, v121.toNat, 0, 0]

def k0_off16 (v103 : BitVec 32) : Fin 4 → Nat :=
  let c0_108 : Index := 0#32
  let v124 : Index := Scalar.indexCast v103
  let c0_109 : Index := 0#32
  let c0_110 : Index := 0#32
  ![0, v124.toNat, 0, 0]

def k0_off17 (v106 : BitVec 32) : Fin 4 → Nat :=
  let c0_111 : Index := 0#32
  let v127 : Index := Scalar.indexCast v106
  let c0_112 : Index := 0#32
  let c0_113 : Index := 0#32
  ![0, v127.toNat, 0, 0]

def k0_off18 (v109 : BitVec 32) : Fin 4 → Nat :=
  let c0_114 : Index := 0#32
  let v130 : Index := Scalar.indexCast v109
  let c0_115 : Index := 0#32
  let c0_116 : Index := 0#32
  ![0, v130.toNat, 0, 0]

def k0_chk8 (v109 : BitVec 32) : Prop :=
  (∀ a, (k0_off18 v109) a + S1x1x1x128.size a ≤ S1x82432x1x128.size a)
theorem k0_off18_inb : ∀ (v109 : BitVec 32) (k0_hw8 : k0_chk8 v109), ∀ a, (k0_off18 v109) a + S1x1x1x128.size a ≤ S1x82432x1x128.size a := fun v109 k0_hw8 => k0_hw8

def k0_off19 (v100 : BitVec 32) : Fin 4 → Nat :=
  let c0_117 : Index := 0#32
  let v136 : Index := Scalar.indexCast v100
  let c0_118 : Index := 0#32
  let c0_119 : Index := 0#32
  ![0, v136.toNat, 0, 0]

def k0_chk5 (v100 : BitVec 32) : Prop :=
  (∀ a, (k0_off15 v100) a + S1x1x1x128.size a ≤ S1x82432x1x128.size a) ∧
  (∀ a, (k0_off19 v100) a + S1x1x1x128.size a ≤ S1x82432x1x128.size a)
theorem k0_off15_inb : ∀ (v100 : BitVec 32) (k0_hw5 : k0_chk5 v100), ∀ a, (k0_off15 v100) a + S1x1x1x128.size a ≤ S1x82432x1x128.size a := fun v100 k0_hw5 => k0_hw5.1
theorem k0_off19_inb : ∀ (v100 : BitVec 32) (k0_hw5 : k0_chk5 v100), ∀ a, (k0_off19 v100) a + S1x1x1x128.size a ≤ S1x82432x1x128.size a := fun v100 k0_hw5 => k0_hw5.2

def k0_off20 (v103 : BitVec 32) : Fin 4 → Nat :=
  let c0_120 : Index := 0#32
  let v143 : Index := Scalar.indexCast v103
  let c0_121 : Index := 0#32
  let c0_122 : Index := 0#32
  ![0, v143.toNat, 0, 0]

def k0_chk6 (v103 : BitVec 32) : Prop :=
  (∀ a, (k0_off16 v103) a + S1x1x1x128.size a ≤ S1x82432x1x128.size a) ∧
  (∀ a, (k0_off20 v103) a + S1x1x1x128.size a ≤ S1x82432x1x128.size a)
theorem k0_off16_inb : ∀ (v103 : BitVec 32) (k0_hw6 : k0_chk6 v103), ∀ a, (k0_off16 v103) a + S1x1x1x128.size a ≤ S1x82432x1x128.size a := fun v103 k0_hw6 => k0_hw6.1
theorem k0_off20_inb : ∀ (v103 : BitVec 32) (k0_hw6 : k0_chk6 v103), ∀ a, (k0_off20 v103) a + S1x1x1x128.size a ≤ S1x82432x1x128.size a := fun v103 k0_hw6 => k0_hw6.2

def k0_off21 (v106 : BitVec 32) : Fin 4 → Nat :=
  let c0_123 : Index := 0#32
  let v150 : Index := Scalar.indexCast v106
  let c0_124 : Index := 0#32
  let c0_125 : Index := 0#32
  ![0, v150.toNat, 0, 0]

def k0_chk7 (v106 : BitVec 32) : Prop :=
  (∀ a, (k0_off17 v106) a + S1x1x1x128.size a ≤ S1x82432x1x128.size a) ∧
  (∀ a, (k0_off21 v106) a + S1x1x1x128.size a ≤ S1x82432x1x128.size a)
theorem k0_off17_inb : ∀ (v106 : BitVec 32) (k0_hw7 : k0_chk7 v106), ∀ a, (k0_off17 v106) a + S1x1x1x128.size a ≤ S1x82432x1x128.size a := fun v106 k0_hw7 => k0_hw7.1
theorem k0_off21_inb : ∀ (v106 : BitVec 32) (k0_hw7 : k0_chk7 v106), ∀ a, (k0_off21 v106) a + S1x1x1x128.size a ≤ S1x82432x1x128.size a := fun v106 k0_hw7 => k0_hw7.2

def k0_off22 (k0_t2 : Fin k0_t2_loop.trips) : Fin 3 → Nat :=
  let c0_i32_11 : BitVec 32 := 0#32
  let c1_i32 : BitVec 32 := 1#32
  let arg7 : BitVec 32 := Scf.iv c0_i32_11 c1_i32 k0_t2
  let c4_i32_129 : BitVec 32 := 4#32
  let v161 : BitVec 32 := Scalar.muli arg7 c4_i32_129
  let c2_i32_130 : BitVec 32 := 2#32
  let v162 : BitVec 32 := Scalar.addi v161 c2_i32_130
  let v163 : Index := Scalar.indexCast v162
  let c0_131 : Index := 0#32
  let c0_132 : Index := 0#32
  ![v163.toNat, 0, 0]
def k0_off23 (k0_t2 : Fin k0_t2_loop.trips) : Fin 4 → Nat :=
  let c0_134 : Index := 0#32
  let c0_135 : Index := 0#32
  let c0_136 : Index := 0#32
  let c0_i32_11 : BitVec 32 := 0#32
  let c1_i32 : BitVec 32 := 1#32
  let arg7 : BitVec 32 := Scf.iv c0_i32_11 c1_i32 k0_t2
  let c4_i32_129 : BitVec 32 := 4#32
  let v161 : BitVec 32 := Scalar.muli arg7 c4_i32_129
  let c2_i32_130 : BitVec 32 := 2#32
  let v162 : BitVec 32 := Scalar.addi v161 c2_i32_130
  let c4_i32_133 : BitVec 32 := 4#32
  let v166 : BitVec 32 := Scalar.muli v162 c4_i32_133
  let v167 : Index := Scalar.indexCast v166
  ![0, 0, 0, v167.toNat]
def k0_off24 (k0_t2 : Fin k0_t2_loop.trips) (c1_i32_137 : BitVec 32) : Fin 4 → Nat :=
  let c0_138 : Index := 0#32
  let c0_139 : Index := 0#32
  let c0_140 : Index := 0#32
  let c0_i32_11 : BitVec 32 := 0#32
  let c1_i32 : BitVec 32 := 1#32
  let arg7 : BitVec 32 := Scf.iv c0_i32_11 c1_i32 k0_t2
  let c4_i32_129 : BitVec 32 := 4#32
  let v161 : BitVec 32 := Scalar.muli arg7 c4_i32_129
  let c2_i32_130 : BitVec 32 := 2#32
  let v162 : BitVec 32 := Scalar.addi v161 c2_i32_130
  let c4_i32_133 : BitVec 32 := 4#32
  let v166 : BitVec 32 := Scalar.muli v162 c4_i32_133
  let v169 : BitVec 32 := Scalar.addi v166 c1_i32_137
  let v170 : Index := Scalar.indexCast v169
  ![0, 0, 0, v170.toNat]
def k0_off25 (v168 : BitVec 32) : Fin 4 → Nat :=
  let c0_164 : Index := 0#32
  let v189 : Index := Scalar.indexCast v168
  let c0_165 : Index := 0#32
  let c0_166 : Index := 0#32
  ![0, v189.toNat, 0, 0]

def k0_off26 (v171 : BitVec 32) : Fin 4 → Nat :=
  let c0_167 : Index := 0#32
  let v192 : Index := Scalar.indexCast v171
  let c0_168 : Index := 0#32
  let c0_169 : Index := 0#32
  ![0, v192.toNat, 0, 0]

def k0_off27 (v174 : BitVec 32) : Fin 4 → Nat :=
  let c0_170 : Index := 0#32
  let v195 : Index := Scalar.indexCast v174
  let c0_171 : Index := 0#32
  let c0_172 : Index := 0#32
  ![0, v195.toNat, 0, 0]

def k0_off28 (v177 : BitVec 32) : Fin 4 → Nat :=
  let c0_173 : Index := 0#32
  let v198 : Index := Scalar.indexCast v177
  let c0_174 : Index := 0#32
  let c0_175 : Index := 0#32
  ![0, v198.toNat, 0, 0]

def k0_chk12 (v177 : BitVec 32) : Prop :=
  (∀ a, (k0_off28 v177) a + S1x1x1x128.size a ≤ S1x82432x1x128.size a)
theorem k0_off28_inb : ∀ (v177 : BitVec 32) (k0_hw12 : k0_chk12 v177), ∀ a, (k0_off28 v177) a + S1x1x1x128.size a ≤ S1x82432x1x128.size a := fun v177 k0_hw12 => k0_hw12

def k0_off29 (v168 : BitVec 32) : Fin 4 → Nat :=
  let c0_176 : Index := 0#32
  let v204 : Index := Scalar.indexCast v168
  let c0_177 : Index := 0#32
  let c0_178 : Index := 0#32
  ![0, v204.toNat, 0, 0]

def k0_chk9 (v168 : BitVec 32) : Prop :=
  (∀ a, (k0_off25 v168) a + S1x1x1x128.size a ≤ S1x82432x1x128.size a) ∧
  (∀ a, (k0_off29 v168) a + S1x1x1x128.size a ≤ S1x82432x1x128.size a)
theorem k0_off25_inb : ∀ (v168 : BitVec 32) (k0_hw9 : k0_chk9 v168), ∀ a, (k0_off25 v168) a + S1x1x1x128.size a ≤ S1x82432x1x128.size a := fun v168 k0_hw9 => k0_hw9.1
theorem k0_off29_inb : ∀ (v168 : BitVec 32) (k0_hw9 : k0_chk9 v168), ∀ a, (k0_off29 v168) a + S1x1x1x128.size a ≤ S1x82432x1x128.size a := fun v168 k0_hw9 => k0_hw9.2

def k0_off30 (v171 : BitVec 32) : Fin 4 → Nat :=
  let c0_179 : Index := 0#32
  let v211 : Index := Scalar.indexCast v171
  let c0_180 : Index := 0#32
  let c0_181 : Index := 0#32
  ![0, v211.toNat, 0, 0]

def k0_chk10 (v171 : BitVec 32) : Prop :=
  (∀ a, (k0_off26 v171) a + S1x1x1x128.size a ≤ S1x82432x1x128.size a) ∧
  (∀ a, (k0_off30 v171) a + S1x1x1x128.size a ≤ S1x82432x1x128.size a)
theorem k0_off26_inb : ∀ (v171 : BitVec 32) (k0_hw10 : k0_chk10 v171), ∀ a, (k0_off26 v171) a + S1x1x1x128.size a ≤ S1x82432x1x128.size a := fun v171 k0_hw10 => k0_hw10.1
theorem k0_off30_inb : ∀ (v171 : BitVec 32) (k0_hw10 : k0_chk10 v171), ∀ a, (k0_off30 v171) a + S1x1x1x128.size a ≤ S1x82432x1x128.size a := fun v171 k0_hw10 => k0_hw10.2

def k0_off31 (v174 : BitVec 32) : Fin 4 → Nat :=
  let c0_182 : Index := 0#32
  let v218 : Index := Scalar.indexCast v174
  let c0_183 : Index := 0#32
  let c0_184 : Index := 0#32
  ![0, v218.toNat, 0, 0]

def k0_chk11 (v174 : BitVec 32) : Prop :=
  (∀ a, (k0_off27 v174) a + S1x1x1x128.size a ≤ S1x82432x1x128.size a) ∧
  (∀ a, (k0_off31 v174) a + S1x1x1x128.size a ≤ S1x82432x1x128.size a)
theorem k0_off27_inb : ∀ (v174 : BitVec 32) (k0_hw11 : k0_chk11 v174), ∀ a, (k0_off27 v174) a + S1x1x1x128.size a ≤ S1x82432x1x128.size a := fun v174 k0_hw11 => k0_hw11.1
theorem k0_off31_inb : ∀ (v174 : BitVec 32) (k0_hw11 : k0_chk11 v174), ∀ a, (k0_off31 v174) a + S1x1x1x128.size a ≤ S1x82432x1x128.size a := fun v174 k0_hw11 => k0_hw11.2

def k0_off32 (k0_t2 : Fin k0_t2_loop.trips) : Fin 3 → Nat :=
  let c0_i32_11 : BitVec 32 := 0#32
  let c1_i32 : BitVec 32 := 1#32
  let arg7 : BitVec 32 := Scf.iv c0_i32_11 c1_i32 k0_t2
  let c4_i32_188 : BitVec 32 := 4#32
  let v229 : BitVec 32 := Scalar.muli arg7 c4_i32_188
  let c3_i32_189 : BitVec 32 := 3#32
  let v230 : BitVec 32 := Scalar.addi v229 c3_i32_189
  let v231 : Index := Scalar.indexCast v230
  let c0_190 : Index := 0#32
  let c0_191 : Index := 0#32
  ![v231.toNat, 0, 0]
def k0_off33 (k0_t2 : Fin k0_t2_loop.trips) : Fin 4 → Nat :=
  let c0_193 : Index := 0#32
  let c0_194 : Index := 0#32
  let c0_195 : Index := 0#32
  let c0_i32_11 : BitVec 32 := 0#32
  let c1_i32 : BitVec 32 := 1#32
  let arg7 : BitVec 32 := Scf.iv c0_i32_11 c1_i32 k0_t2
  let c4_i32_188 : BitVec 32 := 4#32
  let v229 : BitVec 32 := Scalar.muli arg7 c4_i32_188
  let c3_i32_189 : BitVec 32 := 3#32
  let v230 : BitVec 32 := Scalar.addi v229 c3_i32_189
  let c4_i32_192 : BitVec 32 := 4#32
  let v234 : BitVec 32 := Scalar.muli v230 c4_i32_192
  let v235 : Index := Scalar.indexCast v234
  ![0, 0, 0, v235.toNat]
def k0_off34 (k0_t2 : Fin k0_t2_loop.trips) (c1_i32_196 : BitVec 32) : Fin 4 → Nat :=
  let c0_197 : Index := 0#32
  let c0_198 : Index := 0#32
  let c0_199 : Index := 0#32
  let c0_i32_11 : BitVec 32 := 0#32
  let c1_i32 : BitVec 32 := 1#32
  let arg7 : BitVec 32 := Scf.iv c0_i32_11 c1_i32 k0_t2
  let c4_i32_188 : BitVec 32 := 4#32
  let v229 : BitVec 32 := Scalar.muli arg7 c4_i32_188
  let c3_i32_189 : BitVec 32 := 3#32
  let v230 : BitVec 32 := Scalar.addi v229 c3_i32_189
  let c4_i32_192 : BitVec 32 := 4#32
  let v234 : BitVec 32 := Scalar.muli v230 c4_i32_192
  let v237 : BitVec 32 := Scalar.addi v234 c1_i32_196
  let v238 : Index := Scalar.indexCast v237
  ![0, 0, 0, v238.toNat]
def k0_off35 (v236 : BitVec 32) : Fin 4 → Nat :=
  let c0_223 : Index := 0#32
  let v257 : Index := Scalar.indexCast v236
  let c0_224 : Index := 0#32
  let c0_225 : Index := 0#32
  ![0, v257.toNat, 0, 0]

def k0_off36 (v239 : BitVec 32) : Fin 4 → Nat :=
  let c0_226 : Index := 0#32
  let v260 : Index := Scalar.indexCast v239
  let c0_227 : Index := 0#32
  let c0_228 : Index := 0#32
  ![0, v260.toNat, 0, 0]

def k0_off37 (v242 : BitVec 32) : Fin 4 → Nat :=
  let c0_229 : Index := 0#32
  let v263 : Index := Scalar.indexCast v242
  let c0_230 : Index := 0#32
  let c0_231 : Index := 0#32
  ![0, v263.toNat, 0, 0]

def k0_off38 (v245 : BitVec 32) : Fin 4 → Nat :=
  let c0_232 : Index := 0#32
  let v266 : Index := Scalar.indexCast v245
  let c0_233 : Index := 0#32
  let c0_234 : Index := 0#32
  ![0, v266.toNat, 0, 0]

def k0_chk16 (v245 : BitVec 32) : Prop :=
  (∀ a, (k0_off38 v245) a + S1x1x1x128.size a ≤ S1x82432x1x128.size a)
theorem k0_off38_inb : ∀ (v245 : BitVec 32) (k0_hw16 : k0_chk16 v245), ∀ a, (k0_off38 v245) a + S1x1x1x128.size a ≤ S1x82432x1x128.size a := fun v245 k0_hw16 => k0_hw16

def k0_off39 (v236 : BitVec 32) : Fin 4 → Nat :=
  let c0_235 : Index := 0#32
  let v272 : Index := Scalar.indexCast v236
  let c0_236 : Index := 0#32
  let c0_237 : Index := 0#32
  ![0, v272.toNat, 0, 0]

def k0_chk13 (v236 : BitVec 32) : Prop :=
  (∀ a, (k0_off35 v236) a + S1x1x1x128.size a ≤ S1x82432x1x128.size a) ∧
  (∀ a, (k0_off39 v236) a + S1x1x1x128.size a ≤ S1x82432x1x128.size a)
theorem k0_off35_inb : ∀ (v236 : BitVec 32) (k0_hw13 : k0_chk13 v236), ∀ a, (k0_off35 v236) a + S1x1x1x128.size a ≤ S1x82432x1x128.size a := fun v236 k0_hw13 => k0_hw13.1
theorem k0_off39_inb : ∀ (v236 : BitVec 32) (k0_hw13 : k0_chk13 v236), ∀ a, (k0_off39 v236) a + S1x1x1x128.size a ≤ S1x82432x1x128.size a := fun v236 k0_hw13 => k0_hw13.2

def k0_off40 (v239 : BitVec 32) : Fin 4 → Nat :=
  let c0_238 : Index := 0#32
  let v279 : Index := Scalar.indexCast v239
  let c0_239 : Index := 0#32
  let c0_240 : Index := 0#32
  ![0, v279.toNat, 0, 0]

def k0_chk14 (v239 : BitVec 32) : Prop :=
  (∀ a, (k0_off36 v239) a + S1x1x1x128.size a ≤ S1x82432x1x128.size a) ∧
  (∀ a, (k0_off40 v239) a + S1x1x1x128.size a ≤ S1x82432x1x128.size a)
theorem k0_off36_inb : ∀ (v239 : BitVec 32) (k0_hw14 : k0_chk14 v239), ∀ a, (k0_off36 v239) a + S1x1x1x128.size a ≤ S1x82432x1x128.size a := fun v239 k0_hw14 => k0_hw14.1
theorem k0_off40_inb : ∀ (v239 : BitVec 32) (k0_hw14 : k0_chk14 v239), ∀ a, (k0_off40 v239) a + S1x1x1x128.size a ≤ S1x82432x1x128.size a := fun v239 k0_hw14 => k0_hw14.2

def k0_off41 (v242 : BitVec 32) : Fin 4 → Nat :=
  let c0_241 : Index := 0#32
  let v286 : Index := Scalar.indexCast v242
  let c0_242 : Index := 0#32
  let c0_243 : Index := 0#32
  ![0, v286.toNat, 0, 0]

def k0_chk15 (v242 : BitVec 32) : Prop :=
  (∀ a, (k0_off37 v242) a + S1x1x1x128.size a ≤ S1x82432x1x128.size a) ∧
  (∀ a, (k0_off41 v242) a + S1x1x1x128.size a ≤ S1x82432x1x128.size a)
theorem k0_off37_inb : ∀ (v242 : BitVec 32) (k0_hw15 : k0_chk15 v242), ∀ a, (k0_off37 v242) a + S1x1x1x128.size a ≤ S1x82432x1x128.size a := fun v242 k0_hw15 => k0_hw15.1
theorem k0_off41_inb : ∀ (v242 : BitVec 32) (k0_hw15 : k0_chk15 v242), ∀ a, (k0_off41 v242) a + S1x1x1x128.size a ≤ S1x82432x1x128.size a := fun v242 k0_hw15 => k0_hw15.2

def k0_cond2 (i : grid0.Coords) : BitVec 1 :=
  let arg1 : BitVec 32 := BitVec.ofNat 32 (i 1).val
  let c239_i32 : BitVec 32 := 239#32
  let v22 : BitVec 1 := Scalar.cmpi .eq arg1 c239_i32
  let v23 : BitVec 32 := Scalar.extui v22
  let c0_i32_13 : BitVec 32 := 0#32
  let v24 : BitVec 1 := Scalar.cmpi .ne v23 c0_i32_13
  v24

@[reducible] def k0_t3_loop : Scf.Loop 32 :=
  let c0_i32_14 : BitVec 32 := 0#32
  let c160_i32 : BitVec 32 := 160#32
  let v25 : BitVec 32 := Scalar.addi c0_i32_14 c160_i32
  let c1_i32_15 : BitVec 32 := 1#32
  ⟨c0_i32_14, v25, c1_i32_15⟩
def k0_off42 (k0_t3 : Fin k0_t3_loop.trips) : Fin 4 → Nat :=
  let c0_17 : Index := 0#32
  let c0_i32_14 : BitVec 32 := 0#32
  let c1_i32_15 : BitVec 32 := 1#32
  let arg7 : BitVec 32 := Scf.iv c0_i32_14 c1_i32_15 k0_t3
  let c512_i32 : BitVec 32 := 512#32
  let v26 : BitVec 32 := Scalar.muli arg7 c512_i32
  let v27 : Index := Scalar.indexCast v26
  let c0_18 : Index := 0#32
  let c0_19 : Index := 0#32
  ![0, v27.toNat, 0, 0]
def cc0_transform_0 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, arg1.toNat, c0_i32_4.toNat, c0_i32_5.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1024x1x49 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .smem S1x1x1x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .smem S1x1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x82432x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== Reference0Ideal.lean ====
abbrev S2x48x384x640 : Shape := ⟨4, ![2, 48, 384, 640]⟩
abbrev S2x1x384x640 : Shape := ⟨4, ![2, 1, 384, 640]⟩
abbrev S2x2x384x640 : Shape := ⟨4, ![2, 2, 384, 640]⟩
abbrev S2x49x384x640 : Shape := ⟨4, ![2, 49, 384, 640]⟩
abbrev S_ : Shape := ⟨0, ![]⟩
abbrev S2x50x384x640 : Shape := ⟨4, ![2, 50, 384, 640]⟩
abbrev S640 : Shape := ⟨1, ![640]⟩
abbrev S1x1x640 : Shape := ⟨3, ![1, 1, 640]⟩
abbrev S2x384x640 : Shape := ⟨3, ![2, 384, 640]⟩
abbrev S384 : Shape := ⟨1, ![384]⟩
abbrev S1x384x1 : Shape := ⟨3, ![1, 384, 1]⟩
abbrev S50x2x384x640 : Shape := ⟨4, ![50, 2, 384, 640]⟩
abbrev S50x491520 : Shape := ⟨2, ![50, 491520]⟩
abbrev S2 : Shape := ⟨1, ![2]⟩
abbrev S2x1x1 : Shape := ⟨3, ![2, 1, 1]⟩
abbrev S491520 : Shape := ⟨1, ![491520]⟩
abbrev S1x491520 : Shape := ⟨2, ![1, 491520]⟩
abbrev S491520x1 : Shape := ⟨2, ![491520, 1]⟩
abbrev S2x491520 : Shape := ⟨2, ![2, 491520]⟩

abbrev nBuf : Space → Nat
  | .hbm => 966
  | .vmem => 0
  | .smem => 0
  | _ => 0

abbrev hbmTy0_0 (i : Nat) : BufTy := match i % 128 with
  | 0 => ⟨S2x48x384x640, .f32⟩
  | 1 => ⟨S2x48x384x640, .f32⟩
  | 2 => ⟨S2x1x384x640, .f32⟩
  | 3 => ⟨S2x1x384x640, .f32⟩
  | 4 => ⟨S2x2x384x640, .f32⟩
  | 5 => ⟨S2x2x384x640, .f32⟩
  | 6 => ⟨S2x49x384x640, .f32⟩
  | 7 => ⟨S2x1x384x640, .f32⟩
  | 8 => ⟨S_, .f32⟩
  | 9 => ⟨S2x1x384x640, .f32⟩
  | 10 => ⟨S2x1x384x640, .f32⟩
  | 11 => ⟨S_, .f32⟩
  | 12 => ⟨S2x1x384x640, .f32⟩
  | 13 => ⟨S2x1x384x640, .f32⟩
  | 14 => ⟨S2x1x384x640, .f32⟩
  | 15 => ⟨S2x49x384x640, .f32⟩
  | 16 => ⟨S2x49x384x640, .f32⟩
  | 17 => ⟨S2x50x384x640, .f32⟩
  | 18 => ⟨S640, .f32⟩
  | 19 => ⟨S1x1x640, .f32⟩
  | 20 => ⟨S2x1x384x640, .f32⟩
  | 21 => ⟨S2x384x640, .f32⟩
  | 22 => ⟨S2x384x640, .f32⟩
  | 23 => ⟨S2x384x640, .f32⟩
  | 24 => ⟨S384, .f32⟩
  | 25 => ⟨S1x384x1, .f32⟩
  | 26 => ⟨S2x1x384x640, .f32⟩
  | 27 => ⟨S2x384x640, .f32⟩
  | 28 => ⟨S2x384x640, .f32⟩
  | 29 => ⟨S2x384x640, .f32⟩
  | 30 => ⟨S2x384x640, .f32⟩
  | 31 => ⟨S2x384x640, .f32⟩
  | 32 => ⟨S2x384x640, .f32⟩
  | 33 => ⟨S2x384x640, .f32⟩
  | 34 => ⟨S2x384x640, .i32⟩
  | 35 => ⟨S2x384x640, .i32⟩
  | 36 => ⟨S50x2x384x640, .f32⟩
  | 37 => ⟨S50x491520, .f32⟩
  | 38 => ⟨S2, .i32⟩
  | 39 => ⟨S_, .i32⟩
  | 40 => ⟨S2, .i32⟩
  | 41 => ⟨S2, .i32⟩
  | 42 => ⟨S2x1x1, .i32⟩
  | 43 => ⟨S_, .f32⟩
  | 44 => ⟨S50x491520, .f32⟩
  | 45 => ⟨S_, .f32⟩
  | 46 => ⟨S2x384x640, .f32⟩
  | 47 => ⟨S2x384x640, .f32⟩
  | 48 => ⟨S_, .f32⟩
  | 49 => ⟨S2x384x640, .f32⟩
  | 50 => ⟨S2x384x640, .f32⟩
  | 51 => ⟨S2x384x640, .f32⟩
  | 52 => ⟨S_, .i32⟩
  | 53 => ⟨S2x384x640, .i32⟩
  | 54 => ⟨S2x384x640, .i32⟩
  | 55 => ⟨S_, .f32⟩
  | 56 => ⟨S2x384x640, .f32⟩
  | 57 => ⟨S2x384x640, .f32⟩
  | 58 => ⟨S2x384x640, .f32⟩
  | 59 => ⟨S_, .i32⟩
  | 60 => ⟨S2x384x640, .i32⟩
  | 61 => ⟨S2x384x640, .i32⟩
  | 62 => ⟨S_, .f32⟩
  | 63 => ⟨S2x384x640, .f32⟩
  | 64 => ⟨S2x384x640, .f32⟩
  | 65 => ⟨S2x384x640, .f32⟩
  | 66 => ⟨S_, .i32⟩
  | 67 => ⟨S2x384x640, .i32⟩
  | 68 => ⟨S2x384x640, .i32⟩
  | 69 => ⟨S_, .i32⟩
  | 70 => ⟨S2x384x640, .i32⟩
  | 71 => ⟨S2x384x640, .i32⟩
  | 72 => ⟨S2x384x640, .f32⟩
  | 73 => ⟨S_, .i32⟩
  | 74 => ⟨S2x384x640, .i32⟩
  | 75 => ⟨S2x384x640, .i1⟩
  | 76 => ⟨S_, .i32⟩
  | 77 => ⟨S2x384x640, .i32⟩
  | 78 => ⟨S2x384x640, .i1⟩
  | 79 => ⟨S2x384x640, .i1⟩
  | 80 => ⟨S_, .i32⟩
  | 81 => ⟨S2x384x640, .i32⟩
  | 82 => ⟨S2x384x640, .i1⟩
  | 83 => ⟨S2x384x640, .i1⟩
  | 84 => ⟨S_, .i32⟩
  | 85 => ⟨S2x384x640, .i32⟩
  | 86 => ⟨S2x384x640, .i1⟩
  | 87 => ⟨S2x384x640, .i1⟩
  | 88 => ⟨S_, .i32⟩
  | 89 => ⟨S2x384x640, .i32⟩
  | 90 => ⟨S2x384x640, .i32⟩
  | 91 => ⟨S2x384x640, .i32⟩
  | 92 => ⟨S2x384x640, .i32⟩
  | 93 => ⟨S2x384x640, .i32⟩
  | 94 => ⟨S_, .i32⟩
  | 95 => ⟨S2x384x640, .i32⟩
  | 96 => ⟨S2x384x640, .i32⟩
  | 97 => ⟨S491520, .i32⟩
  | 98 => ⟨S_, .f32⟩
  | 99 => ⟨S2x384x640, .f32⟩
  | 100 => ⟨S2x384x640, .f32⟩
  | 101 => ⟨S491520, .f32⟩
  | 102 => ⟨S1x491520, .f32⟩
  | 103 => ⟨S50x491520, .f32⟩
  | 104 => ⟨S50x491520, .f32⟩
  | 105 => ⟨S_, .i32⟩
  | 106 => ⟨S491520, .i32⟩
  | 107 => ⟨S491520, .i1⟩
  | 108 => ⟨S_, .i32⟩
  | 109 => ⟨S491520, .i32⟩
  | 110 => ⟨S491520, .i32⟩
  | 111 => ⟨S491520, .i32⟩
  | 112 => ⟨S491520x1, .i32⟩
  | 113 => ⟨S50x491520, .f32⟩
  | 114 => ⟨S_, .i32⟩
  | 115 => ⟨S2x384x640, .i32⟩
  | 116 => ⟨S2x384x640, .i1⟩
  | 117 => ⟨S_, .i32⟩
  | 118 => ⟨S2x384x640, .i32⟩
  | 119 => ⟨S2x384x640, .i1⟩
  | 120 => ⟨S2x384x640, .i1⟩
  | 121 => ⟨S_, .i32⟩
  | 122 => ⟨S2x384x640, .i32⟩
  | 123 => ⟨S2x384x640, .i1⟩
  | 124 => ⟨S2x384x640, .i1⟩
  | 125 => ⟨S_, .i32⟩
  | 126 => ⟨S2x384x640, .i32⟩
  | 127 => ⟨S2x384x640, .i1⟩
  | _ => ⟨S2x48x384x640, .f32⟩

abbrev hbmTy0_1 (i : Nat) : BufTy := match i % 128 with
  | 0 => ⟨S2x384x640, .i1⟩
  | 1 => ⟨S_, .i32⟩
  | 2 => ⟨S2x384x640, .i32⟩
  | 3 => ⟨S2x384x640, .i32⟩
  | 4 => ⟨S2x384x640, .i32⟩
  | 5 => ⟨S2x384x640, .i32⟩
  | 6 => ⟨S2x384x640, .i32⟩
  | 7 => ⟨S_, .i32⟩
  | 8 => ⟨S2x384x640, .i32⟩
  | 9 => ⟨S2x384x640, .i32⟩
  | 10 => ⟨S491520, .i32⟩
  | 11 => ⟨S_, .f32⟩
  | 12 => ⟨S2x384x640, .f32⟩
  | 13 => ⟨S2x384x640, .f32⟩
  | 14 => ⟨S491520, .f32⟩
  | 15 => ⟨S1x491520, .f32⟩
  | 16 => ⟨S50x491520, .f32⟩
  | 17 => ⟨S50x491520, .f32⟩
  | 18 => ⟨S_, .i32⟩
  | 19 => ⟨S491520, .i32⟩
  | 20 => ⟨S491520, .i1⟩
  | 21 => ⟨S_, .i32⟩
  | 22 => ⟨S491520, .i32⟩
  | 23 => ⟨S491520, .i32⟩
  | 24 => ⟨S491520, .i32⟩
  | 25 => ⟨S491520x1, .i32⟩
  | 26 => ⟨S50x491520, .f32⟩
  | 27 => ⟨S_, .i32⟩
  | 28 => ⟨S2x384x640, .i32⟩
  | 29 => ⟨S2x384x640, .i1⟩
  | 30 => ⟨S_, .i32⟩
  | 31 => ⟨S2x384x640, .i32⟩
  | 32 => ⟨S2x384x640, .i1⟩
  | 33 => ⟨S2x384x640, .i1⟩
  | 34 => ⟨S_, .i32⟩
  | 35 => ⟨S2x384x640, .i32⟩
  | 36 => ⟨S2x384x640, .i1⟩
  | 37 => ⟨S2x384x640, .i1⟩
  | 38 => ⟨S_, .i32⟩
  | 39 => ⟨S2x384x640, .i32⟩
  | 40 => ⟨S2x384x640, .i1⟩
  | 41 => ⟨S2x384x640, .i1⟩
  | 42 => ⟨S_, .i32⟩
  | 43 => ⟨S2x384x640, .i32⟩
  | 44 => ⟨S2x384x640, .i32⟩
  | 45 => ⟨S2x384x640, .i32⟩
  | 46 => ⟨S2x384x640, .i32⟩
  | 47 => ⟨S2x384x640, .i32⟩
  | 48 => ⟨S_, .i32⟩
  | 49 => ⟨S2x384x640, .i32⟩
  | 50 => ⟨S2x384x640, .i32⟩
  | 51 => ⟨S491520, .i32⟩
  | 52 => ⟨S_, .f32⟩
  | 53 => ⟨S2x384x640, .f32⟩
  | 54 => ⟨S2x384x640, .f32⟩
  | 55 => ⟨S491520, .f32⟩
  | 56 => ⟨S1x491520, .f32⟩
  | 57 => ⟨S50x491520, .f32⟩
  | 58 => ⟨S50x491520, .f32⟩
  | 59 => ⟨S_, .i32⟩
  | 60 => ⟨S491520, .i32⟩
  | 61 => ⟨S491520, .i1⟩
  | 62 => ⟨S_, .i32⟩
  | 63 => ⟨S491520, .i32⟩
  | 64 => ⟨S491520, .i32⟩
  | 65 => ⟨S491520, .i32⟩
  | 66 => ⟨S491520x1, .i32⟩
  | 67 => ⟨S50x491520, .f32⟩
  | 68 => ⟨S_, .i32⟩
  | 69 => ⟨S2x384x640, .i32⟩
  | 70 => ⟨S2x384x640, .i1⟩
  | 71 => ⟨S_, .i32⟩
  | 72 => ⟨S2x384x640, .i32⟩
  | 73 => ⟨S2x384x640, .i1⟩
  | 74 => ⟨S2x384x640, .i1⟩
  | 75 => ⟨S_, .i32⟩
  | 76 => ⟨S2x384x640, .i32⟩
  | 77 => ⟨S2x384x640, .i1⟩
  | 78 => ⟨S2x384x640, .i1⟩
  | 79 => ⟨S_, .i32⟩
  | 80 => ⟨S2x384x640, .i32⟩
  | 81 => ⟨S2x384x640, .i1⟩
  | 82 => ⟨S2x384x640, .i1⟩
  | 83 => ⟨S_, .i32⟩
  | 84 => ⟨S2x384x640, .i32⟩
  | 85 => ⟨S2x384x640, .i32⟩
  | 86 => ⟨S2x384x640, .i32⟩
  | 87 => ⟨S2x384x640, .i32⟩
  | 88 => ⟨S2x384x640, .i32⟩
  | 89 => ⟨S_, .i32⟩
  | 90 => ⟨S2x384x640, .i32⟩
  | 91 => ⟨S2x384x640, .i32⟩
  | 92 => ⟨S491520, .i32⟩
  | 93 => ⟨S_, .f32⟩
  | 94 => ⟨S2x384x640, .f32⟩
  | 95 => ⟨S2x384x640, .f32⟩
  | 96 => ⟨S491520, .f32⟩
  | 97 => ⟨S1x491520, .f32⟩
  | 98 => ⟨S50x491520, .f32⟩
  | 99 => ⟨S50x491520, .f32⟩
  | 100 => ⟨S_, .i32⟩
  | 101 => ⟨S491520, .i32⟩
  | 102 => ⟨S491520, .i1⟩
  | 103 => ⟨S_, .i32⟩
  | 104 => ⟨S491520, .i32⟩
  | 105 => ⟨S491520, .i32⟩
  | 106 => ⟨S491520, .i32⟩
  | 107 => ⟨S491520x1, .i32⟩
  | 108 => ⟨S50x491520, .f32⟩
  | 109 => ⟨S50x2x384x640, .f32⟩
  | 110 => ⟨S2x50x384x640, .f32⟩
  | 111 => ⟨S2x49x384x640, .f32⟩
  | 112 => ⟨S2x1x384x640, .f32⟩
  | 113 => ⟨S_, .f32⟩
  | 114 => ⟨S2x1x384x640, .f32⟩
  | 115 => ⟨S2x1x384x640, .f32⟩
  | 116 => ⟨S2x49x384x640, .f32⟩
  | 117 => ⟨S2x49x384x640, .f32⟩
  | 118 => ⟨S2x49x384x640, .f32⟩
  | 119 => ⟨S2x1x384x640, .f32⟩
  | 120 => ⟨S_, .f32⟩
  | 121 => ⟨S2x1x384x640, .f32⟩
  | 122 => ⟨S2x1x384x640, .f32⟩
  | 123 => ⟨S_, .f32⟩
  | 124 => ⟨S2x1x384x640, .f32⟩
  | 125 => ⟨S2x1x384x640, .f32⟩
  | 126 => ⟨S2x1x384x640, .f32⟩
  | 127 => ⟨S2x49x384x640, .f32⟩
  | _ => ⟨S2x48x384x640, .f32⟩

abbrev hbmTy0_2 (i : Nat) : BufTy := match i % 128 with
  | 0 => ⟨S2x49x384x640, .f32⟩
  | 1 => ⟨S2x50x384x640, .f32⟩
  | 2 => ⟨S640, .f32⟩
  | 3 => ⟨S1x1x640, .f32⟩
  | 4 => ⟨S2x1x384x640, .f32⟩
  | 5 => ⟨S2x384x640, .f32⟩
  | 6 => ⟨S2x384x640, .f32⟩
  | 7 => ⟨S2x384x640, .f32⟩
  | 8 => ⟨S384, .f32⟩
  | 9 => ⟨S1x384x1, .f32⟩
  | 10 => ⟨S2x1x384x640, .f32⟩
  | 11 => ⟨S2x384x640, .f32⟩
  | 12 => ⟨S2x384x640, .f32⟩
  | 13 => ⟨S2x384x640, .f32⟩
  | 14 => ⟨S2x384x640, .f32⟩
  | 15 => ⟨S2x384x640, .f32⟩
  | 16 => ⟨S2x384x640, .f32⟩
  | 17 => ⟨S2x384x640, .f32⟩
  | 18 => ⟨S2x384x640, .i32⟩
  | 19 => ⟨S2x384x640, .i32⟩
  | 20 => ⟨S50x2x384x640, .f32⟩
  | 21 => ⟨S50x491520, .f32⟩
  | 22 => ⟨S2, .i32⟩
  | 23 => ⟨S_, .i32⟩
  | 24 => ⟨S2, .i32⟩
  | 25 => ⟨S2, .i32⟩
  | 26 => ⟨S2x1x1, .i32⟩
  | 27 => ⟨S_, .f32⟩
  | 28 => ⟨S50x491520, .f32⟩
  | 29 => ⟨S_, .f32⟩
  | 30 => ⟨S2x384x640, .f32⟩
  | 31 => ⟨S2x384x640, .f32⟩
  | 32 => ⟨S_, .f32⟩
  | 33 => ⟨S2x384x640, .f32⟩
  | 34 => ⟨S2x384x640, .f32⟩
  | 35 => ⟨S2x384x640, .f32⟩
  | 36 => ⟨S_, .i32⟩
  | 37 => ⟨S2x384x640, .i32⟩
  | 38 => ⟨S2x384x640, .i32⟩
  | 39 => ⟨S_, .f32⟩
  | 40 => ⟨S2x384x640, .f32⟩
  | 41 => ⟨S2x384x640, .f32⟩
  | 42 => ⟨S2x384x640, .f32⟩
  | 43 => ⟨S_, .i32⟩
  | 44 => ⟨S2x384x640, .i32⟩
  | 45 => ⟨S2x384x640, .i32⟩
  | 46 => ⟨S_, .f32⟩
  | 47 => ⟨S2x384x640, .f32⟩
  | 48 => ⟨S2x384x640, .f32⟩
  | 49 => ⟨S2x384x640, .f32⟩
  | 50 => ⟨S_, .i32⟩
  | 51 => ⟨S2x384x640, .i32⟩
  | 52 => ⟨S2x384x640, .i32⟩
  | 53 => ⟨S_, .i32⟩
  | 54 => ⟨S2x384x640, .i32⟩
  | 55 => ⟨S2x384x640, .i32⟩
  | 56 => ⟨S2x384x640, .f32⟩
  | 57 => ⟨S_, .i32⟩
  | 58 => ⟨S2x384x640, .i32⟩
  | 59 => ⟨S2x384x640, .i1⟩
  | 60 => ⟨S_, .i32⟩
  | 61 => ⟨S2x384x640, .i32⟩
  | 62 => ⟨S2x384x640, .i1⟩
  | 63 => ⟨S2x384x640, .i1⟩
  | 64 => ⟨S_, .i32⟩
  | 65 => ⟨S2x384x640, .i32⟩
  | 66 => ⟨S2x384x640, .i1⟩
  | 67 => ⟨S2x384x640, .i1⟩
  | 68 => ⟨S_, .i32⟩
  | 69 => ⟨S2x384x640, .i32⟩
  | 70 => ⟨S2x384x640, .i1⟩
  | 71 => ⟨S2x384x640, .i1⟩
  | 72 => ⟨S_, .i32⟩
  | 73 => ⟨S2x384x640, .i32⟩
  | 74 => ⟨S2x384x640, .i32⟩
  | 75 => ⟨S2x384x640, .i32⟩
  | 76 => ⟨S2x384x640, .i32⟩
  | 77 => ⟨S2x384x640, .i32⟩
  | 78 => ⟨S_, .i32⟩
  | 79 => ⟨S2x384x640, .i32⟩
  | 80 => ⟨S2x384x640, .i32⟩
  | 81 => ⟨S491520, .i32⟩
  | 82 => ⟨S_, .f32⟩
  | 83 => ⟨S2x384x640, .f32⟩
  | 84 => ⟨S2x384x640, .f32⟩
  | 85 => ⟨S491520, .f32⟩
  | 86 => ⟨S1x491520, .f32⟩
  | 87 => ⟨S50x491520, .f32⟩
  | 88 => ⟨S50x491520, .f32⟩
  | 89 => ⟨S_, .i32⟩
  | 90 => ⟨S491520, .i32⟩
  | 91 => ⟨S491520, .i1⟩
  | 92 => ⟨S_, .i32⟩
  | 93 => ⟨S491520, .i32⟩
  | 94 => ⟨S491520, .i32⟩
  | 95 => ⟨S491520, .i32⟩
  | 96 => ⟨S491520x1, .i32⟩
  | 97 => ⟨S50x491520, .f32⟩
  | 98 => ⟨S_, .i32⟩
  | 99 => ⟨S2x384x640, .i32⟩
  | 100 => ⟨S2x384x640, .i1⟩
  | 101 => ⟨S_, .i32⟩
  | 102 => ⟨S2x384x640, .i32⟩
  | 103 => ⟨S2x384x640, .i1⟩
  | 104 => ⟨S2x384x640, .i1⟩
  | 105 => ⟨S_, .i32⟩
  | 106 => ⟨S2x384x640, .i32⟩
  | 107 => ⟨S2x384x640, .i1⟩
  | 108 => ⟨S2x384x640, .i1⟩
  | 109 => ⟨S_, .i32⟩
  | 110 => ⟨S2x384x640, .i32⟩
  | 111 => ⟨S2x384x640, .i1⟩
  | 112 => ⟨S2x384x640, .i1⟩
  | 113 => ⟨S_, .i32⟩
  | 114 => ⟨S2x384x640, .i32⟩
  | 115 => ⟨S2x384x640, .i32⟩
  | 116 => ⟨S2x384x640, .i32⟩
  | 117 => ⟨S2x384x640, .i32⟩
  | 118 => ⟨S2x384x640, .i32⟩
  | 119 => ⟨S_, .i32⟩
  | 120 => ⟨S2x384x640, .i32⟩
  | 121 => ⟨S2x384x640, .i32⟩
  | 122 => ⟨S491520, .i32⟩
  | 123 => ⟨S_, .f32⟩
  | 124 => ⟨S2x384x640, .f32⟩
  | 125 => ⟨S2x384x640, .f32⟩
  | 126 => ⟨S491520, .f32⟩
  | 127 => ⟨S1x491520, .f32⟩
  | _ => ⟨S2x48x384x640, .f32⟩

abbrev hbmTy0_3 (i : Nat) : BufTy := match i % 128 with
  | 0 => ⟨S50x491520, .f32⟩
  | 1 => ⟨S50x491520, .f32⟩
  | 2 => ⟨S_, .i32⟩
  | 3 => ⟨S491520, .i32⟩
  | 4 => ⟨S491520, .i1⟩
  | 5 => ⟨S_, .i32⟩
  | 6 => ⟨S491520, .i32⟩
  | 7 => ⟨S491520, .i32⟩
  | 8 => ⟨S491520, .i32⟩
  | 9 => ⟨S491520x1, .i32⟩
  | 10 => ⟨S50x491520, .f32⟩
  | 11 => ⟨S_, .i32⟩
  | 12 => ⟨S2x384x640, .i32⟩
  | 13 => ⟨S2x384x640, .i1⟩
  | 14 => ⟨S_, .i32⟩
  | 15 => ⟨S2x384x640, .i32⟩
  | 16 => ⟨S2x384x640, .i1⟩
  | 17 => ⟨S2x384x640, .i1⟩
  | 18 => ⟨S_, .i32⟩
  | 19 => ⟨S2x384x640, .i32⟩
  | 20 => ⟨S2x384x640, .i1⟩
  | 21 => ⟨S2x384x640, .i1⟩
  | 22 => ⟨S_, .i32⟩
  | 23 => ⟨S2x384x640, .i32⟩
  | 24 => ⟨S2x384x640, .i1⟩
  | 25 => ⟨S2x384x640, .i1⟩
  | 26 => ⟨S_, .i32⟩
  | 27 => ⟨S2x384x640, .i32⟩
  | 28 => ⟨S2x384x640, .i32⟩
  | 29 => ⟨S2x384x640, .i32⟩
  | 30 => ⟨S2x384x640, .i32⟩
  | 31 => ⟨S2x384x640, .i32⟩
  | 32 => ⟨S_, .i32⟩
  | 33 => ⟨S2x384x640, .i32⟩
  | 34 => ⟨S2x384x640, .i32⟩
  | 35 => ⟨S491520, .i32⟩
  | 36 => ⟨S_, .f32⟩
  | 37 => ⟨S2x384x640, .f32⟩
  | 38 => ⟨S2x384x640, .f32⟩
  | 39 => ⟨S491520, .f32⟩
  | 40 => ⟨S1x491520, .f32⟩
  | 41 => ⟨S50x491520, .f32⟩
  | 42 => ⟨S50x491520, .f32⟩
  | 43 => ⟨S_, .i32⟩
  | 44 => ⟨S491520, .i32⟩
  | 45 => ⟨S491520, .i1⟩
  | 46 => ⟨S_, .i32⟩
  | 47 => ⟨S491520, .i32⟩
  | 48 => ⟨S491520, .i32⟩
  | 49 => ⟨S491520, .i32⟩
  | 50 => ⟨S491520x1, .i32⟩
  | 51 => ⟨S50x491520, .f32⟩
  | 52 => ⟨S_, .i32⟩
  | 53 => ⟨S2x384x640, .i32⟩
  | 54 => ⟨S2x384x640, .i1⟩
  | 55 => ⟨S_, .i32⟩
  | 56 => ⟨S2x384x640, .i32⟩
  | 57 => ⟨S2x384x640, .i1⟩
  | 58 => ⟨S2x384x640, .i1⟩
  | 59 => ⟨S_, .i32⟩
  | 60 => ⟨S2x384x640, .i32⟩
  | 61 => ⟨S2x384x640, .i1⟩
  | 62 => ⟨S2x384x640, .i1⟩
  | 63 => ⟨S_, .i32⟩
  | 64 => ⟨S2x384x640, .i32⟩
  | 65 => ⟨S2x384x640, .i1⟩
  | 66 => ⟨S2x384x640, .i1⟩
  | 67 => ⟨S_, .i32⟩
  | 68 => ⟨S2x384x640, .i32⟩
  | 69 => ⟨S2x384x640, .i32⟩
  | 70 => ⟨S2x384x640, .i32⟩
  | 71 => ⟨S2x384x640, .i32⟩
  | 72 => ⟨S2x384x640, .i32⟩
  | 73 => ⟨S_, .i32⟩
  | 74 => ⟨S2x384x640, .i32⟩
  | 75 => ⟨S2x384x640, .i32⟩
  | 76 => ⟨S491520, .i32⟩
  | 77 => ⟨S_, .f32⟩
  | 78 => ⟨S2x384x640, .f32⟩
  | 79 => ⟨S2x384x640, .f32⟩
  | 80 => ⟨S491520, .f32⟩
  | 81 => ⟨S1x491520, .f32⟩
  | 82 => ⟨S50x491520, .f32⟩
  | 83 => ⟨S50x491520, .f32⟩
  | 84 => ⟨S_, .i32⟩
  | 85 => ⟨S491520, .i32⟩
  | 86 => ⟨S491520, .i1⟩
  | 87 => ⟨S_, .i32⟩
  | 88 => ⟨S491520, .i32⟩
  | 89 => ⟨S491520, .i32⟩
  | 90 => ⟨S491520, .i32⟩
  | 91 => ⟨S491520x1, .i32⟩
  | 92 => ⟨S50x491520, .f32⟩
  | 93 => ⟨S50x2x384x640, .f32⟩
  | 94 => ⟨S2x50x384x640, .f32⟩
  | 95 => ⟨S2x49x384x640, .f32⟩
  | 96 => ⟨S2x1x384x640, .f32⟩
  | 97 => ⟨S_, .f32⟩
  | 98 => ⟨S2x1x384x640, .f32⟩
  | 99 => ⟨S2x1x384x640, .f32⟩
  | 100 => ⟨S2x49x384x640, .f32⟩
  | 101 => ⟨S2x49x384x640, .f32⟩
  | 102 => ⟨S_, .f32⟩
  | 103 => ⟨S2x1x384x640, .f32⟩
  | 104 => ⟨S_, .f32⟩
  | 105 => ⟨S2x1x384x640, .f32⟩
  | 106 => ⟨S2x2x384x640, .f32⟩
  | 107 => ⟨S640, .f32⟩
  | 108 => ⟨S1x1x640, .f32⟩
  | 109 => ⟨S2x1x384x640, .f32⟩
  | 110 => ⟨S2x384x640, .f32⟩
  | 111 => ⟨S2x384x640, .f32⟩
  | 112 => ⟨S2x384x640, .f32⟩
  | 113 => ⟨S384, .f32⟩
  | 114 => ⟨S1x384x1, .f32⟩
  | 115 => ⟨S2x1x384x640, .f32⟩
  | 116 => ⟨S2x384x640, .f32⟩
  | 117 => ⟨S2x384x640, .f32⟩
  | 118 => ⟨S2x384x640, .f32⟩
  | 119 => ⟨S2x384x640, .f32⟩
  | 120 => ⟨S2x384x640, .f32⟩
  | 121 => ⟨S2x384x640, .f32⟩
  | 122 => ⟨S2x384x640, .f32⟩
  | 123 => ⟨S2x384x640, .i32⟩
  | 124 => ⟨S2x384x640, .i32⟩
  | 125 => ⟨S2x2x384x640, .f32⟩
  | 126 => ⟨S2x491520, .f32⟩
  | 127 => ⟨S2, .i32⟩
  | _ => ⟨S2x48x384x640, .f32⟩

abbrev hbmTy0_4 (i : Nat) : BufTy := match i % 128 with
  | 0 => ⟨S_, .i32⟩
  | 1 => ⟨S2, .i32⟩
  | 2 => ⟨S2, .i32⟩
  | 3 => ⟨S2x1x1, .i32⟩
  | 4 => ⟨S_, .f32⟩
  | 5 => ⟨S2x491520, .f32⟩
  | 6 => ⟨S_, .f32⟩
  | 7 => ⟨S2x384x640, .f32⟩
  | 8 => ⟨S2x384x640, .f32⟩
  | 9 => ⟨S_, .f32⟩
  | 10 => ⟨S2x384x640, .f32⟩
  | 11 => ⟨S2x384x640, .f32⟩
  | 12 => ⟨S2x384x640, .f32⟩
  | 13 => ⟨S_, .i32⟩
  | 14 => ⟨S2x384x640, .i32⟩
  | 15 => ⟨S2x384x640, .i32⟩
  | 16 => ⟨S_, .f32⟩
  | 17 => ⟨S2x384x640, .f32⟩
  | 18 => ⟨S2x384x640, .f32⟩
  | 19 => ⟨S2x384x640, .f32⟩
  | 20 => ⟨S_, .i32⟩
  | 21 => ⟨S2x384x640, .i32⟩
  | 22 => ⟨S2x384x640, .i32⟩
  | 23 => ⟨S_, .f32⟩
  | 24 => ⟨S2x384x640, .f32⟩
  | 25 => ⟨S2x384x640, .f32⟩
  | 26 => ⟨S2x384x640, .f32⟩
  | 27 => ⟨S_, .i32⟩
  | 28 => ⟨S2x384x640, .i32⟩
  | 29 => ⟨S2x384x640, .i32⟩
  | 30 => ⟨S_, .i32⟩
  | 31 => ⟨S2x384x640, .i32⟩
  | 32 => ⟨S2x384x640, .i32⟩
  | 33 => ⟨S2x384x640, .f32⟩
  | 34 => ⟨S_, .i32⟩
  | 35 => ⟨S2x384x640, .i32⟩
  | 36 => ⟨S2x384x640, .i1⟩
  | 37 => ⟨S_, .i32⟩
  | 38 => ⟨S2x384x640, .i32⟩
  | 39 => ⟨S2x384x640, .i1⟩
  | 40 => ⟨S2x384x640, .i1⟩
  | 41 => ⟨S_, .i32⟩
  | 42 => ⟨S2x384x640, .i32⟩
  | 43 => ⟨S2x384x640, .i1⟩
  | 44 => ⟨S2x384x640, .i1⟩
  | 45 => ⟨S_, .i32⟩
  | 46 => ⟨S2x384x640, .i32⟩
  | 47 => ⟨S2x384x640, .i1⟩
  | 48 => ⟨S2x384x640, .i1⟩
  | 49 => ⟨S_, .i32⟩
  | 50 => ⟨S2x384x640, .i32⟩
  | 51 => ⟨S2x384x640, .i32⟩
  | 52 => ⟨S2x384x640, .i32⟩
  | 53 => ⟨S2x384x640, .i32⟩
  | 54 => ⟨S2x384x640, .i32⟩
  | 55 => ⟨S_, .i32⟩
  | 56 => ⟨S2x384x640, .i32⟩
  | 57 => ⟨S2x384x640, .i32⟩
  | 58 => ⟨S491520, .i32⟩
  | 59 => ⟨S_, .f32⟩
  | 60 => ⟨S2x384x640, .f32⟩
  | 61 => ⟨S2x384x640, .f32⟩
  | 62 => ⟨S491520, .f32⟩
  | 63 => ⟨S1x491520, .f32⟩
  | 64 => ⟨S2x491520, .f32⟩
  | 65 => ⟨S2x491520, .f32⟩
  | 66 => ⟨S_, .i32⟩
  | 67 => ⟨S491520, .i32⟩
  | 68 => ⟨S491520, .i1⟩
  | 69 => ⟨S_, .i32⟩
  | 70 => ⟨S491520, .i32⟩
  | 71 => ⟨S491520, .i32⟩
  | 72 => ⟨S491520, .i32⟩
  | 73 => ⟨S491520x1, .i32⟩
  | 74 => ⟨S2x491520, .f32⟩
  | 75 => ⟨S_, .i32⟩
  | 76 => ⟨S2x384x640, .i32⟩
  | 77 => ⟨S2x384x640, .i1⟩
  | 78 => ⟨S_, .i32⟩
  | 79 => ⟨S2x384x640, .i32⟩
  | 80 => ⟨S2x384x640, .i1⟩
  | 81 => ⟨S2x384x640, .i1⟩
  | 82 => ⟨S_, .i32⟩
  | 83 => ⟨S2x384x640, .i32⟩
  | 84 => ⟨S2x384x640, .i1⟩
  | 85 => ⟨S2x384x640, .i1⟩
  | 86 => ⟨S_, .i32⟩
  | 87 => ⟨S2x384x640, .i32⟩
  | 88 => ⟨S2x384x640, .i1⟩
  | 89 => ⟨S2x384x640, .i1⟩
  | 90 => ⟨S_, .i32⟩
  | 91 => ⟨S2x384x640, .i32⟩
  | 92 => ⟨S2x384x640, .i32⟩
  | 93 => ⟨S2x384x640, .i32⟩
  | 94 => ⟨S2x384x640, .i32⟩
  | 95 => ⟨S2x384x640, .i32⟩
  | 96 => ⟨S_, .i32⟩
  | 97 => ⟨S2x384x640, .i32⟩
  | 98 => ⟨S2x384x640, .i32⟩
  | 99 => ⟨S491520, .i32⟩
  | 100 => ⟨S_, .f32⟩
  | 101 => ⟨S2x384x640, .f32⟩
  | 102 => ⟨S2x384x640, .f32⟩
  | 103 => ⟨S491520, .f32⟩
  | 104 => ⟨S1x491520, .f32⟩
  | 105 => ⟨S2x491520, .f32⟩
  | 106 => ⟨S2x491520, .f32⟩
  | 107 => ⟨S_, .i32⟩
  | 108 => ⟨S491520, .i32⟩
  | 109 => ⟨S491520, .i1⟩
  | 110 => ⟨S_, .i32⟩
  | 111 => ⟨S491520, .i32⟩
  | 112 => ⟨S491520, .i32⟩
  | 113 => ⟨S491520, .i32⟩
  | 114 => ⟨S491520x1, .i32⟩
  | 115 => ⟨S2x491520, .f32⟩
  | 116 => ⟨S_, .i32⟩
  | 117 => ⟨S2x384x640, .i32⟩
  | 118 => ⟨S2x384x640, .i1⟩
  | 119 => ⟨S_, .i32⟩
  | 120 => ⟨S2x384x640, .i32⟩
  | 121 => ⟨S2x384x640, .i1⟩
  | 122 => ⟨S2x384x640, .i1⟩
  | 123 => ⟨S_, .i32⟩
  | 124 => ⟨S2x384x640, .i32⟩
  | 125 => ⟨S2x384x640, .i1⟩
  | 126 => ⟨S2x384x640, .i1⟩
  | 127 => ⟨S_, .i32⟩
  | _ => ⟨S2x48x384x640, .f32⟩

abbrev hbmTy0_5 (i : Nat) : BufTy := match i % 128 with
  | 0 => ⟨S2x384x640, .i32⟩
  | 1 => ⟨S2x384x640, .i1⟩
  | 2 => ⟨S2x384x640, .i1⟩
  | 3 => ⟨S_, .i32⟩
  | 4 => ⟨S2x384x640, .i32⟩
  | 5 => ⟨S2x384x640, .i32⟩
  | 6 => ⟨S2x384x640, .i32⟩
  | 7 => ⟨S2x384x640, .i32⟩
  | 8 => ⟨S2x384x640, .i32⟩
  | 9 => ⟨S_, .i32⟩
  | 10 => ⟨S2x384x640, .i32⟩
  | 11 => ⟨S2x384x640, .i32⟩
  | 12 => ⟨S491520, .i32⟩
  | 13 => ⟨S_, .f32⟩
  | 14 => ⟨S2x384x640, .f32⟩
  | 15 => ⟨S2x384x640, .f32⟩
  | 16 => ⟨S491520, .f32⟩
  | 17 => ⟨S1x491520, .f32⟩
  | 18 => ⟨S2x491520, .f32⟩
  | 19 => ⟨S2x491520, .f32⟩
  | 20 => ⟨S_, .i32⟩
  | 21 => ⟨S491520, .i32⟩
  | 22 => ⟨S491520, .i1⟩
  | 23 => ⟨S_, .i32⟩
  | 24 => ⟨S491520, .i32⟩
  | 25 => ⟨S491520, .i32⟩
  | 26 => ⟨S491520, .i32⟩
  | 27 => ⟨S491520x1, .i32⟩
  | 28 => ⟨S2x491520, .f32⟩
  | 29 => ⟨S_, .i32⟩
  | 30 => ⟨S2x384x640, .i32⟩
  | 31 => ⟨S2x384x640, .i1⟩
  | 32 => ⟨S_, .i32⟩
  | 33 => ⟨S2x384x640, .i32⟩
  | 34 => ⟨S2x384x640, .i1⟩
  | 35 => ⟨S2x384x640, .i1⟩
  | 36 => ⟨S_, .i32⟩
  | 37 => ⟨S2x384x640, .i32⟩
  | 38 => ⟨S2x384x640, .i1⟩
  | 39 => ⟨S2x384x640, .i1⟩
  | 40 => ⟨S_, .i32⟩
  | 41 => ⟨S2x384x640, .i32⟩
  | 42 => ⟨S2x384x640, .i1⟩
  | 43 => ⟨S2x384x640, .i1⟩
  | 44 => ⟨S_, .i32⟩
  | 45 => ⟨S2x384x640, .i32⟩
  | 46 => ⟨S2x384x640, .i32⟩
  | 47 => ⟨S2x384x640, .i32⟩
  | 48 => ⟨S2x384x640, .i32⟩
  | 49 => ⟨S2x384x640, .i32⟩
  | 50 => ⟨S_, .i32⟩
  | 51 => ⟨S2x384x640, .i32⟩
  | 52 => ⟨S2x384x640, .i32⟩
  | 53 => ⟨S491520, .i32⟩
  | 54 => ⟨S_, .f32⟩
  | 55 => ⟨S2x384x640, .f32⟩
  | 56 => ⟨S2x384x640, .f32⟩
  | 57 => ⟨S491520, .f32⟩
  | 58 => ⟨S1x491520, .f32⟩
  | 59 => ⟨S2x491520, .f32⟩
  | 60 => ⟨S2x491520, .f32⟩
  | 61 => ⟨S_, .i32⟩
  | 62 => ⟨S491520, .i32⟩
  | 63 => ⟨S491520, .i1⟩
  | 64 => ⟨S_, .i32⟩
  | 65 => ⟨S491520, .i32⟩
  | 66 => ⟨S491520, .i32⟩
  | 67 => ⟨S491520, .i32⟩
  | 68 => ⟨S491520x1, .i32⟩
  | 69 => ⟨S2x491520, .f32⟩
  | 70 => ⟨S2x2x384x640, .f32⟩
  | 71 => ⟨S2x2x384x640, .f32⟩
  | 72 => ⟨S2x1x384x640, .f32⟩
  | 73 => ⟨S2x1x384x640, .f32⟩
  | 74 => ⟨S_, .f32⟩
  | 75 => ⟨S2x1x384x640, .f32⟩
  | 76 => ⟨S2x1x384x640, .f32⟩
  | 77 => ⟨S2x1x384x640, .f32⟩
  | 78 => ⟨S_, .f32⟩
  | 79 => ⟨S2x1x384x640, .f32⟩
  | 80 => ⟨S2x1x384x640, .i1⟩
  | 81 => ⟨S_, .f32⟩
  | 82 => ⟨S2x1x384x640, .f32⟩
  | 83 => ⟨S_, .f32⟩
  | 84 => ⟨S2x1x384x640, .f32⟩
  | 85 => ⟨S2x1x384x640, .f32⟩
  | 86 => ⟨S_, .f32⟩
  | 87 => ⟨S2x1x384x640, .f32⟩
  | 88 => ⟨S_, .f32⟩
  | 89 => ⟨S2x1x384x640, .f32⟩
  | 90 => ⟨S2x2x384x640, .f32⟩
  | 91 => ⟨S640, .f32⟩
  | 92 => ⟨S1x1x640, .f32⟩
  | 93 => ⟨S2x1x384x640, .f32⟩
  | 94 => ⟨S2x384x640, .f32⟩
  | 95 => ⟨S2x384x640, .f32⟩
  | 96 => ⟨S2x384x640, .f32⟩
  | 97 => ⟨S384, .f32⟩
  | 98 => ⟨S1x384x1, .f32⟩
  | 99 => ⟨S2x1x384x640, .f32⟩
  | 100 => ⟨S2x384x640, .f32⟩
  | 101 => ⟨S2x384x640, .f32⟩
  | 102 => ⟨S2x384x640, .f32⟩
  | 103 => ⟨S2x384x640, .f32⟩
  | 104 => ⟨S2x384x640, .f32⟩
  | 105 => ⟨S2x384x640, .f32⟩
  | 106 => ⟨S2x384x640, .f32⟩
  | 107 => ⟨S2x384x640, .i32⟩
  | 108 => ⟨S2x384x640, .i32⟩
  | 109 => ⟨S2x2x384x640, .f32⟩
  | 110 => ⟨S2x491520, .f32⟩
  | 111 => ⟨S2, .i32⟩
  | 112 => ⟨S_, .i32⟩
  | 113 => ⟨S2, .i32⟩
  | 114 => ⟨S2, .i32⟩
  | 115 => ⟨S2x1x1, .i32⟩
  | 116 => ⟨S_, .f32⟩
  | 117 => ⟨S2x491520, .f32⟩
  | 118 => ⟨S_, .f32⟩
  | 119 => ⟨S2x384x640, .f32⟩
  | 120 => ⟨S2x384x640, .f32⟩
  | 121 => ⟨S_, .f32⟩
  | 122 => ⟨S2x384x640, .f32⟩
  | 123 => ⟨S2x384x640, .f32⟩
  | 124 => ⟨S2x384x640, .f32⟩
  | 125 => ⟨S_, .i32⟩
  | 126 => ⟨S2x384x640, .i32⟩
  | 127 => ⟨S2x384x640, .i32⟩
  | _ => ⟨S2x48x384x640, .f32⟩

abbrev hbmTy0_6 (i : Nat) : BufTy := match i % 128 with
  | 0 => ⟨S_, .f32⟩
  | 1 => ⟨S2x384x640, .f32⟩
  | 2 => ⟨S2x384x640, .f32⟩
  | 3 => ⟨S2x384x640, .f32⟩
  | 4 => ⟨S_, .i32⟩
  | 5 => ⟨S2x384x640, .i32⟩
  | 6 => ⟨S2x384x640, .i32⟩
  | 7 => ⟨S_, .f32⟩
  | 8 => ⟨S2x384x640, .f32⟩
  | 9 => ⟨S2x384x640, .f32⟩
  | 10 => ⟨S2x384x640, .f32⟩
  | 11 => ⟨S_, .i32⟩
  | 12 => ⟨S2x384x640, .i32⟩
  | 13 => ⟨S2x384x640, .i32⟩
  | 14 => ⟨S_, .i32⟩
  | 15 => ⟨S2x384x640, .i32⟩
  | 16 => ⟨S2x384x640, .i32⟩
  | 17 => ⟨S2x384x640, .f32⟩
  | 18 => ⟨S_, .i32⟩
  | 19 => ⟨S2x384x640, .i32⟩
  | 20 => ⟨S2x384x640, .i1⟩
  | 21 => ⟨S_, .i32⟩
  | 22 => ⟨S2x384x640, .i32⟩
  | 23 => ⟨S2x384x640, .i1⟩
  | 24 => ⟨S2x384x640, .i1⟩
  | 25 => ⟨S_, .i32⟩
  | 26 => ⟨S2x384x640, .i32⟩
  | 27 => ⟨S2x384x640, .i1⟩
  | 28 => ⟨S2x384x640, .i1⟩
  | 29 => ⟨S_, .i32⟩
  | 30 => ⟨S2x384x640, .i32⟩
  | 31 => ⟨S2x384x640, .i1⟩
  | 32 => ⟨S2x384x640, .i1⟩
  | 33 => ⟨S_, .i32⟩
  | 34 => ⟨S2x384x640, .i32⟩
  | 35 => ⟨S2x384x640, .i32⟩
  | 36 => ⟨S2x384x640, .i32⟩
  | 37 => ⟨S2x384x640, .i32⟩
  | 38 => ⟨S2x384x640, .i32⟩
  | 39 => ⟨S_, .i32⟩
  | 40 => ⟨S2x384x640, .i32⟩
  | 41 => ⟨S2x384x640, .i32⟩
  | 42 => ⟨S491520, .i32⟩
  | 43 => ⟨S_, .f32⟩
  | 44 => ⟨S2x384x640, .f32⟩
  | 45 => ⟨S2x384x640, .f32⟩
  | 46 => ⟨S491520, .f32⟩
  | 47 => ⟨S1x491520, .f32⟩
  | 48 => ⟨S2x491520, .f32⟩
  | 49 => ⟨S2x491520, .f32⟩
  | 50 => ⟨S_, .i32⟩
  | 51 => ⟨S491520, .i32⟩
  | 52 => ⟨S491520, .i1⟩
  | 53 => ⟨S_, .i32⟩
  | 54 => ⟨S491520, .i32⟩
  | 55 => ⟨S491520, .i32⟩
  | 56 => ⟨S491520, .i32⟩
  | 57 => ⟨S491520x1, .i32⟩
  | 58 => ⟨S2x491520, .f32⟩
  | 59 => ⟨S_, .i32⟩
  | 60 => ⟨S2x384x640, .i32⟩
  | 61 => ⟨S2x384x640, .i1⟩
  | 62 => ⟨S_, .i32⟩
  | 63 => ⟨S2x384x640, .i32⟩
  | 64 => ⟨S2x384x640, .i1⟩
  | 65 => ⟨S2x384x640, .i1⟩
  | 66 => ⟨S_, .i32⟩
  | 67 => ⟨S2x384x640, .i32⟩
  | 68 => ⟨S2x384x640, .i1⟩
  | 69 => ⟨S2x384x640, .i1⟩
  | 70 => ⟨S_, .i32⟩
  | 71 => ⟨S2x384x640, .i32⟩
  | 72 => ⟨S2x384x640, .i1⟩
  | 73 => ⟨S2x384x640, .i1⟩
  | 74 => ⟨S_, .i32⟩
  | 75 => ⟨S2x384x640, .i32⟩
  | 76 => ⟨S2x384x640, .i32⟩
  | 77 => ⟨S2x384x640, .i32⟩
  | 78 => ⟨S2x384x640, .i32⟩
  | 79 => ⟨S2x384x640, .i32⟩
  | 80 => ⟨S_, .i32⟩
  | 81 => ⟨S2x384x640, .i32⟩
  | 82 => ⟨S2x384x640, .i32⟩
  | 83 => ⟨S491520, .i32⟩
  | 84 => ⟨S_, .f32⟩
  | 85 => ⟨S2x384x640, .f32⟩
  | 86 => ⟨S2x384x640, .f32⟩
  | 87 => ⟨S491520, .f32⟩
  | 88 => ⟨S1x491520, .f32⟩
  | 89 => ⟨S2x491520, .f32⟩
  | 90 => ⟨S2x491520, .f32⟩
  | 91 => ⟨S_, .i32⟩
  | 92 => ⟨S491520, .i32⟩
  | 93 => ⟨S491520, .i1⟩
  | 94 => ⟨S_, .i32⟩
  | 95 => ⟨S491520, .i32⟩
  | 96 => ⟨S491520, .i32⟩
  | 97 => ⟨S491520, .i32⟩
  | 98 => ⟨S491520x1, .i32⟩
  | 99 => ⟨S2x491520, .f32⟩
  | 100 => ⟨S_, .i32⟩
  | 101 => ⟨S2x384x640, .i32⟩
  | 102 => ⟨S2x384x640, .i1⟩
  | 103 => ⟨S_, .i32⟩
  | 104 => ⟨S2x384x640, .i32⟩
  | 105 => ⟨S2x384x640, .i1⟩
  | 106 => ⟨S2x384x640, .i1⟩
  | 107 => ⟨S_, .i32⟩
  | 108 => ⟨S2x384x640, .i32⟩
  | 109 => ⟨S2x384x640, .i1⟩
  | 110 => ⟨S2x384x640, .i1⟩
  | 111 => ⟨S_, .i32⟩
  | 112 => ⟨S2x384x640, .i32⟩
  | 113 => ⟨S2x384x640, .i1⟩
  | 114 => ⟨S2x384x640, .i1⟩
  | 115 => ⟨S_, .i32⟩
  | 116 => ⟨S2x384x640, .i32⟩
  | 117 => ⟨S2x384x640, .i32⟩
  | 118 => ⟨S2x384x640, .i32⟩
  | 119 => ⟨S2x384x640, .i32⟩
  | 120 => ⟨S2x384x640, .i32⟩
  | 121 => ⟨S_, .i32⟩
  | 122 => ⟨S2x384x640, .i32⟩
  | 123 => ⟨S2x384x640, .i32⟩
  | 124 => ⟨S491520, .i32⟩
  | 125 => ⟨S_, .f32⟩
  | 126 => ⟨S2x384x640, .f32⟩
  | 127 => ⟨S2x384x640, .f32⟩
  | _ => ⟨S2x48x384x640, .f32⟩

abbrev hbmTy0_7 (i : Nat) : BufTy := match i % 128 with
  | 0 => ⟨S491520, .f32⟩
  | 1 => ⟨S1x491520, .f32⟩
  | 2 => ⟨S2x491520, .f32⟩
  | 3 => ⟨S2x491520, .f32⟩
  | 4 => ⟨S_, .i32⟩
  | 5 => ⟨S491520, .i32⟩
  | 6 => ⟨S491520, .i1⟩
  | 7 => ⟨S_, .i32⟩
  | 8 => ⟨S491520, .i32⟩
  | 9 => ⟨S491520, .i32⟩
  | 10 => ⟨S491520, .i32⟩
  | 11 => ⟨S491520x1, .i32⟩
  | 12 => ⟨S2x491520, .f32⟩
  | 13 => ⟨S_, .i32⟩
  | 14 => ⟨S2x384x640, .i32⟩
  | 15 => ⟨S2x384x640, .i1⟩
  | 16 => ⟨S_, .i32⟩
  | 17 => ⟨S2x384x640, .i32⟩
  | 18 => ⟨S2x384x640, .i1⟩
  | 19 => ⟨S2x384x640, .i1⟩
  | 20 => ⟨S_, .i32⟩
  | 21 => ⟨S2x384x640, .i32⟩
  | 22 => ⟨S2x384x640, .i1⟩
  | 23 => ⟨S2x384x640, .i1⟩
  | 24 => ⟨S_, .i32⟩
  | 25 => ⟨S2x384x640, .i32⟩
  | 26 => ⟨S2x384x640, .i1⟩
  | 27 => ⟨S2x384x640, .i1⟩
  | 28 => ⟨S_, .i32⟩
  | 29 => ⟨S2x384x640, .i32⟩
  | 30 => ⟨S2x384x640, .i32⟩
  | 31 => ⟨S2x384x640, .i32⟩
  | 32 => ⟨S2x384x640, .i32⟩
  | 33 => ⟨S2x384x640, .i32⟩
  | 34 => ⟨S_, .i32⟩
  | 35 => ⟨S2x384x640, .i32⟩
  | 36 => ⟨S2x384x640, .i32⟩
  | 37 => ⟨S491520, .i32⟩
  | 38 => ⟨S_, .f32⟩
  | 39 => ⟨S2x384x640, .f32⟩
  | 40 => ⟨S2x384x640, .f32⟩
  | 41 => ⟨S491520, .f32⟩
  | 42 => ⟨S1x491520, .f32⟩
  | 43 => ⟨S2x491520, .f32⟩
  | 44 => ⟨S2x491520, .f32⟩
  | 45 => ⟨S_, .i32⟩
  | 46 => ⟨S491520, .i32⟩
  | 47 => ⟨S491520, .i1⟩
  | 48 => ⟨S_, .i32⟩
  | 49 => ⟨S491520, .i32⟩
  | 50 => ⟨S491520, .i32⟩
  | 51 => ⟨S491520, .i32⟩
  | 52 => ⟨S491520x1, .i32⟩
  | 53 => ⟨S2x491520, .f32⟩
  | 54 => ⟨S2x2x384x640, .f32⟩
  | 55 => ⟨S2x2x384x640, .f32⟩
  | 56 => ⟨S2x1x384x640, .f32⟩
  | 57 => ⟨S2x1x384x640, .f32⟩
  | 58 => ⟨S_, .f32⟩
  | 59 => ⟨S2x1x384x640, .f32⟩
  | 60 => ⟨S2x1x384x640, .f32⟩
  | 61 => ⟨S2x1x384x640, .f32⟩
  | 62 => ⟨S_, .f32⟩
  | 63 => ⟨S2x1x384x640, .f32⟩
  | 64 => ⟨S2x1x384x640, .i1⟩
  | 65 => ⟨S_, .f32⟩
  | 66 => ⟨S2x1x384x640, .f32⟩
  | 67 => ⟨S_, .f32⟩
  | 68 => ⟨S2x1x384x640, .f32⟩
  | 69 => ⟨S2x1x384x640, .f32⟩
  | _ => ⟨S2x48x384x640, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S2x48x384x640, .f32⟩

abbrev bufTy : (tb : Table) → Fin (tcTables nBuf tb) → BufTy
  | .hbm, ⟨i, _⟩ => hbmTy i
  | _, _ => ⟨S2x48x384x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_c : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_1 : Ref sig .tc := ⟨.hbm, 43, rfl⟩
abbrev main_v34 : Ref sig .tc := ⟨.hbm, 44, rfl⟩
abbrev main_cst_2 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_c_4 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c_6 : Ref sig .tc := ⟨.hbm, 59, rfl⟩
abbrev main_v45 : Ref sig .tc := ⟨.hbm, 60, rfl⟩
abbrev main_v46 : Ref sig .tc := ⟨.hbm, 61, rfl⟩
abbrev main_cst_7 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_c_8 : Ref sig .tc := ⟨.hbm, 66, rfl⟩
abbrev main_v50 : Ref sig .tc := ⟨.hbm, 67, rfl⟩
abbrev main_v51 : Ref sig .tc := ⟨.hbm, 68, rfl⟩
abbrev main_c_9 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_c_10 : Ref sig .tc := ⟨.hbm, 73, rfl⟩
abbrev main_v55 : Ref sig .tc := ⟨.hbm, 74, rfl⟩
abbrev main_v56 : Ref sig .tc := ⟨.hbm, 75, rfl⟩
abbrev main_c_11 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_c_12 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_c_13 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_c_14 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_c_15 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_16 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_c_17 : Ref sig .tc := ⟨.hbm, 105, rfl⟩
abbrev main_v80 : Ref sig .tc := ⟨.hbm, 106, rfl⟩
abbrev main_v81 : Ref sig .tc := ⟨.hbm, 107, rfl⟩
abbrev main_c_18 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_c_19 : Ref sig .tc := ⟨.hbm, 114, rfl⟩
abbrev main_v87 : Ref sig .tc := ⟨.hbm, 115, rfl⟩
abbrev main_v88 : Ref sig .tc := ⟨.hbm, 116, rfl⟩
abbrev main_c_20 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_c_21 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_c_22 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_c_23 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_c_24 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_cst_25 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_c_26 : Ref sig .tc := ⟨.hbm, 146, rfl⟩
abbrev main_v112 : Ref sig .tc := ⟨.hbm, 147, rfl⟩
abbrev main_v113 : Ref sig .tc := ⟨.hbm, 148, rfl⟩
abbrev main_c_27 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_c_28 : Ref sig .tc := ⟨.hbm, 155, rfl⟩
abbrev main_v119 : Ref sig .tc := ⟨.hbm, 156, rfl⟩
abbrev main_v120 : Ref sig .tc := ⟨.hbm, 157, rfl⟩
abbrev main_c_29 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_c_30 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_c_31 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_c_32 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_c_33 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_cst_34 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_c_35 : Ref sig .tc := ⟨.hbm, 187, rfl⟩
abbrev main_v144 : Ref sig .tc := ⟨.hbm, 188, rfl⟩
abbrev main_v145 : Ref sig .tc := ⟨.hbm, 189, rfl⟩
abbrev main_c_36 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_c_37 : Ref sig .tc := ⟨.hbm, 196, rfl⟩
abbrev main_v151 : Ref sig .tc := ⟨.hbm, 197, rfl⟩
abbrev main_v152 : Ref sig .tc := ⟨.hbm, 198, rfl⟩
abbrev main_c_38 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_c_39 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_c_40 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_c_41 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_c_42 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_cst_43 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_c_44 : Ref sig .tc := ⟨.hbm, 228, rfl⟩
abbrev main_v176 : Ref sig .tc := ⟨.hbm, 229, rfl⟩
abbrev main_v177 : Ref sig .tc := ⟨.hbm, 230, rfl⟩
abbrev main_c_45 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_cst_46 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_cst_47 : Ref sig .tc := ⟨.hbm, 248, rfl⟩
abbrev main_v193 : Ref sig .tc := ⟨.hbm, 249, rfl⟩
abbrev main_v194 : Ref sig .tc := ⟨.hbm, 250, rfl⟩
abbrev main_cst_48 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩
abbrev main_v198 : Ref sig .tc := ⟨.hbm, 255, rfl⟩
abbrev main_v199 : Ref sig .tc := ⟨.hbm, 256, rfl⟩
abbrev main_v200 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_v209 : Ref sig .tc := ⟨.hbm, 266, rfl⟩
abbrev main_v210 : Ref sig .tc := ⟨.hbm, 267, rfl⟩
abbrev main_v211 : Ref sig .tc := ⟨.hbm, 268, rfl⟩
abbrev main_v212 : Ref sig .tc := ⟨.hbm, 269, rfl⟩
abbrev main_v213 : Ref sig .tc := ⟨.hbm, 270, rfl⟩
abbrev main_v214 : Ref sig .tc := ⟨.hbm, 271, rfl⟩
abbrev main_v215 : Ref sig .tc := ⟨.hbm, 272, rfl⟩
abbrev main_v216 : Ref sig .tc := ⟨.hbm, 273, rfl⟩
abbrev main_v217 : Ref sig .tc := ⟨.hbm, 274, rfl⟩
abbrev main_v218 : Ref sig .tc := ⟨.hbm, 275, rfl⟩
abbrev main_v219 : Ref sig .tc := ⟨.hbm, 276, rfl⟩
abbrev main_v220 : Ref sig .tc := ⟨.hbm, 277, rfl⟩
abbrev main_v221 : Ref sig .tc := ⟨.hbm, 278, rfl⟩
abbrev main_c_49 : Ref sig .tc := ⟨.hbm, 279, rfl⟩
abbrev main_v222 : Ref sig .tc := ⟨.hbm, 280, rfl⟩
abbrev main_v223 : Ref sig .tc := ⟨.hbm, 281, rfl⟩
abbrev main_v224 : Ref sig .tc := ⟨.hbm, 282, rfl⟩
abbrev main_cst_50 : Ref sig .tc := ⟨.hbm, 283, rfl⟩
abbrev main_v225 : Ref sig .tc := ⟨.hbm, 284, rfl⟩
abbrev main_cst_51 : Ref sig .tc := ⟨.hbm, 285, rfl⟩
abbrev main_v226 : Ref sig .tc := ⟨.hbm, 286, rfl⟩
abbrev main_v227 : Ref sig .tc := ⟨.hbm, 287, rfl⟩
abbrev main_cst_52 : Ref sig .tc := ⟨.hbm, 288, rfl⟩
abbrev main_v228 : Ref sig .tc := ⟨.hbm, 289, rfl⟩
abbrev main_v229 : Ref sig .tc := ⟨.hbm, 290, rfl⟩
abbrev main_v230 : Ref sig .tc := ⟨.hbm, 291, rfl⟩
abbrev main_c_53 : Ref sig .tc := ⟨.hbm, 292, rfl⟩
abbrev main_v231 : Ref sig .tc := ⟨.hbm, 293, rfl⟩
abbrev main_v232 : Ref sig .tc := ⟨.hbm, 294, rfl⟩
abbrev main_cst_54 : Ref sig .tc := ⟨.hbm, 295, rfl⟩
abbrev main_v233 : Ref sig .tc := ⟨.hbm, 296, rfl⟩
abbrev main_v234 : Ref sig .tc := ⟨.hbm, 297, rfl⟩
abbrev main_v235 : Ref sig .tc := ⟨.hbm, 298, rfl⟩
abbrev main_c_55 : Ref sig .tc := ⟨.hbm, 299, rfl⟩
abbrev main_v236 : Ref sig .tc := ⟨.hbm, 300, rfl⟩
abbrev main_v237 : Ref sig .tc := ⟨.hbm, 301, rfl⟩
abbrev main_cst_56 : Ref sig .tc := ⟨.hbm, 302, rfl⟩
abbrev main_v238 : Ref sig .tc := ⟨.hbm, 303, rfl⟩
abbrev main_v239 : Ref sig .tc := ⟨.hbm, 304, rfl⟩
abbrev main_v240 : Ref sig .tc := ⟨.hbm, 305, rfl⟩
abbrev main_c_57 : Ref sig .tc := ⟨.hbm, 306, rfl⟩
abbrev main_v241 : Ref sig .tc := ⟨.hbm, 307, rfl⟩
abbrev main_v242 : Ref sig .tc := ⟨.hbm, 308, rfl⟩
abbrev main_c_58 : Ref sig .tc := ⟨.hbm, 309, rfl⟩
abbrev main_v243 : Ref sig .tc := ⟨.hbm, 310, rfl⟩
abbrev main_v244 : Ref sig .tc := ⟨.hbm, 311, rfl⟩
abbrev main_v245 : Ref sig .tc := ⟨.hbm, 312, rfl⟩
abbrev main_c_59 : Ref sig .tc := ⟨.hbm, 313, rfl⟩
abbrev main_v246 : Ref sig .tc := ⟨.hbm, 314, rfl⟩
abbrev main_v247 : Ref sig .tc := ⟨.hbm, 315, rfl⟩
abbrev main_c_60 : Ref sig .tc := ⟨.hbm, 316, rfl⟩
abbrev main_v248 : Ref sig .tc := ⟨.hbm, 317, rfl⟩
abbrev main_v249 : Ref sig .tc := ⟨.hbm, 318, rfl⟩
abbrev main_v250 : Ref sig .tc := ⟨.hbm, 319, rfl⟩
abbrev main_c_61 : Ref sig .tc := ⟨.hbm, 320, rfl⟩
abbrev main_v251 : Ref sig .tc := ⟨.hbm, 321, rfl⟩
abbrev main_v252 : Ref sig .tc := ⟨.hbm, 322, rfl⟩
abbrev main_v253 : Ref sig .tc := ⟨.hbm, 323, rfl⟩
abbrev main_c_62 : Ref sig .tc := ⟨.hbm, 324, rfl⟩
abbrev main_v254 : Ref sig .tc := ⟨.hbm, 325, rfl⟩
abbrev main_v255 : Ref sig .tc := ⟨.hbm, 326, rfl⟩
abbrev main_v256 : Ref sig .tc := ⟨.hbm, 327, rfl⟩
abbrev main_c_63 : Ref sig .tc := ⟨.hbm, 328, rfl⟩
abbrev main_v257 : Ref sig .tc := ⟨.hbm, 329, rfl⟩
abbrev main_v258 : Ref sig .tc := ⟨.hbm, 330, rfl⟩
abbrev main_v259 : Ref sig .tc := ⟨.hbm, 331, rfl⟩
abbrev main_v260 : Ref sig .tc := ⟨.hbm, 332, rfl⟩
abbrev main_v261 : Ref sig .tc := ⟨.hbm, 333, rfl⟩
abbrev main_c_64 : Ref sig .tc := ⟨.hbm, 334, rfl⟩
abbrev main_v262 : Ref sig .tc := ⟨.hbm, 335, rfl⟩
abbrev main_v263 : Ref sig .tc := ⟨.hbm, 336, rfl⟩
abbrev main_v264 : Ref sig .tc := ⟨.hbm, 337, rfl⟩
abbrev main_cst_65 : Ref sig .tc := ⟨.hbm, 338, rfl⟩
abbrev main_v265 : Ref sig .tc := ⟨.hbm, 339, rfl⟩
abbrev main_v266 : Ref sig .tc := ⟨.hbm, 340, rfl⟩
abbrev main_v267 : Ref sig .tc := ⟨.hbm, 341, rfl⟩
abbrev main_v268 : Ref sig .tc := ⟨.hbm, 342, rfl⟩
abbrev main_v269 : Ref sig .tc := ⟨.hbm, 343, rfl⟩
abbrev main_v270 : Ref sig .tc := ⟨.hbm, 344, rfl⟩
abbrev main_c_66 : Ref sig .tc := ⟨.hbm, 345, rfl⟩
abbrev main_v271 : Ref sig .tc := ⟨.hbm, 346, rfl⟩
abbrev main_v272 : Ref sig .tc := ⟨.hbm, 347, rfl⟩
abbrev main_c_67 : Ref sig .tc := ⟨.hbm, 348, rfl⟩
abbrev main_v273 : Ref sig .tc := ⟨.hbm, 349, rfl⟩
abbrev main_v274 : Ref sig .tc := ⟨.hbm, 350, rfl⟩
abbrev main_v275 : Ref sig .tc := ⟨.hbm, 351, rfl⟩
abbrev main_v276 : Ref sig .tc := ⟨.hbm, 352, rfl⟩
abbrev main_v277 : Ref sig .tc := ⟨.hbm, 353, rfl⟩
abbrev main_c_68 : Ref sig .tc := ⟨.hbm, 354, rfl⟩
abbrev main_v278 : Ref sig .tc := ⟨.hbm, 355, rfl⟩
abbrev main_v279 : Ref sig .tc := ⟨.hbm, 356, rfl⟩
abbrev main_c_69 : Ref sig .tc := ⟨.hbm, 357, rfl⟩
abbrev main_v280 : Ref sig .tc := ⟨.hbm, 358, rfl⟩
abbrev main_v281 : Ref sig .tc := ⟨.hbm, 359, rfl⟩
abbrev main_v282 : Ref sig .tc := ⟨.hbm, 360, rfl⟩
abbrev main_c_70 : Ref sig .tc := ⟨.hbm, 361, rfl⟩
abbrev main_v283 : Ref sig .tc := ⟨.hbm, 362, rfl⟩
abbrev main_v284 : Ref sig .tc := ⟨.hbm, 363, rfl⟩
abbrev main_v285 : Ref sig .tc := ⟨.hbm, 364, rfl⟩
abbrev main_c_71 : Ref sig .tc := ⟨.hbm, 365, rfl⟩
abbrev main_v286 : Ref sig .tc := ⟨.hbm, 366, rfl⟩
abbrev main_v287 : Ref sig .tc := ⟨.hbm, 367, rfl⟩
abbrev main_v288 : Ref sig .tc := ⟨.hbm, 368, rfl⟩
abbrev main_c_72 : Ref sig .tc := ⟨.hbm, 369, rfl⟩
abbrev main_v289 : Ref sig .tc := ⟨.hbm, 370, rfl⟩
abbrev main_v290 : Ref sig .tc := ⟨.hbm, 371, rfl⟩
abbrev main_v291 : Ref sig .tc := ⟨.hbm, 372, rfl⟩
abbrev main_v292 : Ref sig .tc := ⟨.hbm, 373, rfl⟩
abbrev main_v293 : Ref sig .tc := ⟨.hbm, 374, rfl⟩
abbrev main_c_73 : Ref sig .tc := ⟨.hbm, 375, rfl⟩
abbrev main_v294 : Ref sig .tc := ⟨.hbm, 376, rfl⟩
abbrev main_v295 : Ref sig .tc := ⟨.hbm, 377, rfl⟩
abbrev main_v296 : Ref sig .tc := ⟨.hbm, 378, rfl⟩
abbrev main_cst_74 : Ref sig .tc := ⟨.hbm, 379, rfl⟩
abbrev main_v297 : Ref sig .tc := ⟨.hbm, 380, rfl⟩
abbrev main_v298 : Ref sig .tc := ⟨.hbm, 381, rfl⟩
abbrev main_v299 : Ref sig .tc := ⟨.hbm, 382, rfl⟩
abbrev main_v300 : Ref sig .tc := ⟨.hbm, 383, rfl⟩
abbrev main_v301 : Ref sig .tc := ⟨.hbm, 384, rfl⟩
abbrev main_v302 : Ref sig .tc := ⟨.hbm, 385, rfl⟩
abbrev main_c_75 : Ref sig .tc := ⟨.hbm, 386, rfl⟩
abbrev main_v303 : Ref sig .tc := ⟨.hbm, 387, rfl⟩
abbrev main_v304 : Ref sig .tc := ⟨.hbm, 388, rfl⟩
abbrev main_c_76 : Ref sig .tc := ⟨.hbm, 389, rfl⟩
abbrev main_v305 : Ref sig .tc := ⟨.hbm, 390, rfl⟩
abbrev main_v306 : Ref sig .tc := ⟨.hbm, 391, rfl⟩
abbrev main_v307 : Ref sig .tc := ⟨.hbm, 392, rfl⟩
abbrev main_v308 : Ref sig .tc := ⟨.hbm, 393, rfl⟩
abbrev main_v309 : Ref sig .tc := ⟨.hbm, 394, rfl⟩
abbrev main_c_77 : Ref sig .tc := ⟨.hbm, 395, rfl⟩
abbrev main_v310 : Ref sig .tc := ⟨.hbm, 396, rfl⟩
abbrev main_v311 : Ref sig .tc := ⟨.hbm, 397, rfl⟩
abbrev main_c_78 : Ref sig .tc := ⟨.hbm, 398, rfl⟩
abbrev main_v312 : Ref sig .tc := ⟨.hbm, 399, rfl⟩
abbrev main_v313 : Ref sig .tc := ⟨.hbm, 400, rfl⟩
abbrev main_v314 : Ref sig .tc := ⟨.hbm, 401, rfl⟩
abbrev main_c_79 : Ref sig .tc := ⟨.hbm, 402, rfl⟩
abbrev main_v315 : Ref sig .tc := ⟨.hbm, 403, rfl⟩
abbrev main_v316 : Ref sig .tc := ⟨.hbm, 404, rfl⟩
abbrev main_v317 : Ref sig .tc := ⟨.hbm, 405, rfl⟩
abbrev main_c_80 : Ref sig .tc := ⟨.hbm, 406, rfl⟩
abbrev main_v318 : Ref sig .tc := ⟨.hbm, 407, rfl⟩
abbrev main_v319 : Ref sig .tc := ⟨.hbm, 408, rfl⟩
abbrev main_v320 : Ref sig .tc := ⟨.hbm, 409, rfl⟩
abbrev main_c_81 : Ref sig .tc := ⟨.hbm, 410, rfl⟩
abbrev main_v321 : Ref sig .tc := ⟨.hbm, 411, rfl⟩
abbrev main_v322 : Ref sig .tc := ⟨.hbm, 412, rfl⟩
abbrev main_v323 : Ref sig .tc := ⟨.hbm, 413, rfl⟩
abbrev main_v324 : Ref sig .tc := ⟨.hbm, 414, rfl⟩
abbrev main_v325 : Ref sig .tc := ⟨.hbm, 415, rfl⟩
abbrev main_c_82 : Ref sig .tc := ⟨.hbm, 416, rfl⟩
abbrev main_v326 : Ref sig .tc := ⟨.hbm, 417, rfl⟩
abbrev main_v327 : Ref sig .tc := ⟨.hbm, 418, rfl⟩
abbrev main_v328 : Ref sig .tc := ⟨.hbm, 419, rfl⟩
abbrev main_cst_83 : Ref sig .tc := ⟨.hbm, 420, rfl⟩
abbrev main_v329 : Ref sig .tc := ⟨.hbm, 421, rfl⟩
abbrev main_v330 : Ref sig .tc := ⟨.hbm, 422, rfl⟩
abbrev main_v331 : Ref sig .tc := ⟨.hbm, 423, rfl⟩
abbrev main_v332 : Ref sig .tc := ⟨.hbm, 424, rfl⟩
abbrev main_v333 : Ref sig .tc := ⟨.hbm, 425, rfl⟩
abbrev main_v334 : Ref sig .tc := ⟨.hbm, 426, rfl⟩
abbrev main_c_84 : Ref sig .tc := ⟨.hbm, 427, rfl⟩
abbrev main_v335 : Ref sig .tc := ⟨.hbm, 428, rfl⟩
abbrev main_v336 : Ref sig .tc := ⟨.hbm, 429, rfl⟩
abbrev main_c_85 : Ref sig .tc := ⟨.hbm, 430, rfl⟩
abbrev main_v337 : Ref sig .tc := ⟨.hbm, 431, rfl⟩
abbrev main_v338 : Ref sig .tc := ⟨.hbm, 432, rfl⟩
abbrev main_v339 : Ref sig .tc := ⟨.hbm, 433, rfl⟩
abbrev main_v340 : Ref sig .tc := ⟨.hbm, 434, rfl⟩
abbrev main_v341 : Ref sig .tc := ⟨.hbm, 435, rfl⟩
abbrev main_c_86 : Ref sig .tc := ⟨.hbm, 436, rfl⟩
abbrev main_v342 : Ref sig .tc := ⟨.hbm, 437, rfl⟩
abbrev main_v343 : Ref sig .tc := ⟨.hbm, 438, rfl⟩
abbrev main_c_87 : Ref sig .tc := ⟨.hbm, 439, rfl⟩
abbrev main_v344 : Ref sig .tc := ⟨.hbm, 440, rfl⟩
abbrev main_v345 : Ref sig .tc := ⟨.hbm, 441, rfl⟩
abbrev main_v346 : Ref sig .tc := ⟨.hbm, 442, rfl⟩
abbrev main_c_88 : Ref sig .tc := ⟨.hbm, 443, rfl⟩
abbrev main_v347 : Ref sig .tc := ⟨.hbm, 444, rfl⟩
abbrev main_v348 : Ref sig .tc := ⟨.hbm, 445, rfl⟩
abbrev main_v349 : Ref sig .tc := ⟨.hbm, 446, rfl⟩
abbrev main_c_89 : Ref sig .tc := ⟨.hbm, 447, rfl⟩
abbrev main_v350 : Ref sig .tc := ⟨.hbm, 448, rfl⟩
abbrev main_v351 : Ref sig .tc := ⟨.hbm, 449, rfl⟩
abbrev main_v352 : Ref sig .tc := ⟨.hbm, 450, rfl⟩
abbrev main_c_90 : Ref sig .tc := ⟨.hbm, 451, rfl⟩
abbrev main_v353 : Ref sig .tc := ⟨.hbm, 452, rfl⟩
abbrev main_v354 : Ref sig .tc := ⟨.hbm, 453, rfl⟩
abbrev main_v355 : Ref sig .tc := ⟨.hbm, 454, rfl⟩
abbrev main_v356 : Ref sig .tc := ⟨.hbm, 455, rfl⟩
abbrev main_v357 : Ref sig .tc := ⟨.hbm, 456, rfl⟩
abbrev main_c_91 : Ref sig .tc := ⟨.hbm, 457, rfl⟩
abbrev main_v358 : Ref sig .tc := ⟨.hbm, 458, rfl⟩
abbrev main_v359 : Ref sig .tc := ⟨.hbm, 459, rfl⟩
abbrev main_v360 : Ref sig .tc := ⟨.hbm, 460, rfl⟩
abbrev main_cst_92 : Ref sig .tc := ⟨.hbm, 461, rfl⟩
abbrev main_v361 : Ref sig .tc := ⟨.hbm, 462, rfl⟩
abbrev main_v362 : Ref sig .tc := ⟨.hbm, 463, rfl⟩
abbrev main_v363 : Ref sig .tc := ⟨.hbm, 464, rfl⟩
abbrev main_v364 : Ref sig .tc := ⟨.hbm, 465, rfl⟩
abbrev main_v365 : Ref sig .tc := ⟨.hbm, 466, rfl⟩
abbrev main_v366 : Ref sig .tc := ⟨.hbm, 467, rfl⟩
abbrev main_c_93 : Ref sig .tc := ⟨.hbm, 468, rfl⟩
abbrev main_v367 : Ref sig .tc := ⟨.hbm, 469, rfl⟩
abbrev main_v368 : Ref sig .tc := ⟨.hbm, 470, rfl⟩
abbrev main_c_94 : Ref sig .tc := ⟨.hbm, 471, rfl⟩
abbrev main_v369 : Ref sig .tc := ⟨.hbm, 472, rfl⟩
abbrev main_v370 : Ref sig .tc := ⟨.hbm, 473, rfl⟩
abbrev main_v371 : Ref sig .tc := ⟨.hbm, 474, rfl⟩
abbrev main_v372 : Ref sig .tc := ⟨.hbm, 475, rfl⟩
abbrev main_v373 : Ref sig .tc := ⟨.hbm, 476, rfl⟩
abbrev main_v374 : Ref sig .tc := ⟨.hbm, 477, rfl⟩
abbrev main_v375 : Ref sig .tc := ⟨.hbm, 478, rfl⟩
abbrev main_v376 : Ref sig .tc := ⟨.hbm, 479, rfl⟩
abbrev main_v377 : Ref sig .tc := ⟨.hbm, 480, rfl⟩
abbrev main_cst_95 : Ref sig .tc := ⟨.hbm, 481, rfl⟩
abbrev main_v378 : Ref sig .tc := ⟨.hbm, 482, rfl⟩
abbrev main_v379 : Ref sig .tc := ⟨.hbm, 483, rfl⟩
abbrev main_v380 : Ref sig .tc := ⟨.hbm, 484, rfl⟩
abbrev main_v381 : Ref sig .tc := ⟨.hbm, 485, rfl⟩
abbrev main_cst_96 : Ref sig .tc := ⟨.hbm, 486, rfl⟩
abbrev main_v382 : Ref sig .tc := ⟨.hbm, 487, rfl⟩
abbrev main_cst_97 : Ref sig .tc := ⟨.hbm, 488, rfl⟩
abbrev main_v383 : Ref sig .tc := ⟨.hbm, 489, rfl⟩
abbrev main_v384 : Ref sig .tc := ⟨.hbm, 490, rfl⟩
abbrev main_v385 : Ref sig .tc := ⟨.hbm, 491, rfl⟩
abbrev main_v386 : Ref sig .tc := ⟨.hbm, 492, rfl⟩
abbrev main_v387 : Ref sig .tc := ⟨.hbm, 493, rfl⟩
abbrev main_v388 : Ref sig .tc := ⟨.hbm, 494, rfl⟩
abbrev main_v389 : Ref sig .tc := ⟨.hbm, 495, rfl⟩
abbrev main_v390 : Ref sig .tc := ⟨.hbm, 496, rfl⟩
abbrev main_v391 : Ref sig .tc := ⟨.hbm, 497, rfl⟩
abbrev main_v392 : Ref sig .tc := ⟨.hbm, 498, rfl⟩
abbrev main_v393 : Ref sig .tc := ⟨.hbm, 499, rfl⟩
abbrev main_v394 : Ref sig .tc := ⟨.hbm, 500, rfl⟩
abbrev main_v395 : Ref sig .tc := ⟨.hbm, 501, rfl⟩
abbrev main_v396 : Ref sig .tc := ⟨.hbm, 502, rfl⟩
abbrev main_v397 : Ref sig .tc := ⟨.hbm, 503, rfl⟩
abbrev main_v398 : Ref sig .tc := ⟨.hbm, 504, rfl⟩
abbrev main_v399 : Ref sig .tc := ⟨.hbm, 505, rfl⟩
abbrev main_v400 : Ref sig .tc := ⟨.hbm, 506, rfl⟩
abbrev main_v401 : Ref sig .tc := ⟨.hbm, 507, rfl⟩
abbrev main_v402 : Ref sig .tc := ⟨.hbm, 508, rfl⟩
abbrev main_v403 : Ref sig .tc := ⟨.hbm, 509, rfl⟩
abbrev main_v404 : Ref sig .tc := ⟨.hbm, 510, rfl⟩
abbrev main_v405 : Ref sig .tc := ⟨.hbm, 511, rfl⟩
abbrev main_c_98 : Ref sig .tc := ⟨.hbm, 512, rfl⟩
abbrev main_v406 : Ref sig .tc := ⟨.hbm, 513, rfl⟩
abbrev main_v407 : Ref sig .tc := ⟨.hbm, 514, rfl⟩
abbrev main_v408 : Ref sig .tc := ⟨.hbm, 515, rfl⟩
abbrev main_cst_99 : Ref sig .tc := ⟨.hbm, 516, rfl⟩
abbrev main_v409 : Ref sig .tc := ⟨.hbm, 517, rfl⟩
abbrev main_cst_100 : Ref sig .tc := ⟨.hbm, 518, rfl⟩
abbrev main_v410 : Ref sig .tc := ⟨.hbm, 519, rfl⟩
abbrev main_v411 : Ref sig .tc := ⟨.hbm, 520, rfl⟩
abbrev main_cst_101 : Ref sig .tc := ⟨.hbm, 521, rfl⟩
abbrev main_v412 : Ref sig .tc := ⟨.hbm, 522, rfl⟩
abbrev main_v413 : Ref sig .tc := ⟨.hbm, 523, rfl⟩
abbrev main_v414 : Ref sig .tc := ⟨.hbm, 524, rfl⟩
abbrev main_c_102 : Ref sig .tc := ⟨.hbm, 525, rfl⟩
abbrev main_v415 : Ref sig .tc := ⟨.hbm, 526, rfl⟩
abbrev main_v416 : Ref sig .tc := ⟨.hbm, 527, rfl⟩
abbrev main_cst_103 : Ref sig .tc := ⟨.hbm, 528, rfl⟩
abbrev main_v417 : Ref sig .tc := ⟨.hbm, 529, rfl⟩
abbrev main_v418 : Ref sig .tc := ⟨.hbm, 530, rfl⟩
abbrev main_v419 : Ref sig .tc := ⟨.hbm, 531, rfl⟩
abbrev main_c_104 : Ref sig .tc := ⟨.hbm, 532, rfl⟩
abbrev main_v420 : Ref sig .tc := ⟨.hbm, 533, rfl⟩
abbrev main_v421 : Ref sig .tc := ⟨.hbm, 534, rfl⟩
abbrev main_cst_105 : Ref sig .tc := ⟨.hbm, 535, rfl⟩
abbrev main_v422 : Ref sig .tc := ⟨.hbm, 536, rfl⟩
abbrev main_v423 : Ref sig .tc := ⟨.hbm, 537, rfl⟩
abbrev main_v424 : Ref sig .tc := ⟨.hbm, 538, rfl⟩
abbrev main_c_106 : Ref sig .tc := ⟨.hbm, 539, rfl⟩
abbrev main_v425 : Ref sig .tc := ⟨.hbm, 540, rfl⟩
abbrev main_v426 : Ref sig .tc := ⟨.hbm, 541, rfl⟩
abbrev main_c_107 : Ref sig .tc := ⟨.hbm, 542, rfl⟩
abbrev main_v427 : Ref sig .tc := ⟨.hbm, 543, rfl⟩
abbrev main_v428 : Ref sig .tc := ⟨.hbm, 544, rfl⟩
abbrev main_v429 : Ref sig .tc := ⟨.hbm, 545, rfl⟩
abbrev main_c_108 : Ref sig .tc := ⟨.hbm, 546, rfl⟩
abbrev main_v430 : Ref sig .tc := ⟨.hbm, 547, rfl⟩
abbrev main_v431 : Ref sig .tc := ⟨.hbm, 548, rfl⟩
abbrev main_c_109 : Ref sig .tc := ⟨.hbm, 549, rfl⟩
abbrev main_v432 : Ref sig .tc := ⟨.hbm, 550, rfl⟩
abbrev main_v433 : Ref sig .tc := ⟨.hbm, 551, rfl⟩
abbrev main_v434 : Ref sig .tc := ⟨.hbm, 552, rfl⟩
abbrev main_c_110 : Ref sig .tc := ⟨.hbm, 553, rfl⟩
abbrev main_v435 : Ref sig .tc := ⟨.hbm, 554, rfl⟩
abbrev main_v436 : Ref sig .tc := ⟨.hbm, 555, rfl⟩
abbrev main_v437 : Ref sig .tc := ⟨.hbm, 556, rfl⟩
abbrev main_c_111 : Ref sig .tc := ⟨.hbm, 557, rfl⟩
abbrev main_v438 : Ref sig .tc := ⟨.hbm, 558, rfl⟩
abbrev main_v439 : Ref sig .tc := ⟨.hbm, 559, rfl⟩
abbrev main_v440 : Ref sig .tc := ⟨.hbm, 560, rfl⟩
abbrev main_c_112 : Ref sig .tc := ⟨.hbm, 561, rfl⟩
abbrev main_v441 : Ref sig .tc := ⟨.hbm, 562, rfl⟩
abbrev main_v442 : Ref sig .tc := ⟨.hbm, 563, rfl⟩
abbrev main_v443 : Ref sig .tc := ⟨.hbm, 564, rfl⟩
abbrev main_v444 : Ref sig .tc := ⟨.hbm, 565, rfl⟩
abbrev main_v445 : Ref sig .tc := ⟨.hbm, 566, rfl⟩
abbrev main_c_113 : Ref sig .tc := ⟨.hbm, 567, rfl⟩
abbrev main_v446 : Ref sig .tc := ⟨.hbm, 568, rfl⟩
abbrev main_v447 : Ref sig .tc := ⟨.hbm, 569, rfl⟩
abbrev main_v448 : Ref sig .tc := ⟨.hbm, 570, rfl⟩
abbrev main_cst_114 : Ref sig .tc := ⟨.hbm, 571, rfl⟩
abbrev main_v449 : Ref sig .tc := ⟨.hbm, 572, rfl⟩
abbrev main_v450 : Ref sig .tc := ⟨.hbm, 573, rfl⟩
abbrev main_v451 : Ref sig .tc := ⟨.hbm, 574, rfl⟩
abbrev main_v452 : Ref sig .tc := ⟨.hbm, 575, rfl⟩
abbrev main_v453 : Ref sig .tc := ⟨.hbm, 576, rfl⟩
abbrev main_v454 : Ref sig .tc := ⟨.hbm, 577, rfl⟩
abbrev main_c_115 : Ref sig .tc := ⟨.hbm, 578, rfl⟩
abbrev main_v455 : Ref sig .tc := ⟨.hbm, 579, rfl⟩
abbrev main_v456 : Ref sig .tc := ⟨.hbm, 580, rfl⟩
abbrev main_c_116 : Ref sig .tc := ⟨.hbm, 581, rfl⟩
abbrev main_v457 : Ref sig .tc := ⟨.hbm, 582, rfl⟩
abbrev main_v458 : Ref sig .tc := ⟨.hbm, 583, rfl⟩
abbrev main_v459 : Ref sig .tc := ⟨.hbm, 584, rfl⟩
abbrev main_v460 : Ref sig .tc := ⟨.hbm, 585, rfl⟩
abbrev main_v461 : Ref sig .tc := ⟨.hbm, 586, rfl⟩
abbrev main_c_117 : Ref sig .tc := ⟨.hbm, 587, rfl⟩
abbrev main_v462 : Ref sig .tc := ⟨.hbm, 588, rfl⟩
abbrev main_v463 : Ref sig .tc := ⟨.hbm, 589, rfl⟩
abbrev main_c_118 : Ref sig .tc := ⟨.hbm, 590, rfl⟩
abbrev main_v464 : Ref sig .tc := ⟨.hbm, 591, rfl⟩
abbrev main_v465 : Ref sig .tc := ⟨.hbm, 592, rfl⟩
abbrev main_v466 : Ref sig .tc := ⟨.hbm, 593, rfl⟩
abbrev main_c_119 : Ref sig .tc := ⟨.hbm, 594, rfl⟩
abbrev main_v467 : Ref sig .tc := ⟨.hbm, 595, rfl⟩
abbrev main_v468 : Ref sig .tc := ⟨.hbm, 596, rfl⟩
abbrev main_v469 : Ref sig .tc := ⟨.hbm, 597, rfl⟩
abbrev main_c_120 : Ref sig .tc := ⟨.hbm, 598, rfl⟩
abbrev main_v470 : Ref sig .tc := ⟨.hbm, 599, rfl⟩
abbrev main_v471 : Ref sig .tc := ⟨.hbm, 600, rfl⟩
abbrev main_v472 : Ref sig .tc := ⟨.hbm, 601, rfl⟩
abbrev main_c_121 : Ref sig .tc := ⟨.hbm, 602, rfl⟩
abbrev main_v473 : Ref sig .tc := ⟨.hbm, 603, rfl⟩
abbrev main_v474 : Ref sig .tc := ⟨.hbm, 604, rfl⟩
abbrev main_v475 : Ref sig .tc := ⟨.hbm, 605, rfl⟩
abbrev main_v476 : Ref sig .tc := ⟨.hbm, 606, rfl⟩
abbrev main_v477 : Ref sig .tc := ⟨.hbm, 607, rfl⟩
abbrev main_c_122 : Ref sig .tc := ⟨.hbm, 608, rfl⟩
abbrev main_v478 : Ref sig .tc := ⟨.hbm, 609, rfl⟩
abbrev main_v479 : Ref sig .tc := ⟨.hbm, 610, rfl⟩
abbrev main_v480 : Ref sig .tc := ⟨.hbm, 611, rfl⟩
abbrev main_cst_123 : Ref sig .tc := ⟨.hbm, 612, rfl⟩
abbrev main_v481 : Ref sig .tc := ⟨.hbm, 613, rfl⟩
abbrev main_v482 : Ref sig .tc := ⟨.hbm, 614, rfl⟩
abbrev main_v483 : Ref sig .tc := ⟨.hbm, 615, rfl⟩
abbrev main_v484 : Ref sig .tc := ⟨.hbm, 616, rfl⟩
abbrev main_v485 : Ref sig .tc := ⟨.hbm, 617, rfl⟩
abbrev main_v486 : Ref sig .tc := ⟨.hbm, 618, rfl⟩
abbrev main_c_124 : Ref sig .tc := ⟨.hbm, 619, rfl⟩
abbrev main_v487 : Ref sig .tc := ⟨.hbm, 620, rfl⟩
abbrev main_v488 : Ref sig .tc := ⟨.hbm, 621, rfl⟩
abbrev main_c_125 : Ref sig .tc := ⟨.hbm, 622, rfl⟩
abbrev main_v489 : Ref sig .tc := ⟨.hbm, 623, rfl⟩
abbrev main_v490 : Ref sig .tc := ⟨.hbm, 624, rfl⟩
abbrev main_v491 : Ref sig .tc := ⟨.hbm, 625, rfl⟩
abbrev main_v492 : Ref sig .tc := ⟨.hbm, 626, rfl⟩
abbrev main_v493 : Ref sig .tc := ⟨.hbm, 627, rfl⟩
abbrev main_c_126 : Ref sig .tc := ⟨.hbm, 628, rfl⟩
abbrev main_v494 : Ref sig .tc := ⟨.hbm, 629, rfl⟩
abbrev main_v495 : Ref sig .tc := ⟨.hbm, 630, rfl⟩
abbrev main_c_127 : Ref sig .tc := ⟨.hbm, 631, rfl⟩
abbrev main_v496 : Ref sig .tc := ⟨.hbm, 632, rfl⟩
abbrev main_v497 : Ref sig .tc := ⟨.hbm, 633, rfl⟩
abbrev main_v498 : Ref sig .tc := ⟨.hbm, 634, rfl⟩
abbrev main_c_128 : Ref sig .tc := ⟨.hbm, 635, rfl⟩
abbrev main_v499 : Ref sig .tc := ⟨.hbm, 636, rfl⟩
abbrev main_v500 : Ref sig .tc := ⟨.hbm, 637, rfl⟩
abbrev main_v501 : Ref sig .tc := ⟨.hbm, 638, rfl⟩
abbrev main_c_129 : Ref sig .tc := ⟨.hbm, 639, rfl⟩
abbrev main_v502 : Ref sig .tc := ⟨.hbm, 640, rfl⟩
abbrev main_v503 : Ref sig .tc := ⟨.hbm, 641, rfl⟩
abbrev main_v504 : Ref sig .tc := ⟨.hbm, 642, rfl⟩
abbrev main_c_130 : Ref sig .tc := ⟨.hbm, 643, rfl⟩
abbrev main_v505 : Ref sig .tc := ⟨.hbm, 644, rfl⟩
abbrev main_v506 : Ref sig .tc := ⟨.hbm, 645, rfl⟩
abbrev main_v507 : Ref sig .tc := ⟨.hbm, 646, rfl⟩
abbrev main_v508 : Ref sig .tc := ⟨.hbm, 647, rfl⟩
abbrev main_v509 : Ref sig .tc := ⟨.hbm, 648, rfl⟩
abbrev main_c_131 : Ref sig .tc := ⟨.hbm, 649, rfl⟩
abbrev main_v510 : Ref sig .tc := ⟨.hbm, 650, rfl⟩
abbrev main_v511 : Ref sig .tc := ⟨.hbm, 651, rfl⟩
abbrev main_v512 : Ref sig .tc := ⟨.hbm, 652, rfl⟩
abbrev main_cst_132 : Ref sig .tc := ⟨.hbm, 653, rfl⟩
abbrev main_v513 : Ref sig .tc := ⟨.hbm, 654, rfl⟩
abbrev main_v514 : Ref sig .tc := ⟨.hbm, 655, rfl⟩
abbrev main_v515 : Ref sig .tc := ⟨.hbm, 656, rfl⟩
abbrev main_v516 : Ref sig .tc := ⟨.hbm, 657, rfl⟩
abbrev main_v517 : Ref sig .tc := ⟨.hbm, 658, rfl⟩
abbrev main_v518 : Ref sig .tc := ⟨.hbm, 659, rfl⟩
abbrev main_c_133 : Ref sig .tc := ⟨.hbm, 660, rfl⟩
abbrev main_v519 : Ref sig .tc := ⟨.hbm, 661, rfl⟩
abbrev main_v520 : Ref sig .tc := ⟨.hbm, 662, rfl⟩
abbrev main_c_134 : Ref sig .tc := ⟨.hbm, 663, rfl⟩
abbrev main_v521 : Ref sig .tc := ⟨.hbm, 664, rfl⟩
abbrev main_v522 : Ref sig .tc := ⟨.hbm, 665, rfl⟩
abbrev main_v523 : Ref sig .tc := ⟨.hbm, 666, rfl⟩
abbrev main_v524 : Ref sig .tc := ⟨.hbm, 667, rfl⟩
abbrev main_v525 : Ref sig .tc := ⟨.hbm, 668, rfl⟩
abbrev main_c_135 : Ref sig .tc := ⟨.hbm, 669, rfl⟩
abbrev main_v526 : Ref sig .tc := ⟨.hbm, 670, rfl⟩
abbrev main_v527 : Ref sig .tc := ⟨.hbm, 671, rfl⟩
abbrev main_c_136 : Ref sig .tc := ⟨.hbm, 672, rfl⟩
abbrev main_v528 : Ref sig .tc := ⟨.hbm, 673, rfl⟩
abbrev main_v529 : Ref sig .tc := ⟨.hbm, 674, rfl⟩
abbrev main_v530 : Ref sig .tc := ⟨.hbm, 675, rfl⟩
abbrev main_c_137 : Ref sig .tc := ⟨.hbm, 676, rfl⟩
abbrev main_v531 : Ref sig .tc := ⟨.hbm, 677, rfl⟩
abbrev main_v532 : Ref sig .tc := ⟨.hbm, 678, rfl⟩
abbrev main_v533 : Ref sig .tc := ⟨.hbm, 679, rfl⟩
abbrev main_c_138 : Ref sig .tc := ⟨.hbm, 680, rfl⟩
abbrev main_v534 : Ref sig .tc := ⟨.hbm, 681, rfl⟩
abbrev main_v535 : Ref sig .tc := ⟨.hbm, 682, rfl⟩
abbrev main_v536 : Ref sig .tc := ⟨.hbm, 683, rfl⟩
abbrev main_c_139 : Ref sig .tc := ⟨.hbm, 684, rfl⟩
abbrev main_v537 : Ref sig .tc := ⟨.hbm, 685, rfl⟩
abbrev main_v538 : Ref sig .tc := ⟨.hbm, 686, rfl⟩
abbrev main_v539 : Ref sig .tc := ⟨.hbm, 687, rfl⟩
abbrev main_v540 : Ref sig .tc := ⟨.hbm, 688, rfl⟩
abbrev main_v541 : Ref sig .tc := ⟨.hbm, 689, rfl⟩
abbrev main_c_140 : Ref sig .tc := ⟨.hbm, 690, rfl⟩
abbrev main_v542 : Ref sig .tc := ⟨.hbm, 691, rfl⟩
abbrev main_v543 : Ref sig .tc := ⟨.hbm, 692, rfl⟩
abbrev main_v544 : Ref sig .tc := ⟨.hbm, 693, rfl⟩
abbrev main_cst_141 : Ref sig .tc := ⟨.hbm, 694, rfl⟩
abbrev main_v545 : Ref sig .tc := ⟨.hbm, 695, rfl⟩
abbrev main_v546 : Ref sig .tc := ⟨.hbm, 696, rfl⟩
abbrev main_v547 : Ref sig .tc := ⟨.hbm, 697, rfl⟩
abbrev main_v548 : Ref sig .tc := ⟨.hbm, 698, rfl⟩
abbrev main_v549 : Ref sig .tc := ⟨.hbm, 699, rfl⟩
abbrev main_v550 : Ref sig .tc := ⟨.hbm, 700, rfl⟩
abbrev main_c_142 : Ref sig .tc := ⟨.hbm, 701, rfl⟩
abbrev main_v551 : Ref sig .tc := ⟨.hbm, 702, rfl⟩
abbrev main_v552 : Ref sig .tc := ⟨.hbm, 703, rfl⟩
abbrev main_c_143 : Ref sig .tc := ⟨.hbm, 704, rfl⟩
abbrev main_v553 : Ref sig .tc := ⟨.hbm, 705, rfl⟩
abbrev main_v554 : Ref sig .tc := ⟨.hbm, 706, rfl⟩
abbrev main_v555 : Ref sig .tc := ⟨.hbm, 707, rfl⟩
abbrev main_v556 : Ref sig .tc := ⟨.hbm, 708, rfl⟩
abbrev main_v557 : Ref sig .tc := ⟨.hbm, 709, rfl⟩
abbrev main_v558 : Ref sig .tc := ⟨.hbm, 710, rfl⟩
abbrev main_v559 : Ref sig .tc := ⟨.hbm, 711, rfl⟩
abbrev main_v560 : Ref sig .tc := ⟨.hbm, 712, rfl⟩
abbrev main_v561 : Ref sig .tc := ⟨.hbm, 713, rfl⟩
abbrev main_cst_144 : Ref sig .tc := ⟨.hbm, 714, rfl⟩
abbrev main_v562 : Ref sig .tc := ⟨.hbm, 715, rfl⟩
abbrev main_v563 : Ref sig .tc := ⟨.hbm, 716, rfl⟩
abbrev main_v564 : Ref sig .tc := ⟨.hbm, 717, rfl⟩
abbrev main_cst_145 : Ref sig .tc := ⟨.hbm, 718, rfl⟩
abbrev main_v565 : Ref sig .tc := ⟨.hbm, 719, rfl⟩
abbrev main_v566 : Ref sig .tc := ⟨.hbm, 720, rfl⟩
abbrev main_cst_146 : Ref sig .tc := ⟨.hbm, 721, rfl⟩
abbrev main_v567 : Ref sig .tc := ⟨.hbm, 722, rfl⟩
abbrev main_cst_147 : Ref sig .tc := ⟨.hbm, 723, rfl⟩
abbrev main_v568 : Ref sig .tc := ⟨.hbm, 724, rfl⟩
abbrev main_v569 : Ref sig .tc := ⟨.hbm, 725, rfl⟩
abbrev main_cst_148 : Ref sig .tc := ⟨.hbm, 726, rfl⟩
abbrev main_v570 : Ref sig .tc := ⟨.hbm, 727, rfl⟩
abbrev main_cst_149 : Ref sig .tc := ⟨.hbm, 728, rfl⟩
abbrev main_v571 : Ref sig .tc := ⟨.hbm, 729, rfl⟩
abbrev main_v572 : Ref sig .tc := ⟨.hbm, 730, rfl⟩
abbrev main_v573 : Ref sig .tc := ⟨.hbm, 731, rfl⟩
abbrev main_v574 : Ref sig .tc := ⟨.hbm, 732, rfl⟩
abbrev main_v575 : Ref sig .tc := ⟨.hbm, 733, rfl⟩
abbrev main_v576 : Ref sig .tc := ⟨.hbm, 734, rfl⟩
abbrev main_v577 : Ref sig .tc := ⟨.hbm, 735, rfl⟩
abbrev main_v578 : Ref sig .tc := ⟨.hbm, 736, rfl⟩
abbrev main_v579 : Ref sig .tc := ⟨.hbm, 737, rfl⟩
abbrev main_v580 : Ref sig .tc := ⟨.hbm, 738, rfl⟩
abbrev main_v581 : Ref sig .tc := ⟨.hbm, 739, rfl⟩
abbrev main_v582 : Ref sig .tc := ⟨.hbm, 740, rfl⟩
abbrev main_v583 : Ref sig .tc := ⟨.hbm, 741, rfl⟩
abbrev main_v584 : Ref sig .tc := ⟨.hbm, 742, rfl⟩
abbrev main_v585 : Ref sig .tc := ⟨.hbm, 743, rfl⟩
abbrev main_v586 : Ref sig .tc := ⟨.hbm, 744, rfl⟩
abbrev main_v587 : Ref sig .tc := ⟨.hbm, 745, rfl⟩
abbrev main_v588 : Ref sig .tc := ⟨.hbm, 746, rfl⟩
abbrev main_v589 : Ref sig .tc := ⟨.hbm, 747, rfl⟩
abbrev main_v590 : Ref sig .tc := ⟨.hbm, 748, rfl⟩
abbrev main_v591 : Ref sig .tc := ⟨.hbm, 749, rfl⟩
abbrev main_v592 : Ref sig .tc := ⟨.hbm, 750, rfl⟩
abbrev main_v593 : Ref sig .tc := ⟨.hbm, 751, rfl⟩
abbrev main_c_150 : Ref sig .tc := ⟨.hbm, 752, rfl⟩
abbrev main_v594 : Ref sig .tc := ⟨.hbm, 753, rfl⟩
abbrev main_v595 : Ref sig .tc := ⟨.hbm, 754, rfl⟩
abbrev main_v596 : Ref sig .tc := ⟨.hbm, 755, rfl⟩
abbrev main_cst_151 : Ref sig .tc := ⟨.hbm, 756, rfl⟩
abbrev main_v597 : Ref sig .tc := ⟨.hbm, 757, rfl⟩
abbrev main_cst_152 : Ref sig .tc := ⟨.hbm, 758, rfl⟩
abbrev main_v598 : Ref sig .tc := ⟨.hbm, 759, rfl⟩
abbrev main_v599 : Ref sig .tc := ⟨.hbm, 760, rfl⟩
abbrev main_cst_153 : Ref sig .tc := ⟨.hbm, 761, rfl⟩
abbrev main_v600 : Ref sig .tc := ⟨.hbm, 762, rfl⟩
abbrev main_v601 : Ref sig .tc := ⟨.hbm, 763, rfl⟩
abbrev main_v602 : Ref sig .tc := ⟨.hbm, 764, rfl⟩
abbrev main_c_154 : Ref sig .tc := ⟨.hbm, 765, rfl⟩
abbrev main_v603 : Ref sig .tc := ⟨.hbm, 766, rfl⟩
abbrev main_v604 : Ref sig .tc := ⟨.hbm, 767, rfl⟩
abbrev main_cst_155 : Ref sig .tc := ⟨.hbm, 768, rfl⟩
abbrev main_v605 : Ref sig .tc := ⟨.hbm, 769, rfl⟩
abbrev main_v606 : Ref sig .tc := ⟨.hbm, 770, rfl⟩
abbrev main_v607 : Ref sig .tc := ⟨.hbm, 771, rfl⟩
abbrev main_c_156 : Ref sig .tc := ⟨.hbm, 772, rfl⟩
abbrev main_v608 : Ref sig .tc := ⟨.hbm, 773, rfl⟩
abbrev main_v609 : Ref sig .tc := ⟨.hbm, 774, rfl⟩
abbrev main_cst_157 : Ref sig .tc := ⟨.hbm, 775, rfl⟩
abbrev main_v610 : Ref sig .tc := ⟨.hbm, 776, rfl⟩
abbrev main_v611 : Ref sig .tc := ⟨.hbm, 777, rfl⟩
abbrev main_v612 : Ref sig .tc := ⟨.hbm, 778, rfl⟩
abbrev main_c_158 : Ref sig .tc := ⟨.hbm, 779, rfl⟩
abbrev main_v613 : Ref sig .tc := ⟨.hbm, 780, rfl⟩
abbrev main_v614 : Ref sig .tc := ⟨.hbm, 781, rfl⟩
abbrev main_c_159 : Ref sig .tc := ⟨.hbm, 782, rfl⟩
abbrev main_v615 : Ref sig .tc := ⟨.hbm, 783, rfl⟩
abbrev main_v616 : Ref sig .tc := ⟨.hbm, 784, rfl⟩
abbrev main_v617 : Ref sig .tc := ⟨.hbm, 785, rfl⟩
abbrev main_c_160 : Ref sig .tc := ⟨.hbm, 786, rfl⟩
abbrev main_v618 : Ref sig .tc := ⟨.hbm, 787, rfl⟩
abbrev main_v619 : Ref sig .tc := ⟨.hbm, 788, rfl⟩
abbrev main_c_161 : Ref sig .tc := ⟨.hbm, 789, rfl⟩
abbrev main_v620 : Ref sig .tc := ⟨.hbm, 790, rfl⟩
abbrev main_v621 : Ref sig .tc := ⟨.hbm, 791, rfl⟩
abbrev main_v622 : Ref sig .tc := ⟨.hbm, 792, rfl⟩
abbrev main_c_162 : Ref sig .tc := ⟨.hbm, 793, rfl⟩
abbrev main_v623 : Ref sig .tc := ⟨.hbm, 794, rfl⟩
abbrev main_v624 : Ref sig .tc := ⟨.hbm, 795, rfl⟩
abbrev main_v625 : Ref sig .tc := ⟨.hbm, 796, rfl⟩
abbrev main_c_163 : Ref sig .tc := ⟨.hbm, 797, rfl⟩
abbrev main_v626 : Ref sig .tc := ⟨.hbm, 798, rfl⟩
abbrev main_v627 : Ref sig .tc := ⟨.hbm, 799, rfl⟩
abbrev main_v628 : Ref sig .tc := ⟨.hbm, 800, rfl⟩
abbrev main_c_164 : Ref sig .tc := ⟨.hbm, 801, rfl⟩
abbrev main_v629 : Ref sig .tc := ⟨.hbm, 802, rfl⟩
abbrev main_v630 : Ref sig .tc := ⟨.hbm, 803, rfl⟩
abbrev main_v631 : Ref sig .tc := ⟨.hbm, 804, rfl⟩
abbrev main_v632 : Ref sig .tc := ⟨.hbm, 805, rfl⟩
abbrev main_v633 : Ref sig .tc := ⟨.hbm, 806, rfl⟩
abbrev main_c_165 : Ref sig .tc := ⟨.hbm, 807, rfl⟩
abbrev main_v634 : Ref sig .tc := ⟨.hbm, 808, rfl⟩
abbrev main_v635 : Ref sig .tc := ⟨.hbm, 809, rfl⟩
abbrev main_v636 : Ref sig .tc := ⟨.hbm, 810, rfl⟩
abbrev main_cst_166 : Ref sig .tc := ⟨.hbm, 811, rfl⟩
abbrev main_v637 : Ref sig .tc := ⟨.hbm, 812, rfl⟩
abbrev main_v638 : Ref sig .tc := ⟨.hbm, 813, rfl⟩
abbrev main_v639 : Ref sig .tc := ⟨.hbm, 814, rfl⟩
abbrev main_v640 : Ref sig .tc := ⟨.hbm, 815, rfl⟩
abbrev main_v641 : Ref sig .tc := ⟨.hbm, 816, rfl⟩
abbrev main_v642 : Ref sig .tc := ⟨.hbm, 817, rfl⟩
abbrev main_c_167 : Ref sig .tc := ⟨.hbm, 818, rfl⟩
abbrev main_v643 : Ref sig .tc := ⟨.hbm, 819, rfl⟩
abbrev main_v644 : Ref sig .tc := ⟨.hbm, 820, rfl⟩
abbrev main_c_168 : Ref sig .tc := ⟨.hbm, 821, rfl⟩
abbrev main_v645 : Ref sig .tc := ⟨.hbm, 822, rfl⟩
abbrev main_v646 : Ref sig .tc := ⟨.hbm, 823, rfl⟩
abbrev main_v647 : Ref sig .tc := ⟨.hbm, 824, rfl⟩
abbrev main_v648 : Ref sig .tc := ⟨.hbm, 825, rfl⟩
abbrev main_v649 : Ref sig .tc := ⟨.hbm, 826, rfl⟩
abbrev main_c_169 : Ref sig .tc := ⟨.hbm, 827, rfl⟩
abbrev main_v650 : Ref sig .tc := ⟨.hbm, 828, rfl⟩
abbrev main_v651 : Ref sig .tc := ⟨.hbm, 829, rfl⟩
abbrev main_c_170 : Ref sig .tc := ⟨.hbm, 830, rfl⟩
abbrev main_v652 : Ref sig .tc := ⟨.hbm, 831, rfl⟩
abbrev main_v653 : Ref sig .tc := ⟨.hbm, 832, rfl⟩
abbrev main_v654 : Ref sig .tc := ⟨.hbm, 833, rfl⟩
abbrev main_c_171 : Ref sig .tc := ⟨.hbm, 834, rfl⟩
abbrev main_v655 : Ref sig .tc := ⟨.hbm, 835, rfl⟩
abbrev main_v656 : Ref sig .tc := ⟨.hbm, 836, rfl⟩
abbrev main_v657 : Ref sig .tc := ⟨.hbm, 837, rfl⟩
abbrev main_c_172 : Ref sig .tc := ⟨.hbm, 838, rfl⟩
abbrev main_v658 : Ref sig .tc := ⟨.hbm, 839, rfl⟩
abbrev main_v659 : Ref sig .tc := ⟨.hbm, 840, rfl⟩
abbrev main_v660 : Ref sig .tc := ⟨.hbm, 841, rfl⟩
abbrev main_c_173 : Ref sig .tc := ⟨.hbm, 842, rfl⟩
abbrev main_v661 : Ref sig .tc := ⟨.hbm, 843, rfl⟩
abbrev main_v662 : Ref sig .tc := ⟨.hbm, 844, rfl⟩
abbrev main_v663 : Ref sig .tc := ⟨.hbm, 845, rfl⟩
abbrev main_v664 : Ref sig .tc := ⟨.hbm, 846, rfl⟩
abbrev main_v665 : Ref sig .tc := ⟨.hbm, 847, rfl⟩
abbrev main_c_174 : Ref sig .tc := ⟨.hbm, 848, rfl⟩
abbrev main_v666 : Ref sig .tc := ⟨.hbm, 849, rfl⟩
abbrev main_v667 : Ref sig .tc := ⟨.hbm, 850, rfl⟩
abbrev main_v668 : Ref sig .tc := ⟨.hbm, 851, rfl⟩
abbrev main_cst_175 : Ref sig .tc := ⟨.hbm, 852, rfl⟩
abbrev main_v669 : Ref sig .tc := ⟨.hbm, 853, rfl⟩
abbrev main_v670 : Ref sig .tc := ⟨.hbm, 854, rfl⟩
abbrev main_v671 : Ref sig .tc := ⟨.hbm, 855, rfl⟩
abbrev main_v672 : Ref sig .tc := ⟨.hbm, 856, rfl⟩
abbrev main_v673 : Ref sig .tc := ⟨.hbm, 857, rfl⟩
abbrev main_v674 : Ref sig .tc := ⟨.hbm, 858, rfl⟩
abbrev main_c_176 : Ref sig .tc := ⟨.hbm, 859, rfl⟩
abbrev main_v675 : Ref sig .tc := ⟨.hbm, 860, rfl⟩
abbrev main_v676 : Ref sig .tc := ⟨.hbm, 861, rfl⟩
abbrev main_c_177 : Ref sig .tc := ⟨.hbm, 862, rfl⟩
abbrev main_v677 : Ref sig .tc := ⟨.hbm, 863, rfl⟩
abbrev main_v678 : Ref sig .tc := ⟨.hbm, 864, rfl⟩
abbrev main_v679 : Ref sig .tc := ⟨.hbm, 865, rfl⟩
abbrev main_v680 : Ref sig .tc := ⟨.hbm, 866, rfl⟩
abbrev main_v681 : Ref sig .tc := ⟨.hbm, 867, rfl⟩
abbrev main_c_178 : Ref sig .tc := ⟨.hbm, 868, rfl⟩
abbrev main_v682 : Ref sig .tc := ⟨.hbm, 869, rfl⟩
abbrev main_v683 : Ref sig .tc := ⟨.hbm, 870, rfl⟩
abbrev main_c_179 : Ref sig .tc := ⟨.hbm, 871, rfl⟩
abbrev main_v684 : Ref sig .tc := ⟨.hbm, 872, rfl⟩
abbrev main_v685 : Ref sig .tc := ⟨.hbm, 873, rfl⟩
abbrev main_v686 : Ref sig .tc := ⟨.hbm, 874, rfl⟩
abbrev main_c_180 : Ref sig .tc := ⟨.hbm, 875, rfl⟩
abbrev main_v687 : Ref sig .tc := ⟨.hbm, 876, rfl⟩
abbrev main_v688 : Ref sig .tc := ⟨.hbm, 877, rfl⟩
abbrev main_v689 : Ref sig .tc := ⟨.hbm, 878, rfl⟩
abbrev main_c_181 : Ref sig .tc := ⟨.hbm, 879, rfl⟩
abbrev main_v690 : Ref sig .tc := ⟨.hbm, 880, rfl⟩
abbrev main_v691 : Ref sig .tc := ⟨.hbm, 881, rfl⟩
abbrev main_v692 : Ref sig .tc := ⟨.hbm, 882, rfl⟩
abbrev main_c_182 : Ref sig .tc := ⟨.hbm, 883, rfl⟩
abbrev main_v693 : Ref sig .tc := ⟨.hbm, 884, rfl⟩
abbrev main_v694 : Ref sig .tc := ⟨.hbm, 885, rfl⟩
abbrev main_v695 : Ref sig .tc := ⟨.hbm, 886, rfl⟩
abbrev main_v696 : Ref sig .tc := ⟨.hbm, 887, rfl⟩
abbrev main_v697 : Ref sig .tc := ⟨.hbm, 888, rfl⟩
abbrev main_c_183 : Ref sig .tc := ⟨.hbm, 889, rfl⟩
abbrev main_v698 : Ref sig .tc := ⟨.hbm, 890, rfl⟩
abbrev main_v699 : Ref sig .tc := ⟨.hbm, 891, rfl⟩
abbrev main_v700 : Ref sig .tc := ⟨.hbm, 892, rfl⟩
abbrev main_cst_184 : Ref sig .tc := ⟨.hbm, 893, rfl⟩
abbrev main_v701 : Ref sig .tc := ⟨.hbm, 894, rfl⟩
abbrev main_v702 : Ref sig .tc := ⟨.hbm, 895, rfl⟩
abbrev main_v703 : Ref sig .tc := ⟨.hbm, 896, rfl⟩
abbrev main_v704 : Ref sig .tc := ⟨.hbm, 897, rfl⟩
abbrev main_v705 : Ref sig .tc := ⟨.hbm, 898, rfl⟩
abbrev main_v706 : Ref sig .tc := ⟨.hbm, 899, rfl⟩
abbrev main_c_185 : Ref sig .tc := ⟨.hbm, 900, rfl⟩
abbrev main_v707 : Ref sig .tc := ⟨.hbm, 901, rfl⟩
abbrev main_v708 : Ref sig .tc := ⟨.hbm, 902, rfl⟩
abbrev main_c_186 : Ref sig .tc := ⟨.hbm, 903, rfl⟩
abbrev main_v709 : Ref sig .tc := ⟨.hbm, 904, rfl⟩
abbrev main_v710 : Ref sig .tc := ⟨.hbm, 905, rfl⟩
abbrev main_v711 : Ref sig .tc := ⟨.hbm, 906, rfl⟩
abbrev main_v712 : Ref sig .tc := ⟨.hbm, 907, rfl⟩
abbrev main_v713 : Ref sig .tc := ⟨.hbm, 908, rfl⟩
abbrev main_c_187 : Ref sig .tc := ⟨.hbm, 909, rfl⟩
abbrev main_v714 : Ref sig .tc := ⟨.hbm, 910, rfl⟩
abbrev main_v715 : Ref sig .tc := ⟨.hbm, 911, rfl⟩
abbrev main_c_188 : Ref sig .tc := ⟨.hbm, 912, rfl⟩
abbrev main_v716 : Ref sig .tc := ⟨.hbm, 913, rfl⟩
abbrev main_v717 : Ref sig .tc := ⟨.hbm, 914, rfl⟩
abbrev main_v718 : Ref sig .tc := ⟨.hbm, 915, rfl⟩
abbrev main_c_189 : Ref sig .tc := ⟨.hbm, 916, rfl⟩
abbrev main_v719 : Ref sig .tc := ⟨.hbm, 917, rfl⟩
abbrev main_v720 : Ref sig .tc := ⟨.hbm, 918, rfl⟩
abbrev main_v721 : Ref sig .tc := ⟨.hbm, 919, rfl⟩
abbrev main_c_190 : Ref sig .tc := ⟨.hbm, 920, rfl⟩
abbrev main_v722 : Ref sig .tc := ⟨.hbm, 921, rfl⟩
abbrev main_v723 : Ref sig .tc := ⟨.hbm, 922, rfl⟩
abbrev main_v724 : Ref sig .tc := ⟨.hbm, 923, rfl⟩
abbrev main_c_191 : Ref sig .tc := ⟨.hbm, 924, rfl⟩
abbrev main_v725 : Ref sig .tc := ⟨.hbm, 925, rfl⟩
abbrev main_v726 : Ref sig .tc := ⟨.hbm, 926, rfl⟩
abbrev main_v727 : Ref sig .tc := ⟨.hbm, 927, rfl⟩
abbrev main_v728 : Ref sig .tc := ⟨.hbm, 928, rfl⟩
abbrev main_v729 : Ref sig .tc := ⟨.hbm, 929, rfl⟩
abbrev main_c_192 : Ref sig .tc := ⟨.hbm, 930, rfl⟩
abbrev main_v730 : Ref sig .tc := ⟨.hbm, 931, rfl⟩
abbrev main_v731 : Ref sig .tc := ⟨.hbm, 932, rfl⟩
abbrev main_v732 : Ref sig .tc := ⟨.hbm, 933, rfl⟩
abbrev main_cst_193 : Ref sig .tc := ⟨.hbm, 934, rfl⟩
abbrev main_v733 : Ref sig .tc := ⟨.hbm, 935, rfl⟩
abbrev main_v734 : Ref sig .tc := ⟨.hbm, 936, rfl⟩
abbrev main_v735 : Ref sig .tc := ⟨.hbm, 937, rfl⟩
abbrev main_v736 : Ref sig .tc := ⟨.hbm, 938, rfl⟩
abbrev main_v737 : Ref sig .tc := ⟨.hbm, 939, rfl⟩
abbrev main_v738 : Ref sig .tc := ⟨.hbm, 940, rfl⟩
abbrev main_c_194 : Ref sig .tc := ⟨.hbm, 941, rfl⟩
abbrev main_v739 : Ref sig .tc := ⟨.hbm, 942, rfl⟩
abbrev main_v740 : Ref sig .tc := ⟨.hbm, 943, rfl⟩
abbrev main_c_195 : Ref sig .tc := ⟨.hbm, 944, rfl⟩
abbrev main_v741 : Ref sig .tc := ⟨.hbm, 945, rfl⟩
abbrev main_v742 : Ref sig .tc := ⟨.hbm, 946, rfl⟩
abbrev main_v743 : Ref sig .tc := ⟨.hbm, 947, rfl⟩
abbrev main_v744 : Ref sig .tc := ⟨.hbm, 948, rfl⟩
abbrev main_v745 : Ref sig .tc := ⟨.hbm, 949, rfl⟩
abbrev main_v746 : Ref sig .tc := ⟨.hbm, 950, rfl⟩
abbrev main_v747 : Ref sig .tc := ⟨.hbm, 951, rfl⟩
abbrev main_v748 : Ref sig .tc := ⟨.hbm, 952, rfl⟩
abbrev main_v749 : Ref sig .tc := ⟨.hbm, 953, rfl⟩
abbrev main_cst_196 : Ref sig .tc := ⟨.hbm, 954, rfl⟩
abbrev main_v750 : Ref sig .tc := ⟨.hbm, 955, rfl⟩
abbrev main_v751 : Ref sig .tc := ⟨.hbm, 956, rfl⟩
abbrev main_v752 : Ref sig .tc := ⟨.hbm, 957, rfl⟩
abbrev main_cst_197 : Ref sig .tc := ⟨.hbm, 958, rfl⟩
abbrev main_v753 : Ref sig .tc := ⟨.hbm, 959, rfl⟩
abbrev main_v754 : Ref sig .tc := ⟨.hbm, 960, rfl⟩
abbrev main_cst_198 : Ref sig .tc := ⟨.hbm, 961, rfl⟩
abbrev main_v755 : Ref sig .tc := ⟨.hbm, 962, rfl⟩
abbrev main_cst_199 : Ref sig .tc := ⟨.hbm, 963, rfl⟩
abbrev main_v756 : Ref sig .tc := ⟨.hbm, 964, rfl⟩
abbrev main_v757 : Ref sig .tc := ⟨.hbm, 965, rfl⟩

abbrev nD : Nat := 1
abbrev τ : Topo := Topo.v7x

variable {F : FTy → Type} [FloatOps F]
-- ==== Proof.L0I.Kit.lean ====
/-  The launch set-up of the level-0 program: what its host lines leave alone, the buffers as the region finds them,
    and what each input window's staging buffer holds. -/
module

public import proofs.«01_k».proof.Defs
public import proofs.«01_k».proof.Proof.Gen.Kernel0Ideal
public import proofs.«01_k».proof.Proof.Gen.Kernel0Ideal.Launch
public import proofs.«01_k».proof.Proof.Gen.Kernel0Ideal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.StableHlo.RunRead

@[expose] public section

set_option maxRecDepth 16384

noncomputable section

namespace Cert.Proof.Kernel0Ideal

open Cert.Kernel0Ideal Cert.Kernel0Ideal.Gen
open Idealize.ShloMosaic Idealize.ShloMosaic.Pipeline Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

variable (m : (ℓ : Loc nD τ sig) → Buf (Elt F) ℓ) (ρ : Dev nD → PrngReg)

/-- The host lines before the region, in order. -/
abbrev preLists : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52]

/-- A core's buffers when the region is entered. -/
abbrev V0 (c : Dev nD) : Valuation τ sig (Elt F) := StableHlo.after (List.flatten preLists) fun b => m ⟨c, b⟩
/-- The same read at one buffer. -/
abbrev V (c : Dev nD) (b : Ref sig .tc) : Buf (Elt F) ((c : Thread nD τ).loc b) := V0 m c (Proc.devRef .tc b)

/-- No host line before the region allocates. -/
theorem pre_fresh : (preLists : List (List (HloOp τ sig (Elt F)))).Forall fun ops => ops.Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 1600000 in
/-- The program is its host lines, the region, and the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main preLists [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub, hostOps0_37_sub, hostOps0_38_sub, hostOps0_39_sub, hostOps0_40_sub, hostOps0_41_sub, hostOps0_42_sub, hostOps0_43_sub, hostOps0_44_sub, hostOps0_45_sub, hostOps0_46_sub, hostOps0_47_sub, hostOps0_48_sub, hostOps0_49_sub, hostOps0_50_sub, hostOps0_51_sub, hostOps0_52_sub⟩)
    pre_fresh main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-- The region finds argument 0 as launched. -/
theorem V_main_arg0 (c : Dev nD) : V m c main_arg0 = m ((c : Thread nD τ).loc main_arg0) := by
  unfold V V0; after_reads_simp
/-- The region finds argument 1 as launched. -/
theorem V_main_arg1 (c : Dev nD) : V m c main_arg1 = m ((c : Thread nD τ).loc main_arg1) := by
  unfold V V0; after_reads_simp
/-- The region finds argument 2 as launched. -/
theorem V_main_arg2 (c : Dev nD) : V m c main_arg2 = m ((c : Thread nD τ).loc main_arg2) := by
  unfold V V0; after_reads_simp
/-- The region finds argument 3 as launched. -/
theorem V_main_arg3 (c : Dev nD) : V m c main_arg3 = m ((c : Thread nD τ).loc main_arg3) := by
  unfold V V0; after_reads_simp
/-- The region finds argument 4 as launched. -/
theorem V_main_arg4 (c : Dev nD) : V m c main_arg4 = m ((c : Thread nD τ).loc main_arg4) := by
  unfold V V0; after_reads_simp
/-- The region finds argument 5 as launched. -/
theorem V_main_arg5 (c : Dev nD) : V m c main_arg5 = m ((c : Thread nD τ).loc main_arg5) := by
  unfold V V0; after_reads_simp

/-- A buffer that the last host lines and the region leave alone ends as the region found it. -/
theorem W_of (dats : (p : Fin _) → (c : Dev nD) → Dat τ (Elt F) Unit ℕ (UR sig nD τ) ℕ (cfgs p) c) (c : Dev nD)
    (b : Ref sig .tc) (hb : ∀ w, Pipeline.arrRef spec0 w ≠ b)
    (h : ∀ op ∈ (hostOps1 : List (HloOp τ sig (Elt F))), Proc.devRef .tc b ∉ op.writes) :
    Pipeline.afterTail₀ cfgs dats 0 (V0 m) [hostOps1] c b = V m c b := by
  unfold Pipeline.afterTail₀
  rw [StableHlo.after_of_forall_not_mem (b := Proc.devRef .tc b) _ _ (by simpa using h),
    Pipeline.withArrays_of_ne _ c (V0 m c) _ b hb]

/-- Input window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

end Cert.Proof.Kernel0Ideal

end
-- ==== Proof.L0I.Host.lean ====
/-  The arrays the host lines of the level-0 program build for the region: the table of rows, the table of weights and the features. -/
module

public import proofs.«01_k».proof.Proof.L0I.Kit

@[expose] public section

set_option maxRecDepth 16384

noncomputable section

namespace Cert.Proof.Kernel0Ideal

open Cert.Kernel0Ideal Cert.Kernel0Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

/-- A word over the whole picture. -/
abbrev cI (b : BitVec 32) : IVec S4x384x640 32 := broadcastInDim S4x384x640 ![] bcast_S_S4x384x640 (constantI S_ 32 b)
/-- A float over the whole picture. -/
abbrev cF (b : BitVec 32) : FVec F S4x384x640 .f32 := broadcastInDim S4x384x640 ![] bcast_S_S4x384x640 (constant S_ .f32 b)

/-- The row of the corner `(yk, xk)` in the band that begins at `lo`. -/
def localA (xk yk : IVec S4x384x640 32) (lo : BitVec 32) : IVec S4x384x640 32 := subi (addi (muli yk (cI 640#32)) xk) (cI lo)
/-- The corner lies in the picture and its row in the band. -/
def okA (xk yk : IVec S4x384x640 32) (lo : BitVec 32) : IVec S4x384x640 1 :=
  andi (andi (andi (andi (andi (cmpi .sge xk (cI 0#32)) (cmpi .slt xk (cI 640#32))) (cmpi .sge yk (cI 0#32)))
    (cmpi .slt yk (cI 384#32))) (cmpi .sge (localA xk yk lo) (cI 0#32))) (cmpi .slt (localA xk yk lo) (cI 81920#32))
/-- The table row of a corner: its row in the band, or the spare row past the band. -/
def rowA (xk yk : IVec S4x384x640 32) (lo : BitVec 32) : IVec S4x384x640 32 := select (okA xk yk lo) (localA xk yk lo) (cI 81920#32)
/-- The table weight of a corner: its weight, or nothing where the corner is outside. -/
def wgtA (xk yk : IVec S4x384x640 32) (lo : BitVec 32) (w : FVec F S4x384x640 .f32) : FVec F S4x384x640 .f32 :=
  select (okA xk yk lo) w (cF 0x00000000#32)

/-- A picture's pixels in a line. -/
def flat1 {α : Type} (a : S4x384x640.Idx → α) : S4x245760x1.Idx → α :=
  broadcastInDim S4x245760x1 ![0, 1] bcast_S4x245760_S4x245760x1_0_1 (shapeCast S4x245760 a shapeCasts_S4x384x640_S4x245760)
/-- Four lines of pixels side by side. -/
def corners4 {α : Type} (a b c d : S4x245760x1.Idx → α) : S4x245760x4.Idx → α :=
  concatenate S4x245760x4 2
    [⟨S4x245760x1, a⟩,
     ⟨S4x245760x1, b⟩,
     ⟨S4x245760x1, c⟩,
     ⟨S4x245760x1, d⟩]
    concatenates_S4x245760x1_S4x245760x1_S4x245760x1_S4x245760x1_S4x245760x4_d2
/-- A band's place among the bands. -/
def band1 {α : Type} (a : S4x245760x4.Idx → α) : S4x1x245760x4.Idx → α :=
  broadcastInDim S4x1x245760x4 ![0, 2, 3] bcast_S4x245760x4_S4x1x245760x4_0_2_3 a
/-- Three bands, one after the other, cut into the blocks of the grid. -/
def bands3 {α : Type} (a b c : S4x1x245760x4.Idx → α) : S12x240x1x4096.Idx → α :=
  shapeCast S12x240x1x4096 (shapeCast S12x245760x4
    (concatenate S4x3x245760x4 1
      [⟨S4x1x245760x4, a⟩,
       ⟨S4x1x245760x4, b⟩,
       ⟨S4x1x245760x4, c⟩]
      concatenates_S4x1x245760x4_S4x1x245760x4_S4x1x245760x4_S4x3x245760x4_d1) shapeCasts_S4x3x245760x4_S12x245760x4) shapeCasts_S12x245760x4_S12x240x1x4096

/-- The two flows, one after the other. -/
def flowA (f g : S2x2x384x640.Idx → Elt F .f32) : FVec F S4x2x384x640 .f32 :=
  concatenate S4x2x384x640 0 [⟨S2x2x384x640, f⟩, ⟨S2x2x384x640, g⟩] concatenates_S2x2x384x640_S2x2x384x640_S4x2x384x640_d0
/-- The horizontal target of each pixel. -/
def fxA (w : FVec F S4x2x384x640 .f32) : FVec F S4x384x640 .f32 :=
  addf (broadcastInDim S4x384x640 ![0, 1, 2] bcast_S1x1x640_S4x384x640_0_1_2 (broadcastInDim S1x1x640 ![2] bcast_S640_S1x1x640_2 (sitofp .f32 (iotaInDim S640 32 0))))
    (shapeCast S4x384x640 (extractStridedSlice S4x1x384x640 ![0, 0, 0, 0] w slices_S4x2x384x640_S4x1x384x640_0_0_0_0) shapeCasts_S4x1x384x640_S4x384x640)
/-- The vertical target of each pixel. -/
def fyA (w : FVec F S4x2x384x640 .f32) : FVec F S4x384x640 .f32 :=
  addf (broadcastInDim S4x384x640 ![0, 1, 2] bcast_S1x384x1_S4x384x640_0_1_2 (broadcastInDim S1x384x1 ![1] bcast_S384_S1x384x1_1 (sitofp .f32 (iotaInDim S384 32 0))))
    (shapeCast S4x384x640 (extractStridedSlice S4x1x384x640 ![0, 1, 0, 0] w slices_S4x2x384x640_S4x1x384x640_0_1_0_0) shapeCasts_S4x1x384x640_S4x384x640)
/-- A coordinate kept between two bounds. -/
def clipA (lo hi : BitVec 32) (v : FVec F S4x384x640 .f32) : FVec F S4x384x640 .f32 := minimumf (cF hi) (maximumf (cF lo) v)
/-- The corner before a coordinate. -/
def cornerA (v : FVec F S4x384x640 .f32) : IVec S4x384x640 32 := fptosi 32 (Host.floor v)
/-- The weight of the corner after a coordinate. -/
def fracA (v : FVec F S4x384x640 .f32) : FVec F S4x384x640 .f32 := subf v (Host.floor v)
/-- The weight of the corner before it. -/
def restA (v : FVec F S4x384x640 .f32) : FVec F S4x384x640 .f32 := subf (cF 0x3F800000#32) (fracA v)

/-- The table of rows. -/
def tabI (x0 y0 : IVec S4x384x640 32) : S12x240x1x4096.Idx → BitVec 32 :=
  bands3
      (band1 (corners4 (flat1 (rowA (addi x0 (cI 0#32)) (addi y0 (cI 0#32)) 0#32)) (flat1 (rowA (addi x0 (cI 1#32)) (addi y0 (cI 0#32)) 0#32)) (flat1 (rowA (addi x0 (cI 0#32)) (addi y0 (cI 1#32)) 0#32)) (flat1 (rowA (addi x0 (cI 1#32)) (addi y0 (cI 1#32)) 0#32))))
      (band1 (corners4 (flat1 (rowA (addi x0 (cI 0#32)) (addi y0 (cI 0#32)) 81920#32)) (flat1 (rowA (addi x0 (cI 1#32)) (addi y0 (cI 0#32)) 81920#32)) (flat1 (rowA (addi x0 (cI 0#32)) (addi y0 (cI 1#32)) 81920#32)) (flat1 (rowA (addi x0 (cI 1#32)) (addi y0 (cI 1#32)) 81920#32))))
      (band1 (corners4 (flat1 (rowA (addi x0 (cI 0#32)) (addi y0 (cI 0#32)) 163840#32)) (flat1 (rowA (addi x0 (cI 1#32)) (addi y0 (cI 0#32)) 163840#32)) (flat1 (rowA (addi x0 (cI 0#32)) (addi y0 (cI 1#32)) 163840#32)) (flat1 (rowA (addi x0 (cI 1#32)) (addi y0 (cI 1#32)) 163840#32))))
/-- The table of weights. -/
def tabW (x0 y0 : IVec S4x384x640 32) (vx vy : FVec F S4x384x640 .f32) : S12x240x1x4096.Idx → F .f32 :=
  bands3
      (band1 (corners4 (flat1 (wgtA (addi x0 (cI 0#32)) (addi y0 (cI 0#32)) 0#32 (mulf (restA vx) (restA vy)))) (flat1 (wgtA (addi x0 (cI 1#32)) (addi y0 (cI 0#32)) 0#32 (mulf (fracA vx) (restA vy)))) (flat1 (wgtA (addi x0 (cI 0#32)) (addi y0 (cI 1#32)) 0#32 (mulf (restA vx) (fracA vy)))) (flat1 (wgtA (addi x0 (cI 1#32)) (addi y0 (cI 1#32)) 0#32 (mulf (fracA vx) (fracA vy))))))
      (band1 (corners4 (flat1 (wgtA (addi x0 (cI 0#32)) (addi y0 (cI 0#32)) 81920#32 (mulf (restA vx) (restA vy)))) (flat1 (wgtA (addi x0 (cI 1#32)) (addi y0 (cI 0#32)) 81920#32 (mulf (fracA vx) (restA vy)))) (flat1 (wgtA (addi x0 (cI 0#32)) (addi y0 (cI 1#32)) 81920#32 (mulf (restA vx) (fracA vy)))) (flat1 (wgtA (addi x0 (cI 1#32)) (addi y0 (cI 1#32)) 81920#32 (mulf (fracA vx) (fracA vy))))))
      (band1 (corners4 (flat1 (wgtA (addi x0 (cI 0#32)) (addi y0 (cI 0#32)) 163840#32 (mulf (restA vx) (restA vy)))) (flat1 (wgtA (addi x0 (cI 1#32)) (addi y0 (cI 0#32)) 163840#32 (mulf (fracA vx) (restA vy)))) (flat1 (wgtA (addi x0 (cI 0#32)) (addi y0 (cI 1#32)) 163840#32 (mulf (restA vx) (fracA vy)))) (flat1 (wgtA (addi x0 (cI 1#32)) (addi y0 (cI 1#32)) 163840#32 (mulf (fracA vx) (fracA vy))))))

/-- The horizontal coordinate the tables use. -/
def vxA (f g : S2x2x384x640.Idx → Elt F .f32) : FVec F S4x384x640 .f32 := clipA 0xC0800000#32 0x44210000#32 (fxA (flowA f g))
/-- The vertical coordinate the tables use. -/
def vyA (f g : S2x2x384x640.Idx → Elt F .f32) : FVec F S4x384x640 .f32 := clipA 0xC0800000#32 0x43C20000#32 (fyA (flowA f g))

set_option maxHeartbeats 1600000 in
/-- The rows the region is given. -/
theorem V_rows (m : (ℓ : Loc nD τ sig) → Buf (Elt F) ℓ) (c : Dev nD) : V m c main_v462
    = tabI (cornerA (vxA (F := F) (m ⟨c, main_arg4⟩) (m ⟨c, main_arg5⟩))) (cornerA (vyA (F := F) (m ⟨c, main_arg4⟩) (m ⟨c, main_arg5⟩))) := by
  unfold V V0
  after_reads_simp
  change bands3 (StableHlo.upto _ _ _ (Proc.tc.devRef main_v452)) (StableHlo.upto _ _ _ (Proc.tc.devRef main_v453))
    (StableHlo.upto _ _ _ (Proc.tc.devRef main_v454)) = _
  after_reads_simp
  change bands3 (band1 (corners4 (StableHlo.upto _ _ _ (Proc.tc.devRef main_v158)) (StableHlo.upto _ _ _ (Proc.tc.devRef main_v159)) (StableHlo.upto _ _ _ (Proc.tc.devRef main_v160)) (StableHlo.upto _ _ _ (Proc.tc.devRef main_v161))))
    (band1 (corners4 (StableHlo.upto _ _ _ (Proc.tc.devRef main_v300)) (StableHlo.upto _ _ _ (Proc.tc.devRef main_v301)) (StableHlo.upto _ _ _ (Proc.tc.devRef main_v302)) (StableHlo.upto _ _ _ (Proc.tc.devRef main_v303))))
    (band1 (corners4 (StableHlo.upto _ _ _ (Proc.tc.devRef main_v442)) (StableHlo.upto _ _ _ (Proc.tc.devRef main_v443)) (StableHlo.upto _ _ _ (Proc.tc.devRef main_v444)) (StableHlo.upto _ _ _ (Proc.tc.devRef main_v445)))) = _
  after_reads_simp
  rfl

set_option maxHeartbeats 1600000 in
/-- The weights the region is given. -/
theorem V_weights (m : (ℓ : Loc nD τ sig) → Buf (Elt F) ℓ) (c : Dev nD) : V m c main_v463
    = tabW (cornerA (vxA (F := F) (m ⟨c, main_arg4⟩) (m ⟨c, main_arg5⟩))) (cornerA (vyA (F := F) (m ⟨c, main_arg4⟩) (m ⟨c, main_arg5⟩)))
      (vxA (F := F) (m ⟨c, main_arg4⟩) (m ⟨c, main_arg5⟩)) (vyA (F := F) (m ⟨c, main_arg4⟩) (m ⟨c, main_arg5⟩)) := by
  unfold V V0
  after_reads_simp
  change bands3 (StableHlo.upto _ _ _ (Proc.tc.devRef main_v457)) (StableHlo.upto _ _ _ (Proc.tc.devRef main_v458))
    (StableHlo.upto _ _ _ (Proc.tc.devRef main_v459)) = _
  after_reads_simp
  change bands3 (band1 (corners4 (StableHlo.upto _ _ _ (Proc.tc.devRef main_v163)) (StableHlo.upto _ _ _ (Proc.tc.devRef main_v164)) (StableHlo.upto _ _ _ (Proc.tc.devRef main_v165)) (StableHlo.upto _ _ _ (Proc.tc.devRef main_v166))))
    (band1 (corners4 (StableHlo.upto _ _ _ (Proc.tc.devRef main_v305)) (StableHlo.upto _ _ _ (Proc.tc.devRef main_v306)) (StableHlo.upto _ _ _ (Proc.tc.devRef main_v307)) (StableHlo.upto _ _ _ (Proc.tc.devRef main_v308))))
    (band1 (corners4 (StableHlo.upto _ _ _ (Proc.tc.devRef main_v447)) (StableHlo.upto _ _ _ (Proc.tc.devRef main_v448)) (StableHlo.upto _ _ _ (Proc.tc.devRef main_v449)) (StableHlo.upto _ _ _ (Proc.tc.devRef main_v450)))) = _
  after_reads_simp
  rfl

end Cert.Proof.Kernel0Ideal

end
-- ==== Proof.L0I.Trip.lean ====
/-  One trip of the scatter loop of the level-0 program. The trip handles four pixels; each adds its row of values,
    times a corner's weight, to four rows of the accumulator. -/
module

public import proofs.«01_k».proof.Defs
public import proofs.«01_k».proof.Proof.Gen.Kernel0Ideal
public import proofs.«01_k».proof.Proof.Gen.Kernel0Ideal.Skeleton
public import proofs.«01_k».proof.Proof.Gen.Kernel0Ideal.Loops
public import proofs.«01_k».proof.Proof.Gen.Kernel0Ideal.Launch
public import proofs.«01_k».proof.Proof.Gen.Kernel0Ideal.Points
public import Idealize.ShloMosaic.Lib.Pointwise
public import Idealize.ShloMosaic.Lib.Writes

@[expose] public section

set_option maxRecDepth 16384

noncomputable section

namespace Cert.Proof.Kernel0Ideal

open Cert.Kernel0Ideal Cert.Kernel0Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

/-- A row number below the accumulator's height addresses a row of it. -/
theorem row_inb (v : BitVec 32) (h : v.toNat < 82432) :
    ∀ a, (![0, (Scalar.indexCast v : Index).toNat, 0, 0] : Fin 4 → Nat) a + S1x1x1x128.size a ≤ S1x82432x1x128.size a := by
  intro a
  match a with
  | ⟨0, _⟩ => exact Nat.le_refl 1
  | ⟨1, _⟩ => exact h
  | ⟨2, _⟩ => exact Nat.le_refl 1
  | ⟨3, _⟩ => exact Nat.le_refl 128

/-- The same, as the pair of bounds a load and the store after it ask for. -/
theorem row_inb2 (v : BitVec 32) (h : v.toNat < 82432) :
    (∀ a, (![0, (Scalar.indexCast v : Index).toNat, 0, 0] : Fin 4 → Nat) a + S1x1x1x128.size a ≤ S1x82432x1x128.size a)
    ∧ (∀ a, (![0, (Scalar.indexCast v : Index).toNat, 0, 0] : Fin 4 → Nat) a + S1x1x1x128.size a ≤ S1x82432x1x128.size a) :=
  ⟨row_inb v h, row_inb v h⟩

/-- What one corner writes: the accumulator's row `a` plus `w` times the pixel's values `v`. -/
def corner (w : Elt F .f32) (v : Vec F S1x1x128 .f32) (a : Vec F S1x1x1x128 .f32) : FVec F S1x1x1x128 .f32 :=
  shapeCast S1x1x1x128 (addf (shapeCast S1x128 a shapeCasts_S1x1x1x128_S1x128)
    (mulf (broadcast S1x128 w) (shapeCast S1x128 v shapeCasts_S1x1x128_S1x128))) shapeCasts_S1x128_S1x1x1x128

/-- The same, lane by lane. -/
theorem corner_at (w : Elt F .f32) (v : Vec F S1x1x128 .f32) (a : Vec F S1x1x1x128 .f32) (l : Fin 128) :
    corner w v a (ix4 0 0 0 l) = FloatOps.addf (φ := .f32) (a (ix4 0 0 0 l)) (FloatOps.mulf (φ := .f32) w (v (ix3 0 0 l))) := by
  unfold corner
  simp only [pointwise]

/-- One pixel's step on the accumulator `A`, as one function of the old accumulator: row `i k` becomes
    `A (i k) + w k * v` for the four corners `k`, the later corner standing where two name the same row. -/
def pix (i : Fin 4 → BitVec 32) (w : Fin 4 → Elt F .f32) (v : Fin 128 → Elt F .f32)
    (A : S1x82432x1x128.Idx → Elt F .f32) : S1x82432x1x128.Idx → Elt F .f32 := fun j =>
  if (j 1).val = (i 3).toNat then FloatOps.addf (φ := .f32) (A j) (FloatOps.mulf (φ := .f32) (w 3) (v (j 3)))
  else if (j 1).val = (i 2).toNat then FloatOps.addf (φ := .f32) (A j) (FloatOps.mulf (φ := .f32) (w 2) (v (j 3)))
  else if (j 1).val = (i 1).toNat then FloatOps.addf (φ := .f32) (A j) (FloatOps.mulf (φ := .f32) (w 1) (v (j 3)))
  else if (j 1).val = (i 0).toNat then FloatOps.addf (φ := .f32) (A j) (FloatOps.mulf (φ := .f32) (w 0) (v (j 3)))
  else A j

/-- Four row stores at the rows `i k`, each of the row read before any of them, are `pix`. -/
theorem read_pixel {arg5 : Memref sig .tc .vmem S1x82432x1x128 .f32} (f : BufTy.Contents (Elt F) arg5.view.ty)
    (i0 i1 i2 i3 : BitVec 32) (h0 h1 h2 h3) (w0 w1 w2 w3 : Elt F .f32) (v : Vec F S1x1x128 .f32) (g0 g1 g2 g3)  :
    arg5.view.read (Elt F) (arg5.view.writes (Elt F) f
      [⟨Rect.unit (s := S1x82432x1x128) ![0, (Scalar.indexCast i3 : Index).toNat, 0, 0] S1x1x1x128.size h3,
          corner w3 v (arg5.view.readAt (Elt F) (Rect.unit (s := S1x82432x1x128) ![0, (Scalar.indexCast i3 : Index).toNat, 0, 0] S1x1x1x128.size g3).toLoadRect f)⟩,
       ⟨Rect.unit (s := S1x82432x1x128) ![0, (Scalar.indexCast i2 : Index).toNat, 0, 0] S1x1x1x128.size h2,
          corner w2 v (arg5.view.readAt (Elt F) (Rect.unit (s := S1x82432x1x128) ![0, (Scalar.indexCast i2 : Index).toNat, 0, 0] S1x1x1x128.size g2).toLoadRect f)⟩,
       ⟨Rect.unit (s := S1x82432x1x128) ![0, (Scalar.indexCast i1 : Index).toNat, 0, 0] S1x1x1x128.size h1,
          corner w1 v (arg5.view.readAt (Elt F) (Rect.unit (s := S1x82432x1x128) ![0, (Scalar.indexCast i1 : Index).toNat, 0, 0] S1x1x1x128.size g1).toLoadRect f)⟩,
       ⟨Rect.unit (s := S1x82432x1x128) ![0, (Scalar.indexCast i0 : Index).toNat, 0, 0] S1x1x1x128.size h0,
          corner w0 v (arg5.view.readAt (Elt F) (Rect.unit (s := S1x82432x1x128) ![0, (Scalar.indexCast i0 : Index).toNat, 0, 0] S1x1x1x128.size g0).toLoadRect f)⟩])
    = pix ![i0, i1, i2, i3] ![w0, w1, w2, w3] (fun l => v (ix3 0 0 l)) (arg5.view.read (Elt F) f) := by
  have hit : ∀ (i : BitVec 32) (h g) (w : Elt F .f32) (L) (j : S1x82432x1x128.Idx), (j 1).val = i.toNat →
      arg5.view.read (Elt F) (arg5.view.writes (Elt F) f
      (⟨Rect.unit (s := S1x82432x1x128) ![0, (Scalar.indexCast i : Index).toNat, 0, 0] S1x1x1x128.size h,
          corner w v (arg5.view.readAt (Elt F) (Rect.unit (s := S1x82432x1x128) ![0, (Scalar.indexCast i : Index).toNat, 0, 0] S1x1x1x128.size g).toLoadRect f)⟩ :: L)) j
      = FloatOps.addf (φ := .f32) (arg5.view.read (Elt F) f j) (FloatOps.mulf (φ := .f32) w (v (ix3 0 0 (j 3)))) := by
    intro i h g w L j hj
    have hjc : ∀ a : Fin 4, (j a).val = (![0, i.toNat, 0, 0] : Fin 4 → Nat) a + 1 * ((ix4 0 0 0 (j 3) : S1x1x1x128.Idx) a).val := by
      intro a
      match a with
      | ⟨0, _⟩ => have := (j 0).isLt; show (j 0).val = 0 + 1 * 0; change (j 0).val < 1 at this; omega
      | ⟨1, _⟩ => show (j 1).val = i.toNat + 1 * 0; omega
      | ⟨2, _⟩ => have := (j 2).isLt; show (j 2).val = 0 + 1 * 0; change (j 2).val < 1 at this; omega
      | ⟨3, _⟩ => show (j 3).val = 0 + 1 * (j 3).val; omega
    rw [View.read_writes_cons_hit_of_coords arg5.view f _ _ L (ix4 0 0 0 (j 3)) j hjc]
    refine (corner_at w v _ (j 3)).trans ?_
    refine congrArg (fun x => FloatOps.addf (φ := .f32) x _) ?_
    refine congrArg (arg5.view.read (Elt F) f) ?_
    funext a
    exact Fin.ext (hjc a).symm
  have miss : ∀ (i : BitVec 32) (h) (q) (L) (j : S1x82432x1x128.Idx), ¬ (j 1).val = i.toNat →
      arg5.view.read (Elt F) (arg5.view.writes (Elt F) f
      (⟨Rect.unit (s := S1x82432x1x128) ![0, (Scalar.indexCast i : Index).toNat, 0, 0] S1x1x1x128.size h, q⟩ :: L)) j
      = arg5.view.read (Elt F) (arg5.view.writes (Elt F) f L) j := by
    intro i h q L j hj
    exact View.read_writes_cons_miss_of_axis arg5.view f _ L j 1 i.toNat 1 rfl rfl rfl (by omega)
  funext j
  unfold pix
  by_cases e3 : (j 1).val = i3.toNat
  · rw [if_pos (by exact e3)]; exact hit i3 h3 g3 w3 _ j e3
  rw [if_neg (by exact e3), miss i3 _ _ _ j e3]
  by_cases e2 : (j 1).val = i2.toNat
  · rw [if_pos (by exact e2)]; exact hit i2 h2 g2 w2 _ j e2
  rw [if_neg (by exact e2), miss i2 _ _ _ j e2]
  by_cases e1 : (j 1).val = i1.toNat
  · rw [if_pos (by exact e1)]; exact hit i1 h1 g1 w1 _ j e1
  rw [if_neg (by exact e1), miss i1 _ _ _ j e1]
  by_cases e0 : (j 1).val = i0.toNat
  · rw [if_pos (by exact e0)]; exact hit i0 h0 g0 w0 _ j e0
  rw [if_neg (by exact e0), miss i0 _ _ _ j e0]
  rfl

/-- Pixel `n` of a chunk whose corner rows are `I`, corner weights `W` and values `Z`. -/
def pixAt (I : S1x1x1x4096.Idx → BitVec 32) (W : S1x1x1x4096.Idx → Elt F .f32) (Z : S1024x1x128.Idx → Elt F .f32)
    (n : Fin 1024) (A : S1x82432x1x128.Idx → Elt F .f32) : S1x82432x1x128.Idx → Elt F .f32 :=
  pix (fun c => I (ix4 0 0 0 ⟨4 * n.val + c.val, by omega⟩)) (fun c => W (ix4 0 0 0 ⟨4 * n.val + c.val, by omega⟩))
    (fun l => Z (ix3 n 0 l)) A

/-- The accumulator after the chunk's first `n` pixels. -/
def upTo (I : S1x1x1x4096.Idx → BitVec 32) (W : S1x1x1x4096.Idx → Elt F .f32) (Z : S1024x1x128.Idx → Elt F .f32)
    (A : S1x82432x1x128.Idx → Elt F .f32) : ℕ → S1x82432x1x128.Idx → Elt F .f32
  | 0 => A
  | n + 1 => if h : n < 1024 then pixAt I W Z ⟨n, h⟩ (upTo I W Z A n) else upTo I W Z A n

/-- `read_pixel` with the rows, weights and values named as those of pixel `n`. -/
theorem read_pixelAt {arg5 : Memref sig .tc .vmem S1x82432x1x128 .f32} (f : BufTy.Contents (Elt F) arg5.view.ty)
    {I : S1x1x1x4096.Idx → BitVec 32} {W : S1x1x1x4096.Idx → Elt F .f32} {Z : S1024x1x128.Idx → Elt F .f32} (n : Fin 1024)
    {i0 i1 i2 i3 : BitVec 32} {h0 h1 h2 h3} {w0 w1 w2 w3 : Elt F .f32} {v : Vec F S1x1x128 .f32} {g0 g1 g2 g3}
    (L : List (View.Piece (Elt F) S1x82432x1x128 .f32))
    (e0 : i0 = I (ix4 0 0 0 ⟨4 * n.val + 0, by omega⟩)) (e1 : i1 = I (ix4 0 0 0 ⟨4 * n.val + 1, by omega⟩))
    (e2 : i2 = I (ix4 0 0 0 ⟨4 * n.val + 2, by omega⟩)) (e3 : i3 = I (ix4 0 0 0 ⟨4 * n.val + 3, by omega⟩))
    (u0 : w0 = W (ix4 0 0 0 ⟨4 * n.val + 0, by omega⟩)) (u1 : w1 = W (ix4 0 0 0 ⟨4 * n.val + 1, by omega⟩))
    (u2 : w2 = W (ix4 0 0 0 ⟨4 * n.val + 2, by omega⟩)) (u3 : w3 = W (ix4 0 0 0 ⟨4 * n.val + 3, by omega⟩))
    (hv : ∀ l, v (ix3 0 0 l) = Z (ix3 n 0 l)) :
    arg5.view.read (Elt F) (arg5.view.writes (Elt F) f
      (⟨Rect.unit (s := S1x82432x1x128) ![0, (Scalar.indexCast i3 : Index).toNat, 0, 0] S1x1x1x128.size h3,
          corner w3 v (arg5.view.readAt (Elt F) (Rect.unit (s := S1x82432x1x128) ![0, (Scalar.indexCast i3 : Index).toNat, 0, 0] S1x1x1x128.size g3).toLoadRect (arg5.view.writes (Elt F) f L))⟩ ::
       ⟨Rect.unit (s := S1x82432x1x128) ![0, (Scalar.indexCast i2 : Index).toNat, 0, 0] S1x1x1x128.size h2,
          corner w2 v (arg5.view.readAt (Elt F) (Rect.unit (s := S1x82432x1x128) ![0, (Scalar.indexCast i2 : Index).toNat, 0, 0] S1x1x1x128.size g2).toLoadRect (arg5.view.writes (Elt F) f L))⟩ ::
       ⟨Rect.unit (s := S1x82432x1x128) ![0, (Scalar.indexCast i1 : Index).toNat, 0, 0] S1x1x1x128.size h1,
          corner w1 v (arg5.view.readAt (Elt F) (Rect.unit (s := S1x82432x1x128) ![0, (Scalar.indexCast i1 : Index).toNat, 0, 0] S1x1x1x128.size g1).toLoadRect (arg5.view.writes (Elt F) f L))⟩ ::
       ⟨Rect.unit (s := S1x82432x1x128) ![0, (Scalar.indexCast i0 : Index).toNat, 0, 0] S1x1x1x128.size h0,
          corner w0 v (arg5.view.readAt (Elt F) (Rect.unit (s := S1x82432x1x128) ![0, (Scalar.indexCast i0 : Index).toNat, 0, 0] S1x1x1x128.size g0).toLoadRect (arg5.view.writes (Elt F) f L))⟩ :: L))
    = pixAt I W Z n (arg5.view.read (Elt F) (arg5.view.writes (Elt F) f L)) := by
  have h := read_pixel (arg5 := arg5) (arg5.view.writes (Elt F) f L) i0 i1 i2 i3 h0 h1 h2 h3 w0 w1 w2 w3 v g0 g1 g2 g3
  rw [← View.writes_append] at h
  refine Eq.trans h ?_
  unfold pixAt
  subst e0 e1 e2 e3 u0 u1 u2 u3
  have p : ∀ {α : Type} (T : Fin 4 → α), ![T 0, T 1, T 2, T 3] = T := by
    intro α T; funext c; fin_cases c <;> rfl
  rw [show (fun l => v (ix3 0 0 l)) = fun l => Z (ix3 n 0 l) from funext hv]
  exact congrArg₂ (fun i w => pix i w _ _) (p fun c : Fin 4 => I (ix4 0 0 0 ⟨4 * n.val + c.val, by omega⟩))
    (p fun c : Fin 4 => W (ix4 0 0 0 ⟨4 * n.val + c.val, by omega⟩))

/-- A scalar read of a chunk's table at a known place. -/
theorem read_word {e : EltTy} (a : Memref sig .tc .smem S1x1x1x4096 e) (f : BufTy.Contents (Elt F) a.view.ty)
    {off : Fin 4 → Nat} {h} {p} (n : Nat) (hn : n < 4096) (ho : off = ![0, 0, 0, n]) :
    a.view.readAt (Elt F) (Rect.unit (s := S1x1x1x4096) off S1x1x1x1.size h).toLoadRect f (Shape.Idx.first p)
      = a.view.read (Elt F) f (ix4 0 0 0 ⟨n, hn⟩) := by
  subst ho
  refine congrArg (a.view.read (Elt F) f) ?_
  funext x
  match x with
  | ⟨0, _⟩ => rfl
  | ⟨1, _⟩ => rfl
  | ⟨2, _⟩ => rfl
  | ⟨3, _⟩ => exact Fin.ext (by show n + 1 * 0 = n; omega)

/-- A read of one row of the chunk's values. -/
theorem read_row (a : Memref sig .tc .vmem S1024x1x128 .f32) (f : BufTy.Contents (Elt F) a.view.ty)
    {off : Fin 3 → Nat} {h} (n : Nat) (hn : n < 1024) (ho : off = ![n, 0, 0]) (l : Fin 128) :
    a.view.readAt (Elt F) (Rect.unit (s := S1024x1x128) off S1x1x128.size h).toLoadRect f (ix3 0 0 l)
      = a.view.read (Elt F) f (ix3 ⟨n, hn⟩ 0 l) := by
  subst ho
  refine congrArg (a.view.read (Elt F) f) ?_
  funext x
  match x with
  | ⟨0, _⟩ => exact Fin.ext (by show n + 1 * 0 = n; omega)
  | ⟨1, _⟩ => rfl
  | ⟨2, _⟩ => exact Fin.ext (by show 0 + 1 * l.val = l.val; omega)

/-- The places the trip's four pixels read their values, rows and weights at. -/
theorem offs_row : ∀ k : Fin k0_t2_loop.trips, k0_off2 k = ![4 * k.val, 0, 0] ∧ k0_off12 k = ![4 * k.val + 1, 0, 0]
    ∧ k0_off22 k = ![4 * k.val + 2, 0, 0] ∧ k0_off32 k = ![4 * k.val + 3, 0, 0] := by decide +kernel
theorem offs_fst : ∀ k : Fin k0_t2_loop.trips, k0_off3 k = ![0, 0, 0, 4 * (4 * k.val) + 0] ∧ k0_off13 k = ![0, 0, 0, 4 * (4 * k.val + 1) + 0]
    ∧ k0_off23 k = ![0, 0, 0, 4 * (4 * k.val + 2) + 0] ∧ k0_off33 k = ![0, 0, 0, 4 * (4 * k.val + 3) + 0] := by decide +kernel
theorem offs_0 : ∀ k : Fin k0_t2_loop.trips, k0_off4 k 1#32 = ![0, 0, 0, 4 * (4 * k.val) + 1]
    ∧ k0_off4 k 2#32 = ![0, 0, 0, 4 * (4 * k.val) + 2] ∧ k0_off4 k 3#32 = ![0, 0, 0, 4 * (4 * k.val) + 3] := by decide +kernel
theorem offs_1 : ∀ k : Fin k0_t2_loop.trips, k0_off14 k 1#32 = ![0, 0, 0, 4 * (4 * k.val + 1) + 1]
    ∧ k0_off14 k 2#32 = ![0, 0, 0, 4 * (4 * k.val + 1) + 2] ∧ k0_off14 k 3#32 = ![0, 0, 0, 4 * (4 * k.val + 1) + 3] := by decide +kernel
theorem offs_2 : ∀ k : Fin k0_t2_loop.trips, k0_off24 k 1#32 = ![0, 0, 0, 4 * (4 * k.val + 2) + 1]
    ∧ k0_off24 k 2#32 = ![0, 0, 0, 4 * (4 * k.val + 2) + 2] ∧ k0_off24 k 3#32 = ![0, 0, 0, 4 * (4 * k.val + 2) + 3] := by decide +kernel
theorem offs_3 : ∀ k : Fin k0_t2_loop.trips, k0_off34 k 1#32 = ![0, 0, 0, 4 * (4 * k.val + 3) + 1]
    ∧ k0_off34 k 2#32 = ![0, 0, 0, 4 * (4 * k.val + 3) + 2] ∧ k0_off34 k 3#32 = ![0, 0, 0, 4 * (4 * k.val + 3) + 3] := by decide +kernel

set_option maxHeartbeats 800000 in
/-- One trip takes the accumulator from the chunk's first `4 k` pixels to its first `4 k + 4`. -/
theorem trip (c : Dev nD) (i : grid0.Coords) (arg2 : Memref sig .tc .vmem S1x1024x1x49 .f32) (harg2 : arg2.IsWhole) (arg3 : Memref sig .tc .smem S1x1x1x4096 .i32) (harg3 : arg3.IsWhole) (arg4 : Memref sig .tc .smem S1x1x1x4096 .f32) (harg4 : arg4.IsWhole) (arg5 : Memref sig .tc .vmem S1x82432x1x128 .f32) (harg5 : arg5.IsWhole) (arg6 : Memref sig .tc .vmem S1024x1x128 .f32) (harg6 : arg6.IsWhole)
    (k : Fin k0_t2_loop.trips) (f3 : BufTy.Contents (Elt F) arg3.view.ty) (f4 : BufTy.Contents (Elt F) arg4.view.ty)
    (f5 : BufTy.Contents (Elt F) arg5.view.ty) (f6 : BufTy.Contents (Elt F) arg6.view.ty)
    (hi : ∀ j, (arg3.view.read (Elt F) f3 j : BitVec 32).toNat < 82432) (A : S1x82432x1x128.Idx → Elt F .f32)
    (hA : arg5.view.read (Elt F) f5 = upTo (arg3.view.read (Elt F) f3) (arg4.view.read (Elt F) f4) (arg6.view.read (Elt F) f6) A (4 * k.val)) :
   (iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6)) : sProp 𝕄)
   ⊢ wp frame (wpE (defs₀ (F := F)) Variants.none (c : Thread nD τ) none) Set.univ (k0_t2_body (F := F) i arg2 harg2 arg3 harg3 arg4 harg4 arg5 harg5 arg6 harg6 k PUnit.unit)
          (fun _ => iprop((arg3.view.loc (c : Thread nD τ) ↦[arg3.view.set]{fullShare} f3) ∗ (arg4.view.loc (c : Thread nD τ) ↦[arg4.view.set]{fullShare} f4)
            ∗ (∃ f, (arg5.view.loc (c : Thread nD τ) ↦[arg5.view.set]{fullShare} f)
              ∗ ⌜arg5.view.read (Elt F) f = upTo (arg3.view.read (Elt F) f3) (arg4.view.read (Elt F) f4) (arg6.view.read (Elt F) f6) A (4 * (k.val + 1))⌝)
            ∗ (arg6.view.loc (c : Thread nD τ) ↦[arg6.view.set]{fullShare} f6))) := by
  have hk : k.val < 256 := Nat.lt_of_lt_of_le k.isLt k0_t2_abs.2.1
  unfold k0_t2_body
  iintro ⟨H3, H4, H5, H6⟩
  sl_exec (disch := first | exact row_inb2 _ (hi _) | exact row_inb _ (hi _))
  sl_step
  iframe
  iexists _
  iframe
  ipureintro
  have hu : ∀ n (h : n < 1024), upTo (arg3.view.read (Elt F) f3) (arg4.view.read (Elt F) f4) (arg6.view.read (Elt F) f6) A (n + 1)
      = pixAt (arg3.view.read (Elt F) f3) (arg4.view.read (Elt F) f4) (arg6.view.read (Elt F) f6) ⟨n, h⟩
        (upTo (arg3.view.read (Elt F) f3) (arg4.view.read (Elt F) f4) (arg6.view.read (Elt F) f6) A n) := fun n h => by
    rw [upTo, dif_pos h]
  rw [show 4 * (k.val + 1) = 4 * k.val + 3 + 1 from by omega, hu _ (by omega), hu _ (by omega), hu _ (by omega), hu _ (by omega), ← hA]
  have o := offs_row k
  have a := offs_fst k
  have b0 := offs_0 k
  have p0 := read_pixelAt (arg5 := arg5) f5 (I := arg3.view.read (Elt F) f3) (W := arg4.view.read (Elt F) f4) (Z := arg6.view.read (Elt F) f6) ⟨4 * k.val + 0, by omega⟩
    (i0 := trip.sl.r arg3 k f3) (i1 := trip.sl.r_1 arg3 k f3) (i2 := trip.sl.r_2 arg3 k f3) (i3 := trip.sl.r_3 arg3 k f3)
    (w0 := trip.sl.r_4 arg4 k f4) (w1 := trip.sl.r_5 arg4 k f4) (w2 := trip.sl.r_6 arg4 k f4) (w3 := trip.sl.r_7 arg4 k f4)
    (h0 := row_inb _ (hi _)) (h1 := row_inb _ (hi _)) (h2 := row_inb _ (hi _)) (h3 := row_inb _ (hi _))
    (g0 := row_inb _ (hi _)) (g1 := row_inb _ (hi _)) (g2 := row_inb _ (hi _)) (g3 := row_inb _ (hi _))
    (v := arg6.view.readAt (Elt F) (Rect.unit (s := S1024x1x128) (k0_off2 k) S1x1x128.size (k0_off2_inb k)).toLoadRect f6)
    []
    (read_word arg3 f3 _ (by omega) a.1) (read_word arg3 f3 _ (by omega) b0.1) (read_word arg3 f3 _ (by omega) b0.2.1) (read_word arg3 f3 _ (by omega) b0.2.2)
    (read_word arg4 f4 _ (by omega) a.1) (read_word arg4 f4 _ (by omega) b0.1) (read_word arg4 f4 _ (by omega) b0.2.1) (read_word arg4 f4 _ (by omega) b0.2.2)
    (read_row arg6 f6 _ (by omega) o.1)
  have b1 := offs_1 k
  have p1 := read_pixelAt (arg5 := arg5) f5 (I := arg3.view.read (Elt F) f3) (W := arg4.view.read (Elt F) f4) (Z := arg6.view.read (Elt F) f6) ⟨4 * k.val + 1, by omega⟩
    (i0 := trip.sl.r_10 arg3 k f3) (i1 := trip.sl.r_11 arg3 k f3) (i2 := trip.sl.r_12 arg3 k f3) (i3 := trip.sl.r_13 arg3 k f3)
    (w0 := trip.sl.r_15 arg4 k f4) (w1 := trip.sl.r_16 arg4 k f4) (w2 := trip.sl.r_17 arg4 k f4) (w3 := trip.sl.r_18 arg4 k f4)
    (h0 := row_inb _ (hi _)) (h1 := row_inb _ (hi _)) (h2 := row_inb _ (hi _)) (h3 := row_inb _ (hi _))
    (g0 := row_inb _ (hi _)) (g1 := row_inb _ (hi _)) (g2 := row_inb _ (hi _)) (g3 := row_inb _ (hi _))
    (v := arg6.view.readAt (Elt F) (Rect.unit (s := S1024x1x128) (k0_off12 k) S1x1x128.size (k0_off12_inb k)).toLoadRect f6)
    (trip.sl.H5_4 arg3 arg4 arg5 arg6 k f3 f4 f5 f6 hi)
    (read_word arg3 f3 _ (by omega) a.2.1) (read_word arg3 f3 _ (by omega) b1.1) (read_word arg3 f3 _ (by omega) b1.2.1) (read_word arg3 f3 _ (by omega) b1.2.2)
    (read_word arg4 f4 _ (by omega) a.2.1) (read_word arg4 f4 _ (by omega) b1.1) (read_word arg4 f4 _ (by omega) b1.2.1) (read_word arg4 f4 _ (by omega) b1.2.2)
    (read_row arg6 f6 _ (by omega) o.2.1)
  have b2 := offs_2 k
  have p2 := read_pixelAt (arg5 := arg5) f5 (I := arg3.view.read (Elt F) f3) (W := arg4.view.read (Elt F) f4) (Z := arg6.view.read (Elt F) f6) ⟨4 * k.val + 2, by omega⟩
    (i0 := trip.sl.r_23 arg3 k f3) (i1 := trip.sl.r_24 arg3 k f3) (i2 := trip.sl.r_26 arg3 k f3) (i3 := trip.sl.r_27 arg3 k f3)
    (w0 := trip.sl.r_28 arg4 k f4) (w1 := trip.sl.r_29 arg4 k f4) (w2 := trip.sl.r_30 arg4 k f4) (w3 := trip.sl.r_31 arg4 k f4)
    (h0 := row_inb _ (hi _)) (h1 := row_inb _ (hi _)) (h2 := row_inb _ (hi _)) (h3 := row_inb _ (hi _))
    (g0 := row_inb _ (hi _)) (g1 := row_inb _ (hi _)) (g2 := row_inb _ (hi _)) (g3 := row_inb _ (hi _))
    (v := arg6.view.readAt (Elt F) (Rect.unit (s := S1024x1x128) (k0_off22 k) S1x1x128.size (k0_off22_inb k)).toLoadRect f6)
    (trip.sl.H5_8 arg3 arg4 arg5 arg6 k f3 f4 f5 f6 hi)
    (read_word arg3 f3 _ (by omega) a.2.2.1) (read_word arg3 f3 _ (by omega) b2.1) (read_word arg3 f3 _ (by omega) b2.2.1) (read_word arg3 f3 _ (by omega) b2.2.2)
    (read_word arg4 f4 _ (by omega) a.2.2.1) (read_word arg4 f4 _ (by omega) b2.1) (read_word arg4 f4 _ (by omega) b2.2.1) (read_word arg4 f4 _ (by omega) b2.2.2)
    (read_row arg6 f6 _ (by omega) o.2.2.1)
  have b3 := offs_3 k
  have p3 := read_pixelAt (arg5 := arg5) f5 (I := arg3.view.read (Elt F) f3) (W := arg4.view.read (Elt F) f4) (Z := arg6.view.read (Elt F) f6) ⟨4 * k.val + 3, by omega⟩
    (i0 := trip.sl.r_33 arg3 k f3) (i1 := trip.sl.r_34 arg3 k f3) (i2 := trip.sl.r_35 arg3 k f3) (i3 := trip.sl.r_36 arg3 k f3)
    (w0 := trip.sl.r_37 arg4 k f4) (w1 := trip.sl.r_38 arg4 k f4) (w2 := trip.sl.r_39 arg4 k f4) (w3 := trip.sl.r_40 arg4 k f4)
    (h0 := row_inb _ (hi _)) (h1 := row_inb _ (hi _)) (h2 := row_inb _ (hi _)) (h3 := row_inb _ (hi _))
    (g0 := row_inb _ (hi _)) (g1 := row_inb _ (hi _)) (g2 := row_inb _ (hi _)) (g3 := row_inb _ (hi _))
    (v := arg6.view.readAt (Elt F) (Rect.unit (s := S1024x1x128) (k0_off32 k) S1x1x128.size (k0_off32_inb k)).toLoadRect f6)
    (trip.sl.H5_12 arg3 arg4 arg5 arg6 k f3 f4 f5 f6 hi)
    (read_word arg3 f3 _ (by omega) a.2.2.2) (read_word arg3 f3 _ (by omega) b3.1) (read_word arg3 f3 _ (by omega) b3.2.1) (read_word arg3 f3 _ (by omega) b3.2.2)
    (read_word arg4 f4 _ (by omega) a.2.2.2) (read_word arg4 f4 _ (by omega) b3.1) (read_word arg4 f4 _ (by omega) b3.2.1) (read_word arg4 f4 _ (by omega) b3.2.2)
    (read_row arg6 f6 _ (by omega) o.2.2.2)
  exact p3.trans (congrArg (pixAt _ _ _ _) (p2.trans (congrArg (pixAt _ _ _ _) (p1.trans (congrArg (pixAt _ _ _ _) p0)))))

end Cert.Proof.Kernel0Ideal

end
-- ==== Proof.L0I.Loops.lean ====
/-  The three counted loops of the level-0 kernel body as functions of the accumulator: it is cleared, takes a chunk's
    pixels, and is normalised. -/
module

public import proofs.«01_k».proof.Proof.L0I.Trip

@[expose] public section

set_option maxRecDepth 16384

noncomputable section

namespace Cert.Proof.Kernel0Ideal

open Cert.Kernel0Ideal Cert.Kernel0Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

/-- The constant every row is cleared to. -/
abbrev zc : Elt F .f32 := Scalar.ofBits .f32 0x00000000#32
/-- The small constant added to every divisor. -/
abbrev epsc : Elt F .f32 := Scalar.ofBits .f32 0x33D6BF95#32

/-- What the last chunk makes of a row `y`: the 49 feature lanes divided by the weight lane 49 plus the small
    constant, and in lane 49 one where lane 50 divided likewise is at most a half; the other lanes zero. -/
def nrm (y : Fin 128 → Elt F .f32) (l : Fin 128) : Elt F .f32 :=
  if l.val < 49 then FloatOps.divf (φ := .f32) (y l) (FloatOps.addf (φ := .f32) (y 49) epsc)
  else if l.val = 49 then
    Scalar.select (FloatOps.cmpf (φ := .f32) .ole (FloatOps.divf (φ := .f32) (y 50) (FloatOps.addf (φ := .f32) (y 50) epsc)) (Scalar.ofBits .f32 0x3F000000#32))
      (Scalar.ofBits .f32 0x3F800000#32) (Scalar.ofBits .f32 0x00000000#32)
  else Scalar.ofBits .f32 0x00000000#32

/-- `nrm` on every row. -/
def nrmAll (A : S1x82432x1x128.Idx → Elt F .f32) (j : S1x82432x1x128.Idx) : Elt F .f32 :=
  nrm (fun l => A (ix4 0 (j 1) 0 l)) (j 3)

/-- The cleared block, at an index. -/
theorem pay1_at (r : Fin 512) (l : Fin 128) : (k0_pay1 (F := F)) (ix4 0 r 0 l) = zc := by
  unfold k0_pay1
  simp only [pointwise]

/-- The normalised block, at an index. -/
theorem pay3_at (v : Vec F S1x512x1x128 .f32) (r : Fin 512) (l : Fin 128) :
    k0_pay3 v (ix4 0 r 0 l) = nrm (fun l => v (ix4 0 r 0 l)) l := by
  unfold k0_pay3 nrm
  simp only [pointwise]
  by_cases h : l.val < 49
  · rw [dif_pos h, if_pos h]
    simp
  by_cases h' : l.val = 49
  · rw [dif_neg h, if_neg h, if_pos h', dif_pos (by show l.val - 49 < 1; omega)]
    simp
  · rw [dif_neg h, if_neg h, if_neg h', dif_neg (by show ¬ l.val - 49 < 1; omega)]

/-- The places the clearing and the normalising trips work at. -/
theorem off1_at : ∀ k : Fin k0_t1_loop.trips, k0_off1 k = ![0, 512 * k.val, 0, 0] := by decide +kernel
theorem off42_at : ∀ k : Fin k0_t3_loop.trips, k0_off42 k = ![0, 512 * k.val, 0, 0] := by decide +kernel

/-- Storing 512 rows from row `512 k`: the rows stored, and the others as they were. -/
theorem read_block {arg5 : Memref sig .tc .vmem S1x82432x1x128 .f32} (f : BufTy.Contents (Elt F) arg5.view.ty)
    {off : Fin 4 → Nat} {h} (k : ℕ) (ho : off = ![0, 512 * k, 0, 0]) (p : FVec F S1x512x1x128 .f32) (B B' : S1x82432x1x128.Idx → Elt F .f32)
    (h0 : ∀ j : S1x82432x1x128.Idx, (j 1).val < 512 * k → arg5.view.read (Elt F) f j = B j)
    (h1 : ∀ j : S1x82432x1x128.Idx, ¬ (j 1).val < 512 * k → arg5.view.read (Elt F) f j = B' j)
    (hp : ∀ (j : S1x82432x1x128.Idx) (r : Fin 512), (j 1).val = 512 * k + r.val → p (ix4 0 r 0 (j 3)) = B j) :
    arg5.view.read (Elt F) (arg5.view.writes (Elt F) f [⟨Rect.unit (s := S1x82432x1x128) off S1x512x1x128.size h, p⟩])
      = fun j => if (j 1).val < 512 * (k + 1) then B j else B' j := by
  subst ho
  funext j
  by_cases hlo : (j 1).val < 512 * k
  · rw [if_pos (by omega)]
    refine Eq.trans ?_ (h0 j hlo)
    exact View.read_writes_cons_miss_of_axis arg5.view f _ [] j 1 (512 * k) 512 rfl rfl rfl (by omega)
  by_cases hhi : (j 1).val < 512 * (k + 1)
  · rw [if_pos hhi]
    have hr : (j 1).val - 512 * k < 512 := by omega
    refine Eq.trans ?_ (hp j ⟨(j 1).val - 512 * k, hr⟩ (by show (j 1).val = 512 * k + ((j 1).val - 512 * k); omega))
    refine View.read_writes_cons_hit_of_coords arg5.view f (Rect.unit (s := S1x82432x1x128) ![0, 512 * k, 0, 0] S1x512x1x128.size h) p [] (ix4 0 ⟨(j 1).val - 512 * k, hr⟩ 0 (j 3)) j ?_
    intro a
    match a with
    | ⟨0, _⟩ => have := (j 0).isLt; show (j 0).val = 0 + 1 * 0; change (j 0).val < 1 at this; omega
    | ⟨1, _⟩ => show (j 1).val = 512 * k + 1 * ((j 1).val - 512 * k); omega
    | ⟨2, _⟩ => have := (j 2).isLt; show (j 2).val = 0 + 1 * 0; change (j 2).val < 1 at this; omega
    | ⟨3, _⟩ => show (j 3).val = 0 + 1 * (j 3).val; omega
  · rw [if_neg hhi]
    refine Eq.trans ?_ (h1 j hlo)
    exact View.read_writes_cons_miss_of_axis arg5.view f _ [] j 1 (512 * k) 512 rfl rfl rfl (by omega)

set_option warn.classDefReducibility false

/-- The clearing loop: before trip `k` the first `512 k` rows are clear. -/
def clearInv (c : Dev nD) (i : grid0.Coords) (arg2 : Memref sig .tc .vmem S1x1024x1x49 .f32) (harg2 : arg2.IsWhole) (arg3 : Memref sig .tc .smem S1x1x1x4096 .i32) (harg3 : arg3.IsWhole) (arg4 : Memref sig .tc .smem S1x1x1x4096 .f32) (harg4 : arg4.IsWhole) (arg5 : Memref sig .tc .vmem S1x82432x1x128 .f32) (harg5 : arg5.IsWhole) (arg6 : Memref sig .tc .vmem S1024x1x128 .f32) (harg6 : arg6.IsWhole) (k0_h1 : k0_cond1 i = 1#1) (A : S1x82432x1x128.Idx → Elt F .f32) :
    LoopInvTy_k0_t1 (F := F) Unit ℕ (UR sig nD τ) ℕ Variants.none c none Set.univ i arg2 harg2 arg3 harg3 arg4 harg4 arg5 harg5 arg6 harg6 k0_h1 where
  inv k _ := iprop(∃ f, (arg5.view.loc (c : Thread nD τ) ↦[arg5.view.set]{fullShare} f) ∗ ⌜arg5.view.read (Elt F) f = fun j => if (j 1).val < 512 * k then zc else A j⌝)
  step k acc := by
    iintro ⟨%f, H5, %hf⟩
    unfold k0_t1_body
    sl_exec
    sl_step
    iexists _
    isplitl [H5]; · iexact H5
    ipureintro
    refine read_block f k.val (off1_at k) _ (fun _ => zc) A ?_ ?_ ?_
    · intro j hj; rw [hf]; exact if_pos hj
    · intro j hj; rw [hf]; exact if_neg hj
    · intro j r _; exact pay1_at r (j 3)

/-- The normalising loop: before trip `k` the first `512 k` rows are normalised. -/
def normInv (c : Dev nD) (i : grid0.Coords) (arg2 : Memref sig .tc .vmem S1x1024x1x49 .f32) (harg2 : arg2.IsWhole) (arg3 : Memref sig .tc .smem S1x1x1x4096 .i32) (harg3 : arg3.IsWhole) (arg4 : Memref sig .tc .smem S1x1x1x4096 .f32) (harg4 : arg4.IsWhole) (arg5 : Memref sig .tc .vmem S1x82432x1x128 .f32) (harg5 : arg5.IsWhole) (arg6 : Memref sig .tc .vmem S1024x1x128 .f32) (harg6 : arg6.IsWhole) (k0_h2 : k0_cond2 i = 1#1) (A : S1x82432x1x128.Idx → Elt F .f32) :
    LoopInvTy_k0_t3 (F := F) Unit ℕ (UR sig nD τ) ℕ Variants.none c none Set.univ i arg2 harg2 arg3 harg3 arg4 harg4 arg5 harg5 arg6 harg6 k0_h2 where
  inv k _ := iprop(∃ f, (arg5.view.loc (c : Thread nD τ) ↦[arg5.view.set]{fullShare} f) ∗ ⌜arg5.view.read (Elt F) f = fun j => if (j 1).val < 512 * k then nrmAll A j else A j⌝)
  step k acc := by
    iintro ⟨%f, H5, %hf⟩
    unfold k0_t3_body
    sl_exec
    sl_step
    iexists _
    isplitl [H5]; · iexact H5
    ipureintro
    refine read_block f k.val (off42_at k) _ (nrmAll A) A ?_ ?_ ?_
    · intro j hj; rw [hf]; exact if_pos hj
    · intro j hj; rw [hf]; exact if_neg hj
    · intro j r hr
      refine (pay3_at _ r (j 3)).trans ?_
      unfold nrmAll
      refine congrArg (fun y => nrm y (j 3)) ?_
      funext l
      have e : arg5.view.read (Elt F) f (ix4 0 (j 1) 0 l) = A (ix4 0 (j 1) 0 l) := by
        rw [hf]; exact if_neg (by show ¬ (j 1).val < 512 * k.val; omega)
      refine Eq.trans (congrArg (arg5.view.read (Elt F) f) ?_) e
      funext a
      have ho := off42_at k
      refine Fin.ext ?_
      show k0_off42 k a + 1 * ((ix4 0 r 0 l : S1x512x1x128.Idx) a).val = ((ix4 0 (j 1) 0 l : S1x82432x1x128.Idx) a).val
      rw [ho]
      match a with
      | ⟨0, _⟩ => rfl
      | ⟨1, _⟩ => show 512 * k.val + 1 * r.val = (j 1).val; omega
      | ⟨2, _⟩ => rfl
      | ⟨3, _⟩ => show 0 + 1 * l.val = l.val; omega

/-- The scatter loop: before trip `k` the accumulator holds the chunk's first `4 k` pixels. -/
def chunkInv (c : Dev nD) (i : grid0.Coords) (arg2 : Memref sig .tc .vmem S1x1024x1x49 .f32) (harg2 : arg2.IsWhole) (arg3 : Memref sig .tc .smem S1x1x1x4096 .i32) (harg3 : arg3.IsWhole) (arg4 : Memref sig .tc .smem S1x1x1x4096 .f32) (harg4 : arg4.IsWhole) (arg5 : Memref sig .tc .vmem S1x82432x1x128 .f32) (harg5 : arg5.IsWhole) (arg6 : Memref sig .tc .vmem S1024x1x128 .f32) (harg6 : arg6.IsWhole) (f3 : BufTy.Contents (Elt F) arg3.view.ty) (f4 : BufTy.Contents (Elt F) arg4.view.ty)
    (f6 : BufTy.Contents (Elt F) arg6.view.ty) (hi : ∀ j, (arg3.view.read (Elt F) f3 j : BitVec 32).toNat < 82432) (A : S1x82432x1x128.Idx → Elt F .f32) :
    LoopInvTy_k0_t2 (F := F) Unit ℕ (UR sig nD τ) ℕ Variants.none c none Set.univ i arg2 harg2 arg3 harg3 arg4 harg4 arg5 harg5 arg6 harg6 where
  inv k _ := iprop((arg3.view.loc (c : Thread nD τ) ↦[arg3.view.set]{fullShare} f3) ∗ (arg4.view.loc (c : Thread nD τ) ↦[arg4.view.set]{fullShare} f4) ∗ (arg6.view.loc (c : Thread nD τ) ↦[arg6.view.set]{fullShare} f6)
    ∗ ∃ f, (arg5.view.loc (c : Thread nD τ) ↦[arg5.view.set]{fullShare} f) ∗ ⌜arg5.view.read (Elt F) f = upTo (arg3.view.read (Elt F) f3) (arg4.view.read (Elt F) f4) (arg6.view.read (Elt F) f6) A (4 * k)⌝)
  step k acc := by
    iintro ⟨H3, H4, H6, ⟨%f, H5, %hf⟩⟩
    iapply (wp_wand_r Idealize.ShloMosaic.frame (wpE (defs₀ (F := F)) Variants.none (c : Thread nD τ) none) Set.univ)
    isplitl [H3 H4 H5 H6]
    · iapply (trip c i arg2 harg2 arg3 harg3 arg4 harg4 arg5 harg5 arg6 harg6 k f3 f4 f f6 hi A hf)
      iframe
    · iintro %_ ⟨H3, H4, H5, H6⟩
      iframe

end Cert.Proof.Kernel0Ideal

end
-- ==== Proof.L0I.Body.lean ====
/-  The level-0 kernel body at one grid point, as a function of the three inputs' blocks and the accumulator. -/
module

public import proofs.«01_k».proof.Proof.L0I.Loops

@[expose] public section

set_option maxRecDepth 16384

noncomputable section

namespace Cert.Proof.Kernel0Ideal

open Cert.Kernel0Ideal Cert.Kernel0Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

/-- `nrmAll` on the rows that are sent out. -/
def nrmTop (B : S1x82432x1x128.Idx → Elt F .f32) : S1x82432x1x128.Idx → Elt F .f32 :=
  fun j => if (j 1).val < 512 * 160 then nrmAll B j else B j

/-- The accumulator after one grid point: cleared first where a new block of rows begins, then the chunk's 1024 pixels,
    then normalised where the block of rows ends. -/
def pointStep (first last : Prop) [Decidable first] [Decidable last] (X : Vec F S1x1024x1x49 .f32) (I : S1x1x1x4096.Idx → BitVec 32)
    (W : S1x1x1x4096.Idx → Elt F .f32) (A : S1x82432x1x128.Idx → Elt F .f32) : S1x82432x1x128.Idx → Elt F .f32 :=
  let B := upTo I W (k0_pay2 X) (if first then fun _ => zc else A) 1024
  if last then nrmTop B else B

/-- Storing the whole block of values and reading it back. -/
theorem read_values {arg6 : Memref sig .tc .vmem S1024x1x128 .f32} (f : BufTy.Contents (Elt F) arg6.view.ty) {h}
    (p : FVec F S1024x1x128 .f32) :
    arg6.view.read (Elt F) (arg6.view.writes (Elt F) f [⟨Rect.unit (s := S1024x1x128) ![0, 0, 0] S1024x1x128.size h, p⟩]) = p := by
  funext j
  refine View.read_writes_cons_hit_of_coords arg6.view f (Rect.unit (s := S1024x1x128) ![0, 0, 0] S1024x1x128.size h) p [] j j ?_
  intro a
  match a with
  | ⟨0, _⟩ => show (j 0).val = 0 + 1 * (j 0).val; omega
  | ⟨1, _⟩ => show (j 1).val = 0 + 1 * (j 1).val; omega
  | ⟨2, _⟩ => show (j 2).val = 0 + 1 * (j 2).val; omega

/-- Reading the whole feature block. -/
theorem read_features (arg2 : Memref sig .tc .vmem S1x1024x1x49 .f32) (f : BufTy.Contents (Elt F) arg2.view.ty) {h} :
    arg2.view.readAt (Elt F) (Rect.unit (s := S1x1024x1x49) ![0, 0, 0, 0] S1x1024x1x49.size h).toLoadRect f = arg2.view.read (Elt F) f := by
  funext j
  refine congrArg (arg2.view.read (Elt F) f) ?_
  funext a
  refine Fin.ext ?_
  match a with
  | ⟨0, _⟩ => show 0 + 1 * (j 0).val = (j 0).val; omega
  | ⟨1, _⟩ => show 0 + 1 * (j 1).val = (j 1).val; omega
  | ⟨2, _⟩ => show 0 + 1 * (j 2).val = (j 2).val; omega
  | ⟨3, _⟩ => show 0 + 1 * (j 3).val = (j 3).val; omega

/-- What the body leaves: the inputs' buffers, and the accumulator reading `B`. -/
abbrev leaves (c : Dev nD) (arg2 : Memref sig .tc .vmem S1x1024x1x49 .f32) (arg3 : Memref sig .tc .smem S1x1x1x4096 .i32) (arg4 : Memref sig .tc .smem S1x1x1x4096 .f32) (arg5 : Memref sig .tc .vmem S1x82432x1x128 .f32) (arg6 : Memref sig .tc .vmem S1024x1x128 .f32)
    (f2 : BufTy.Contents (Elt F) arg2.view.ty) (f3 : BufTy.Contents (Elt F) arg3.view.ty) (f4 : BufTy.Contents (Elt F) arg4.view.ty)
    (B : S1x82432x1x128.Idx → Elt F .f32) : sProp 𝕄 :=
  iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4)
            ∗ (∃ f, (arg5.view.loc (c : Thread nD τ) ↦[arg5.view.set]{fullShare} f) ∗ ⌜arg5.view.read (Elt F) f = B⌝)
            ∗ (∃ f, (arg6.view.loc (c : Thread nD τ) ↦[arg6.view.set]{fullShare} f)))

/-- The body from the scatter loop on, entered with the accumulator reading `A` and the values reading `Z`. -/
theorem body_rest (c : Dev nD) (i : grid0.Coords) (arg2 : Memref sig .tc .vmem S1x1024x1x49 .f32) (harg2 : arg2.IsWhole) (arg3 : Memref sig .tc .smem S1x1x1x4096 .i32) (harg3 : arg3.IsWhole) (arg4 : Memref sig .tc .smem S1x1x1x4096 .f32) (harg4 : arg4.IsWhole) (arg5 : Memref sig .tc .vmem S1x82432x1x128 .f32) (harg5 : arg5.IsWhole) (arg6 : Memref sig .tc .vmem S1024x1x128 .f32) (harg6 : arg6.IsWhole)
    (f2 : BufTy.Contents (Elt F) arg2.view.ty) (f3 : BufTy.Contents (Elt F) arg3.view.ty) (f4 : BufTy.Contents (Elt F) arg4.view.ty)
    (f5 : BufTy.Contents (Elt F) arg5.view.ty) (f6 : BufTy.Contents (Elt F) arg6.view.ty)
    (hi : ∀ j, (arg3.view.read (Elt F) f3 j : BitVec 32).toNat < 82432) (A B : S1x82432x1x128.Idx → Elt F .f32)
    (hA : arg5.view.read (Elt F) f5 = A)
    (hB : B = if k0_cond2 i = 1#1 then nrmTop (upTo (arg3.view.read (Elt F) f3) (arg4.view.read (Elt F) f4) (arg6.view.read (Elt F) f6) A 1024)
      else upTo (arg3.view.read (Elt F) f3) (arg4.view.read (Elt F) f4) (arg6.view.read (Elt F) f6) A 1024) :
   (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6)) : sProp 𝕄)
   ⊢ wp frame (wpE (defs₀ (F := F)) Variants.none (c : Thread nD τ) none) Set.univ (do
      Scf.Loop.for k0_t2_loop k0_t2_ok ⟨⟩ (k0_t2_body (F := F) i arg2 harg2 arg3 harg3 arg4 harg4 arg5 harg5 arg6 harg6)
      if k0_h2 : k0_cond2 i = 1#1 then do
        Scf.Loop.for k0_t3_loop (k0_t3_ok i k0_h2) ⟨⟩ (k0_t3_body (F := F) i arg2 harg2 arg3 harg3 arg4 harg4 arg5 harg5 arg6 harg6 k0_h2)
        pure PUnit.unit
      else do
        pure PUnit.unit
      (pure PUnit.unit : Prog (TpuEff nD τ sig (Elt F) Λ₀ .tc) PUnit))
          (fun _ => leaves c arg2 arg3 arg4 arg5 arg6 f2 f3 f4 B) := by
  have n2 : Scf.trips k0_t2_loop.lb k0_t2_loop.ub k0_t2_loop.st = 256 := by decide +kernel
  have n3 : Scf.trips k0_t3_loop.lb k0_t3_loop.ub k0_t3_loop.st = 160 := by decide +kernel
  let L2 := chunkInv c i arg2 harg2 arg3 harg3 arg4 harg4 arg5 harg5 arg6 harg6 f3 f4 f6 hi A
  have h0 : arg5.view.read (Elt F) f5 = upTo (arg3.view.read (Elt F) f3) (arg4.view.read (Elt F) f4) (arg6.view.read (Elt F) f6) A (4 * 0) := hA
  iintro ⟨H2, H3, H4, H5, H6⟩
  by_cases h2 : k0_cond2 i = 1#1
  · rw [if_pos h2] at hB
    let L3 := normInv c i arg2 harg2 arg3 harg3 arg4 harg4 arg5 harg5 arg6 harg6 h2 (upTo (arg3.view.read (Elt F) f3) (arg4.view.read (Elt F) f4) (arg6.view.read (Elt F) f6) A 1024)
    sl_exec
    sl_step
    isplitl [H2]; · iexact H2
    isplitl [H3]; · iexact H3
    isplitl [H4]; · iexact H4
    isplitl [H5]
    · iexists _
      isplitl [H5]; · iexact H5
      ipureintro
      rw [hB, hL6, n3]; rfl
    · iexists _; iexact H6
  · rw [if_neg h2] at hB
    sl_exec
    sl_step
    isplitl [H2]; · iexact H2
    isplitl [H3]; · iexact H3
    isplitl [H4]; · iexact H4
    isplitl [H5]
    · iexists _
      isplitl [H5]; · iexact H5
      ipureintro
      rw [hB, hL4, n2]
    · iexists _; iexact H6

set_option maxHeartbeats 800000 in
/-- The body at one grid point. -/
theorem body_run (c : Dev nD) (i : grid0.Coords) (arg2 : Memref sig .tc .vmem S1x1024x1x49 .f32) (harg2 : arg2.IsWhole) (arg3 : Memref sig .tc .smem S1x1x1x4096 .i32) (harg3 : arg3.IsWhole) (arg4 : Memref sig .tc .smem S1x1x1x4096 .f32) (harg4 : arg4.IsWhole) (arg5 : Memref sig .tc .vmem S1x82432x1x128 .f32) (harg5 : arg5.IsWhole) (arg6 : Memref sig .tc .vmem S1024x1x128 .f32) (harg6 : arg6.IsWhole)
    (f2 : BufTy.Contents (Elt F) arg2.view.ty) (f3 : BufTy.Contents (Elt F) arg3.view.ty) (f4 : BufTy.Contents (Elt F) arg4.view.ty)
    (f5 : BufTy.Contents (Elt F) arg5.view.ty) (f6 : BufTy.Contents (Elt F) arg6.view.ty)
    (hi : ∀ j, (arg3.view.read (Elt F) f3 j : BitVec 32).toNat < 82432) :
   (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6)) : sProp 𝕄)
   ⊢ wp frame (wpE (defs₀ (F := F)) Variants.none (c : Thread nD τ) none) Set.univ (cc0_splat_l0 (F := F) i arg2 harg2 arg3 harg3 arg4 harg4 arg5 harg5 arg6 harg6)
          (fun _ => leaves c arg2 arg3 arg4 arg5 arg6 f2 f3 f4 (pointStep (k0_cond1 i = 1#1) (k0_cond2 i = 1#1) (arg2.view.read (Elt F) f2)
                (arg3.view.read (Elt F) f3) (arg4.view.read (Elt F) f4) (arg5.view.read (Elt F) f5))) := by
  have n1 : Scf.trips k0_t1_loop.lb k0_t1_loop.ub k0_t1_loop.st = 161 := by decide +kernel
  rw [cc0_splat_l0_eq_skeleton]
  unfold cc0_splat_l0_skel
  let g6 : BufTy.Contents (Elt F) arg6.view.ty := (arg6.view.writes (Elt F) arg6.view.junk [⟨Rect.unit (s := S1024x1x128) ![0, 0, 0] S1024x1x128.size inb_S1024x1x128_S1024x1x128_0_0_0, k0_pay2 (arg2.view.readAt (Elt F) (Rect.unit (s := S1x1024x1x49) ![0, 0, 0, 0] S1x1024x1x49.size inb_S1x1024x1x49_S1x1024x1x49_0_0_0_0).toLoadRect f2)⟩])
  have fin : ∀ (g6 : BufTy.Contents (Elt F) arg6.view.ty) (A A' : S1x82432x1x128.Idx → Elt F .f32), A = A' →
      arg6.view.read (Elt F) g6 = k0_pay2 (arg2.view.read (Elt F) f2) →
      A' = (if k0_cond1 i = 1#1 then fun _ => zc else arg5.view.read (Elt F) f5) →
      pointStep (k0_cond1 i = 1#1) (k0_cond2 i = 1#1) (arg2.view.read (Elt F) f2)
                (arg3.view.read (Elt F) f3) (arg4.view.read (Elt F) f4) (arg5.view.read (Elt F) f5)
      = if k0_cond2 i = 1#1 then nrmTop (upTo (arg3.view.read (Elt F) f3) (arg4.view.read (Elt F) f4) (arg6.view.read (Elt F) g6) A 1024)
      else upTo (arg3.view.read (Elt F) f3) (arg4.view.read (Elt F) f4) (arg6.view.read (Elt F) g6) A 1024 := by
    intro g6 A A' hA h6 h; rw [h6, hA, h]; rfl
  by_cases h1 : k0_cond1 i = 1#1
  · let L1 := clearInv c i arg2 harg2 arg3 harg3 arg4 harg4 arg5 harg5 arg6 harg6 h1 (arg5.view.read (Elt F) f5)
    iintro ⟨H2, H3, H4, H5, H6⟩
    sl_exec
    rename_i fL0
    iapply (body_rest c i arg2 harg2 arg3 harg3 arg4 harg4 arg5 harg5 arg6 harg6 f2 f3 f4 fL0 g6 hi _ _ rfl (fin g6 _ _ hL1 ((read_values _ _).trans (congrArg k0_pay2 (read_features arg2 f2))) (by
      rw [if_pos h1, n1]
      funext j
      exact if_pos (by have := (j 1).isLt; change (j 1).val < 82432 at this; omega))))
    isplitl [H2]; · iexact H2
    isplitl [H3]; · iexact H3
    isplitl [H4]; · iexact H4
    isplitl [H5]; · iexact H5
    iexact H6
  · iintro ⟨H2, H3, H4, H5, H6⟩
    sl_exec
    iapply (body_rest c i arg2 harg2 arg3 harg3 arg4 harg4 arg5 harg5 arg6 harg6 f2 f3 f4 f5 g6 hi _ _ rfl (fin g6 _ _ rfl ((read_values _ _).trans (congrArg k0_pay2 (read_features arg2 f2))) (by
      rw [if_neg h1])))
    isplitl [H2]; · iexact H2
    isplitl [H3]; · iexact H3
    isplitl [H4]; · iexact H4
    isplitl [H5]; · iexact H5
    iexact H6

end Cert.Proof.Kernel0Ideal

end
-- ==== Proof.L0I.Run.lean ====
/-  The level-0 program's run: every grid point's body, the launch, and what the run leaves. -/
module

public import proofs.«01_k».proof.Proof.L0I.Kit
public import proofs.«01_k».proof.Proof.L0I.Body

@[expose] public section

set_option maxRecDepth 16384

noncomputable section

namespace Cert.Proof.Kernel0Ideal

open Cert.Kernel0Ideal Cert.Kernel0Ideal.Gen
open Idealize.ShloMosaic Idealize.ShloMosaic.Pipeline Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

variable (m : (ℓ : Loc nD τ sig) → Buf (Elt F) ℓ) (ρ : Dev nD → PrngReg)

/-- The accumulator after the first `n` grid points. -/
def accTo (c : Dev nD) : ℕ → S1x82432x1x128.Idx → Elt F .f32
  | 0 => fun _ => zc
  | n + 1 => if h : n < cfg0.N then
      pointStep (n % 240 = 0) (n % 240 = 239) (iblk m c 0 ⟨n, h⟩) (iblk m c 1 ⟨n, h⟩) (iblk m c 2 ⟨n, h⟩) (accTo c n)
    else accTo c n

/-- The two conditions of the body, over the grid. -/
theorem cond1_iff : ∀ t : Fin cfg0.N, k0_cond1 (grid0.coords t) = 1#1 ↔ t.val % 240 = 0 := by decide +kernel
theorem cond2_iff : ∀ t : Fin cfg0.N, k0_cond2 (grid0.coords t) = 1#1 ↔ t.val % 240 = 239 := by decide +kernel

/-- The proof data: inputs left in place, the result's buffer holding the accumulator. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => accTo m c (t.val + 1)
  Φ _ := Pipeline.ΦA spec0 c
  q _ := fullShare
  owed _ := 0

theorem dats_A (c : Dev nD) (w : Fin cfg0.W) : (dats m 0 c).A w = V m c (Pipeline.arrRef spec0 w) := by
  dsimp only [dats]
theorem dats_after0 (c : Dev nD) (t : Fin cfg0.N) : (dats m 0 c).after 0 t = iblk m c 0 t := by dsimp only [dats]
theorem dats_after1 (c : Dev nD) (t : Fin cfg0.N) : (dats m 0 c).after 1 t = iblk m c 1 t := by dsimp only [dats]
theorem dats_after2 (c : Dev nD) (t : Fin cfg0.N) : (dats m 0 c).after 2 t = iblk m c 2 t := by dsimp only [dats]
theorem dats_after3 (c : Dev nD) (t : Fin cfg0.N) : (dats m 0 c).after 3 t = accTo m c (t.val + 1) := by dsimp only [dats]

/-- One point's step on whatever the result's buffer holds when the body runs. -/
theorem step_eq (c : Dev nD) (t : Fin cfg0.N) (d) :
    pointStep (k0_cond1 (grid0.coords t) = 1#1) (k0_cond2 (grid0.coords t) = 1#1) (iblk m c 0 t) (iblk m c 1 t) (iblk m c 2 t)
      ((dats m 0 c).before 3 t d) = accTo m c (t.val + 1) := by
  rw [accTo, dif_pos t.isLt]
  have p1 : (k0_cond1 (grid0.coords t) = 1#1) = (t.val % 240 = 0) := propext (cond1_iff t)
  have p2 : (k0_cond2 (grid0.coords t) = 1#1) = (t.val % 240 = 239) := propext (cond2_iff t)
  by_cases h : t.val % 240 = 0
  · simp only [pointStep, p1, p2, h, if_true]
  · have ht : t.val ≠ 0 := fun e => h (by rw [e])
    have hb : (dats m 0 c).before 3 t d = accTo m c t.val := by
      rw [Dat.before_out_kept (dats m 0 c) 3 rfl t ht (by
        refine Bool.eq_false_iff.mpr fun e => ?_
        have := (flush0_3 ⟨t.val - 1, _⟩).mp e
        have : (t.val - 1) % 240 = 239 := this
        omega) (fun _ => rfl) (fun _ _ => rfl) d, dats_after3]
      exact congrArg (accTo m c) (by show t.val - 1 + 1 = t.val; omega)
    rw [hb]
    simp only [pointStep, p1, p2]

/-- Every row number the region's table holds addresses a row of the accumulator. -/
def RowsOk : Prop := ∀ (c : Dev nD) (t : Fin cfg0.N) (j : S1x1x1x4096.Idx), (iblk m c 1 t j : BitVec 32).toNat < 82432

/-- Holding the scratch buffer through its memref is holding it. -/
theorem scratch_eq (c : Dev nD) (f : Buf (Elt F) ((c : Thread nD τ).loc cc0_scratch0)) :
    ((Memref.whole cc0_scratch0 : Memref sig .tc _ _ _).view.loc (c : Thread nD τ) ↦[(Memref.whole cc0_scratch0 : Memref sig .tc _ _ _).view.set]{fullShare} f : sProp 𝕄)
      = ((c : Thread nD τ).loc cc0_scratch0 ↦{fullShare} f) := by
  simp only [Memref.view_whole, View.set_whole]

set_option maxHeartbeats 800000 in
/-- The body obligation. -/
theorem body_obligation (hok : RowsOk m) (c : Dev nD) : BodyObligation (dats m 0 c) (defs₀ (F := F)) Variants.none () Set.univ := fun t => by
  rw [bigSep_W0, bigSep_W0]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl]
  unfold Pipeline.ΦA owns
  rw [scopedRest0_eq]
  iintro ⟨⟨⟨%f6, H6⟩, Hg⟩, Howes, ⟨%d0, %f2, %h2, H2⟩, ⟨%d1, %f3, %h3, H3⟩, ⟨%d2, %f4, %h4, H4⟩, ⟨%d3, %f5, %h5, H5⟩⟩
  rw [before0_0_of m (dats m 0 c) (dats_A m c 0) (dats_after0 m c) t] at h2
  rw [before0_1_of m (dats m 0 c) (dats_A m c 1) (dats_after1 m c) t] at h3
  rw [before0_2_of m (dats m 0 c) (dats_A m c 2) (dats_after2 m c) t] at h4
  iapply (wp_wand_r Idealize.ShloMosaic.frame (wpE (defs₀ (F := F)) Variants.none (c : Thread nD τ) none) Set.univ)
  isplitl [H2 H3 H4 H5 H6]
  · iapply (body_run c (grid0.coords t) (win0_0.stage (cfg0.slots t 0)) (hstage0_0 ((cfg0.slots t 0).cast nbuf0_0)) (win0_1.stage (cfg0.slots t 1)) (hstage0_1 ((cfg0.slots t 1).cast nbuf0_1))
      (win0_2.stage (cfg0.slots t 2)) (hstage0_2 ((cfg0.slots t 2).cast nbuf0_2)) (win0_3.stage (cfg0.slots t 3)) (hstage0_3 ((cfg0.slots t 3).cast nbuf0_3))
      (Memref.whole cc0_scratch0) (Memref.isWhole_whole _) f2 f3 f4 f5 f6 (by
        intro j
        have := hok c t j
        rw [← h3] at this
        exact this))
    isplitl [H2]; · iexact H2
    isplitl [H3]; · iexact H3
    isplitl [H4]; · iexact H4
    isplitl [H5]; · iexact H5
    rw [scratch_eq]
    iexact H6
  · iintro %_ ⟨H2, H3, H4, ⟨%g5, H5, %hg⟩, ⟨%g6, H6⟩⟩
    isplitl [H6 Hg]
    · isplitl [H6]
      · iexists g6
        rw [← scratch_eq]
        iexact H6
      iexact Hg
    isplitl [Howes]; · iexact Howes
    isplitl [H2]
    · iexists f2; isplitr; · ipureintro; exact h2
      iexact H2
    isplitl [H3]
    · iexists f3; isplitr; · ipureintro; exact h3
      iexact H3
    isplitl [H4]
    · iexists f4; isplitr; · ipureintro; exact h4
      iexact H4
    · iexists g5; isplitr
      · ipureintro
        have e2 : (win0_0.stage (cfg0.slots t 0)).view.read (Elt F) f2 = iblk m c 0 t := h2
        have e3 : (win0_1.stage (cfg0.slots t 1)).view.read (Elt F) f3 = iblk m c 1 t := h3
        have e4 : (win0_2.stage (cfg0.slots t 2)).view.read (Elt F) f4 = iblk m c 2 t := h4
        have e5 : (win0_3.stage (cfg0.slots t 3)).view.read (Elt F) f5 = (dats m 0 c).before 3 t d3 := h5
        rw [e2, e3, e4, e5, step_eq] at hg
        exact hg
      iexact H5

/-- The run: it terminates with the windows' arrays and every buffer the tail computes as stated, the counters at zero. -/
theorem run (hok : RowsOk m) : θ_run (defs (F := F)) (onTc (τ := τ) (main (F := F))) (s₀ m ρ)
    (fun r => FramePost cfgs (dats m) 0 (Pipeline.afterTail₀ cfgs (dats m) 0 (V0 m) [hostOps1]) r ∧ r.2.sem = fun _ => 0) :=
  Pipeline.θ_run_frame_around cfgs (dats m) 0 launch0 defs₀ Variants.none m ρ main
    (fun c => (body_obligation m hok c).loose) (fun c w => (dats m 0 c).share_full (fun _ => rfl) w) (fun _ _ => rfl)
    (V₀ := V0 m) (opss := [hostOps1]) (hsub := sfx_sub) (hfresh := sfx_fresh) (hkeep := sfx_keeps) (hmain := hmain m Variants.none)
    (hA := fun c w => dats_A m c w) (hΦ := fun _ _ => rfl) _ (fun _ h => h)

end Cert.Proof.Kernel0Ideal

end
-- ==== Proof.L0I.Rows.lean ====
/-  Every row number the level-0 host lines put in the table addresses a row of the accumulator. -/
module

public import proofs.«01_k».proof.Proof.L0I.Host
public import proofs.«01_k».proof.Proof.L0I.Run

@[expose] public section

set_option maxRecDepth 16384

noncomputable section

namespace Cert.Proof.Kernel0Ideal

open Cert.Kernel0Ideal Cert.Kernel0Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

/-- What every entry of three bands has, every entry of the table has. -/
theorem bands3_all {α : Type} {P : α → Prop} {a b c : S4x1x245760x4.Idx → α} (ha : ∀ i, P (a i)) (hb : ∀ i, P (b i))
    (hc : ∀ i, P (c i)) (j : S12x240x1x4096.Idx) : P (bands3 a b c j) := by
  unfold bands3 shapeCast
  refine concatenate_forall (P := P) _ _ _ _ (fun p hp => ?_) _
  simp only [List.mem_cons, List.not_mem_nil, or_false] at hp
  rcases hp with rfl | rfl | rfl
  · exact ha
  · exact hb
  · exact hc
/-- What every entry of four pictures has, every entry of their band has. -/
theorem corners4_all {α : Type} {P : α → Prop} {a b c d : S4x384x640.Idx → α} (ha : ∀ i, P (a i)) (hb : ∀ i, P (b i))
    (hc : ∀ i, P (c i)) (hd : ∀ i, P (d i)) (j : S4x1x245760x4.Idx) :
    P (band1 (corners4 (flat1 a) (flat1 b) (flat1 c) (flat1 d)) j) := by
  unfold band1 broadcastInDim corners4
  refine concatenate_forall (P := P) _ _ _ _ (fun p hp => ?_) _
  simp only [List.mem_cons, List.not_mem_nil, or_false] at hp
  rcases hp with rfl | rfl | rfl | rfl
  · exact fun i => ha _
  · exact fun i => hb _
  · exact fun i => hc _
  · exact fun i => hd _

/-- A word from 0 to below a small bound, as numbers. -/
theorem word_between (x : BitVec 32) (n : ℕ) (hn : n < 2 ^ 31) :
    IntOp.andi (IntOp.cmpi .sge x 0#32) (IntOp.cmpi .slt x (BitVec.ofNat 32 n)) = 1#1 ↔ x.toNat < n := by
  rw [WordCmp.andi_sge_zero_slt_ofNat (by omega)]
  exact WordCmp.ofBool_decide_eq_one_iff _

/-- Every row number is the number of a row, or of the spare row. -/
theorem rowA_le (xk yk : IVec S4x384x640 32) (lo : BitVec 32) (i : S4x384x640.Idx) : (rowA xk yk lo i).toNat ≤ 81920 := by
  show (Scalar.select (okA xk yk lo i) (localA xk yk lo i) 81920#32).toNat ≤ 81920
  by_cases h : okA xk yk lo i = 1#1
  · rw [h]
    have h1 : IntOp.cmpi .slt (localA xk yk lo i) (BitVec.ofNat 32 81920) = 1#1 := by
      have : ∀ p q : BitVec 1, IntOp.andi p q = 1#1 → q = 1#1 := by decide
      exact this _ _ h
    have h2 : IntOp.cmpi .sge (localA xk yk lo i) 0#32 = 1#1 := by
      have : ∀ p q r : BitVec 1, IntOp.andi (IntOp.andi p q) r = 1#1 → q = 1#1 := by decide
      exact this _ _ _ h
    have := (word_between (localA xk yk lo i) 81920 (by decide)).mp (by rw [h1, h2]; decide)
    show (localA xk yk lo i).toNat ≤ 81920
    omega
  · have : okA xk yk lo i = 0#1 := by
      have : ∀ p : BitVec 1, p ≠ 1#1 → p = 0#1 := by decide
      exact this _ h
    rw [this]
    exact (by decide : (81920#32).toNat ≤ 81920)

/-- Every row number of the table addresses a row of the accumulator. -/
theorem tabI_le (x0 y0 : IVec S4x384x640 32) (j : S12x240x1x4096.Idx) : (tabI x0 y0 j).toNat ≤ 81920 := by
  unfold tabI
  refine bands3_all (P := fun w : BitVec 32 => w.toNat ≤ 81920) ?_ ?_ ?_ j <;>
  exact corners4_all (P := fun w : BitVec 32 => w.toNat ≤ 81920) (rowA_le _ _ _) (rowA_le _ _ _) (rowA_le _ _ _) (rowA_le _ _ _)

/-- So the region's table addresses rows of the accumulator only. -/
theorem rows_ok (m : (ℓ : Loc nD τ sig) → Buf (Elt F) ℓ) : RowsOk m := fun c t j => by
  have h : ∃ k, iblk m c 1 t j = V m c main_v462 k := ⟨_, rfl⟩
  obtain ⟨k, hk⟩ := h
  rw [hk, V_rows]
  exact Nat.lt_of_le_of_lt (tabI_le _ _ k) (by decide)

end Cert.Proof.Kernel0Ideal

end
-- ==== Proof.L0I.Frame.lean ====
/-  The level-0 program runs to its end and leaves its arguments alone. -/
module

public import proofs.«01_k».proof.Proof.L0I.Rows

@[expose] public section

set_option maxRecDepth 16384

noncomputable section

namespace Cert.Proof.Kernel0Ideal

open Cert.Kernel0Ideal Cert.Kernel0Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

variable (m : (ℓ : Loc nD τ sig) → Buf (Elt F) ℓ) (ρ : Dev nD → PrngReg)

/-- The lines after the region write their own results only. -/
theorem tail_keeps (b : Ref sig .tc) (hb : ∀ r ∈ [main_v465, main_v466, main_v467, main_v468, main_v469, main_v470, main_v471, main_v472, main_v473, main_v474, main_v475, main_v476, main_v477], b ≠ r) :
    ∀ op ∈ (hostOps1 : List (HloOp τ sig (Elt F))), Proc.devRef .tc b ∉ op.writes := by
  refine List.forall_iff_forall_mem.mp ?_
  simp only [hostOps1, List.Forall, StableHlo.unary_writes, StableHlo.reshape_writes, Finset.mem_singleton]
  repeat' apply And.intro
  all_goals exact StableHlo.devRef_ne_of_ne (hb _ (by simp))

/-- After the run the arguments are as they were. -/
theorem args_kept (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  ⟨((h c).2 main_arg0 (Pipeline.mem_restRefs_of main_arg0 (by decide) (by decide))).trans ((W_of m (dats m) c main_arg0 (by decide) (tail_keeps _ (by decide))).trans (V_main_arg0 m c)),
   ((h c).2 main_arg1 (Pipeline.mem_restRefs_of main_arg1 (by decide) (by decide))).trans ((W_of m (dats m) c main_arg1 (by decide) (tail_keeps _ (by decide))).trans (V_main_arg1 m c)),
   ((h c).2 main_arg2 (Pipeline.mem_restRefs_of main_arg2 (by decide) (by decide))).trans ((W_of m (dats m) c main_arg2 (by decide) (tail_keeps _ (by decide))).trans (V_main_arg2 m c)),
   ((h c).2 main_arg3 (Pipeline.mem_restRefs_of main_arg3 (by decide) (by decide))).trans ((W_of m (dats m) c main_arg3 (by decide) (tail_keeps _ (by decide))).trans (V_main_arg3 m c)),
   ((h c).2 main_arg4 (Pipeline.mem_restRefs_of main_arg4 (by decide) (by decide))).trans ((W_of m (dats m) c main_arg4 (by decide) (tail_keeps _ (by decide))).trans (V_main_arg4 m c)),
   ((h c).2 main_arg5 (Pipeline.mem_restRefs_of main_arg5 (by decide) (by decide))).trans ((W_of m (dats m) c main_arg5 (by decide) (tail_keeps _ (by decide))).trans (V_main_arg5 m c))⟩

/-- The program runs to its end from any memory, leaves its arguments alone and every semaphore at zero. -/
theorem quiescent : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5))
    ∧ r.2.sem = fun _ => 0) :=
  (θ_run defs _ _).mono (fun r h => ⟨args_kept m r h.1, h.2⟩) (run m ρ (rows_ok m))

end Cert.Proof.Kernel0Ideal

end
-- ==== Proof.Val.Scalar.lean ====
/-  One pixel and one target: when a corner of a warped coordinate falls on a given pixel, and with which weight. -/
module

public import Idealize.ShloMosaic.Lib.Pipeline
public import Idealize.ShloMosaic.Lib.IdealHost
public import Idealize.ShloMosaic.Lib.WordCmp
public import Idealize.ShloMosaic.Lib.Routing.OpsPair

@[expose] public section

noncomputable section

namespace Cert.Proof.Val

open Idealize.ShloMosaic

/-- The corner before a coordinate, as a word. -/
def corner (g : EReal) : BitVec 32 := Ideal.fptosi 32 (Ideal.liftRound Int.floor g)
/-- The weight of the corner after a coordinate (`d = 1`) or before it (`d = 0`). -/
def wt (d : Bool) (g : EReal) : EReal :=
  if d then g - Ideal.liftRound Int.floor g else 1 - (g - Ideal.liftRound Int.floor g)
/-- A corner's step as a word. -/
def stp (d : Bool) : BitVec 32 := if d then 1#32 else 0#32

/-- A corner that falls in the picture has its coordinate close by. -/
theorem inside (g : EReal) (d : Bool) (X N : ℕ) (hX : X < N) (hN : N ≤ 1000) (h : corner g + stp d = BitVec.ofNat 32 X) :
    ((-1 : ℝ) : EReal) ≤ g ∧ g < ((N : ℝ) : EReal) := by
  have hn := congrArg BitVec.toNat h
  rw [BitVec.toNat_add, BitVec.toNat_ofNat] at hn
  have hd : (stp d).toNat ≤ 1 := by cases d <;> decide
  unfold corner Ideal.fptosi at hn
  induction g using EReal.rec with
  | bot =>
    have e : Ideal.liftRound Int.floor ⊥ = ⊥ := rfl
    rw [e, Ideal.toIntClamped_bot, BitVec.toNat_ofInt] at hn
    norm_num at hn
    omega
  | top =>
    have e : Ideal.liftRound Int.floor ⊤ = ⊤ := rfl
    rw [e, Ideal.toIntClamped_top, BitVec.toNat_ofInt] at hn
    norm_num at hn
    omega
  | coe r =>
    have e : Ideal.liftRound Int.floor (r : EReal) = (((⌊r⌋ : ℤ) : ℝ) : EReal) := rfl
    rw [e, Ideal.toIntClamped_coe, BitVec.toNat_ofInt] at hn
    rw [Int.floor_intCast, Int.ceil_intCast, ite_self] at hn
    norm_num at hn
    have h1 : (-1 : ℤ) ≤ ⌊r⌋ ∧ ⌊r⌋ < N := by
      generalize ⌊r⌋ = z at hn
      omega
    rw [EReal.coe_le_coe_iff, EReal.coe_lt_coe_iff]
    constructor
    · have := Int.le_floor.mp h1.1
      push_cast at this
      exact this
    · have h2 := Int.floor_lt.mp h1.2
      push_cast at h2
      exact h2

/-- Bounding a coordinate well outside the picture leaves every corner that falls in it as it was. -/
theorem clip_inside (lo hi : ℝ) (g : EReal) (N : ℕ) (hlo : lo ≤ -2) (hhi : (N : ℝ) ≤ hi)
    (h : ((-1 : ℝ) : EReal) ≤ min (hi : EReal) (max (lo : EReal) g) ∧ min (hi : EReal) (max (lo : EReal) g) < ((N : ℝ) : EReal)
      ∨ ((-1 : ℝ) : EReal) ≤ g ∧ g < ((N : ℝ) : EReal)) :
    min (hi : EReal) (max (lo : EReal) g) = g := by
  have h1 : ((N : ℝ) : EReal) ≤ (hi : EReal) := EReal.coe_le_coe_iff.mpr hhi
  have h2 : (lo : EReal) < ((-1 : ℝ) : EReal) := EReal.coe_lt_coe_iff.mpr (by linarith)
  rcases h with ⟨ha, hb⟩ | ⟨ha, hb⟩
  · rcases le_total (hi : EReal) (max (lo : EReal) g) with q | q
    · rw [min_eq_left q] at hb
      exact absurd hb (not_lt.mpr h1)
    · rw [min_eq_right q] at ha ⊢
      rcases le_total (lo : EReal) g with p | p
      · rw [max_eq_right p]
      · rw [max_eq_left p] at ha
        exact absurd h2 (not_lt.mpr ha)
  · rw [max_eq_right (h2.le.trans ha), min_eq_right (hb.le.trans h1)]

/-- The weight with which a pixel whose coordinates are `gx` and `gy` reaches the pixel `(Y, X)` by its corner `(dx, dy)`. -/
def share (dx dy : Bool) (gx gy : EReal) (Y X : ℕ) : EReal :=
  if corner gx + stp dx = BitVec.ofNat 32 X ∧ corner gy + stp dy = BitVec.ofNat 32 Y then wt dx gx * wt dy gy else 0

/-- Bounding the coordinates changes no share. -/
theorem share_clip (dx dy : Bool) (gx gy : EReal) (Y X : ℕ) (hX : X < 640) (hY : Y < 384) (lo hx hy : ℝ) (hlo : lo ≤ -2)
    (hhx : 640 ≤ hx) (hhy : 384 ≤ hy) :
    share dx dy (min (hx : EReal) (max (lo : EReal) gx)) (min (hy : EReal) (max (lo : EReal) gy)) Y X = share dx dy gx gy Y X := by
  have key : (corner (min (hx : EReal) (max (lo : EReal) gx)) + stp dx = BitVec.ofNat 32 X
      ∧ corner (min (hy : EReal) (max (lo : EReal) gy)) + stp dy = BitVec.ofNat 32 Y)
      ∨ (corner gx + stp dx = BitVec.ofNat 32 X ∧ corner gy + stp dy = BitVec.ofNat 32 Y) →
      min (hx : EReal) (max (lo : EReal) gx) = gx ∧ min (hy : EReal) (max (lo : EReal) gy) = gy := by
    rintro (⟨a, b⟩ | ⟨a, b⟩)
    · exact ⟨clip_inside lo hx gx 640 hlo (by exact_mod_cast hhx) (.inl (inside _ dx X 640 hX (by decide) a)),
        clip_inside lo hy gy 384 hlo (by exact_mod_cast hhy) (.inl (inside _ dy Y 384 hY (by decide) b))⟩
    · exact ⟨clip_inside lo hx gx 640 hlo (by exact_mod_cast hhx) (.inr (inside _ dx X 640 hX (by decide) a)),
        clip_inside lo hy gy 384 hlo (by exact_mod_cast hhy) (.inr (inside _ dy Y 384 hY (by decide) b))⟩
  unfold share
  by_cases p : corner (min (hx : EReal) (max (lo : EReal) gx)) + stp dx = BitVec.ofNat 32 X
      ∧ corner (min (hy : EReal) (max (lo : EReal) gy)) + stp dy = BitVec.ofNat 32 Y
  · obtain ⟨e1, e2⟩ := key (.inl p)
    rw [e1, e2]
  · rw [if_neg p]
    by_cases q : corner gx + stp dx = BitVec.ofNat 32 X ∧ corner gy + stp dy = BitVec.ofNat 32 Y
    · obtain ⟨e1, e2⟩ := key (.inr q)
      rw [e1, e2] at p
      exact absurd q p
    · rw [if_neg q]

/-- The condition that a corner lies in the picture, as a word. -/
def inPic (x y : BitVec 32) : BitVec 1 :=
  IntOp.andi (IntOp.andi (IntOp.andi (IntOp.cmpi .sge x 0#32) (IntOp.cmpi .slt x 640#32)) (IntOp.cmpi .sge y 0#32)) (IntOp.cmpi .slt y 384#32)

theorem inPic_iff (x y : BitVec 32) : inPic x y = 1#1 ↔ x.toNat < 640 ∧ y.toNat < 384 := by
  have split : ∀ p q r s : BitVec 1, IntOp.andi (IntOp.andi (IntOp.andi p q) r) s = 1#1 ↔ IntOp.andi p q = 1#1 ∧ IntOp.andi r s = 1#1 := by decide
  have hx : IntOp.andi (IntOp.cmpi .sge x 0#32) (IntOp.cmpi .slt x (BitVec.ofNat 32 640)) = 1#1 ↔ x.toNat < 640 := by
    rw [WordCmp.andi_sge_zero_slt_ofNat (by omega)]; exact WordCmp.ofBool_decide_eq_one_iff _
  have hy : IntOp.andi (IntOp.cmpi .sge y 0#32) (IntOp.cmpi .slt y (BitVec.ofNat 32 384)) = 1#1 ↔ y.toNat < 384 := by
    rw [WordCmp.andi_sge_zero_slt_ofNat (by omega)]; exact WordCmp.ofBool_decide_eq_one_iff _
  unfold inPic
  rw [split]
  exact and_congr hx hy

/-- The band's row of a corner, as a word. -/
def rowW (x y lo : BitVec 32) : BitVec 32 := y * 640#32 + x - lo
/-- The condition that a corner lies in the picture and in the band, as a word. -/
def inBand (x y lo : BitVec 32) : BitVec 1 :=
  IntOp.andi (IntOp.andi (inPic x y) (IntOp.cmpi .sge (rowW x y lo) 0#32)) (IntOp.cmpi .slt (rowW x y lo) 81920#32)

theorem inBand_iff (x y lo : BitVec 32) : inBand x y lo = 1#1 ↔ (x.toNat < 640 ∧ y.toNat < 384) ∧ (rowW x y lo).toNat < 81920 := by
  have split : ∀ p r s : BitVec 1, IntOp.andi (IntOp.andi p r) s = 1#1 ↔ p = 1#1 ∧ IntOp.andi r s = 1#1 := by decide
  have hx : IntOp.andi (IntOp.cmpi .sge (rowW x y lo) 0#32) (IntOp.cmpi .slt (rowW x y lo) (BitVec.ofNat 32 81920)) = 1#1
      ↔ (rowW x y lo).toNat < 81920 := by
    rw [WordCmp.andi_sge_zero_slt_ofNat (by omega)]; exact WordCmp.ofBool_decide_eq_one_iff _
  unfold inBand
  rw [split, inPic_iff]
  exact and_congr_right fun _ => hx

theorem one_or_zero (b : BitVec 1) : b = 1#1 ∨ b = 0#1 := by revert b; decide

/-- The table's row of a corner is row `r` of the band at `lo` exactly when the corner is the pixel with that row. -/
theorem row_iff (x y : BitVec 32) (lo r Y X : ℕ) (hr : r < 81920) (hX : X < 640) (hY : Y < 384) (e : lo + r = Y * 640 + X) :
    (Scalar.select (inBand x y (BitVec.ofNat 32 lo)) (rowW x y (BitVec.ofNat 32 lo)) 81920#32).toNat = r
      ↔ x = BitVec.ofNat 32 X ∧ y = BitVec.ofNat 32 Y := by
  have hv : (rowW x y (BitVec.ofNat 32 lo)).toNat = (2 ^ 32 - lo % 2 ^ 32 + (y.toNat * 640 + x.toNat) % 2 ^ 32) % 2 ^ 32 := by
    unfold rowW
    rw [BitVec.toNat_sub, BitVec.toNat_add, BitVec.toNat_mul, BitVec.toNat_ofNat]
    norm_num
  rw [Nat.mod_eq_of_lt (by omega : lo < 2 ^ 32)] at hv
  have hx : x = BitVec.ofNat 32 X ↔ x.toNat = X := by
    constructor
    · rintro rfl; rw [BitVec.toNat_ofNat]; omega
    · intro h; apply BitVec.eq_of_toNat_eq; rw [BitVec.toNat_ofNat]; omega
  have hy : y = BitVec.ofNat 32 Y ↔ y.toNat = Y := by
    constructor
    · rintro rfl; rw [BitVec.toNat_ofNat]; omega
    · intro h; apply BitVec.eq_of_toNat_eq; rw [BitVec.toNat_ofNat]; omega
  rw [hx, hy]
  rcases one_or_zero (inBand x y (BitVec.ofNat 32 lo)) with p | p
  · have q := (inBand_iff _ _ _).mp p
    rw [p]
    show (rowW x y (BitVec.ofNat 32 lo)).toNat = r ↔ _
    rw [hv, Nat.mod_eq_of_lt (by omega : y.toNat * 640 + x.toNat < 2 ^ 32)] at q ⊢
    obtain ⟨⟨q1, q2⟩, q3⟩ := q
    generalize x.toNat = x' at *
    generalize y.toNat = y' at *
    have hm : lo ≤ y' * 640 + x' := by
      by_contra hc
      rw [Nat.mod_eq_of_lt (by omega : 2 ^ 32 - lo + (y' * 640 + x') < 2 ^ 32)] at q3
      omega
    have hq : (2 ^ 32 - lo + (y' * 640 + x')) % 2 ^ 32 = y' * 640 + x' - lo := by
      rw [(by omega : 2 ^ 32 - lo + (y' * 640 + x') = 2 ^ 32 + (y' * 640 + x' - lo)), Nat.add_mod_left, Nat.mod_eq_of_lt (by omega)]
    rw [hq]
    constructor
    · intro h
      have : y' = Y := by omega
      omega
    · rintro ⟨rfl, rfl⟩
      omega
  · rw [p]
    show (81920#32).toNat = r ↔ _
    have q : ¬ inBand x y (BitVec.ofNat 32 lo) = 1#1 := by rw [p]; decide
    rw [inBand_iff, hv] at q
    have q' : ¬ (x.toNat = X ∧ y.toNat = Y) := fun h => q (by
      rw [Nat.mod_eq_of_lt (by omega : y.toNat * 640 + x.toNat < 2 ^ 32)]
      omega)
    have : (81920#32).toNat = 81920 := rfl
    omega

/-- One entry of the tables adds, to row `r` of its band, the pixel's share. -/
theorem table_term (x y : BitVec 32) (lo r Y X : ℕ) (hr : r < 81920) (hX : X < 640) (hY : Y < 384) (e : lo + r = Y * 640 + X) (w v : EReal) :
    (if (Scalar.select (inBand x y (BitVec.ofNat 32 lo)) (rowW x y (BitVec.ofNat 32 lo)) 81920#32).toNat = r
      then Scalar.select (inBand x y (BitVec.ofNat 32 lo)) w 0 * v else 0)
      = (if x = BitVec.ofNat 32 X ∧ y = BitVec.ofNat 32 Y then w else 0) * v := by
  by_cases h : (Scalar.select (inBand x y (BitVec.ofNat 32 lo)) (rowW x y (BitVec.ofNat 32 lo)) 81920#32).toNat = r
  · rw [if_pos h, if_pos ((row_iff x y lo r Y X hr hX hY e).mp h)]
    rcases one_or_zero (inBand x y (BitVec.ofNat 32 lo)) with p | p
    · rw [p]; rfl
    · rw [p] at h
      have : (81920#32).toNat = r := h
      have : (81920#32).toNat = 81920 := rfl
      omega
  · rw [if_neg h, if_neg fun q => h ((row_iff x y lo r Y X hr hX hY e).mpr q), zero_mul]

/-- The scatter's target of a corner of a pixel of sample `b`, as a word. -/
def aim (b x y : BitVec 32) : BitVec 32 := Scalar.select (inPic x y) (b * 245760#32 + y * 640#32 + x) 0#32
/-- The target with a negative word counted from the end. -/
def aimW (b x y : BitVec 32) : BitVec 32 :=
  Scalar.select (IntOp.cmpi .slt (aim b x y) 0#32) (aim b x y + 491520#32) (aim b x y)

/-- One update of the scatter adds, to the pixel `(Y, X)` of sample `s`, the pixel's share. -/
theorem scatter_term (x y : BitVec 32) (b s : Fin 2) (Y X : ℕ) (hX : X < 640) (hY : Y < 384) (w v : EReal) :
    (if (aimW (BitVec.ofNat 32 b.val) x y).toInt = ((s.val * 245760 + (Y * 640 + X) : ℕ) : ℤ)
      then v * Scalar.select (inPic x y) w 0 else 0)
      = if b = s then (if x = BitVec.ofNat 32 X ∧ y = BitVec.ofNat 32 Y then w else 0) * v else 0 := by
  have hx : x = BitVec.ofNat 32 X ↔ x.toNat = X := by
    constructor
    · rintro rfl; rw [BitVec.toNat_ofNat]; omega
    · intro h; apply BitVec.eq_of_toNat_eq; rw [BitVec.toNat_ofNat]; omega
  have hy : y = BitVec.ofNat 32 Y ↔ y.toNat = Y := by
    constructor
    · rintro rfl; rw [BitVec.toNat_ofNat]; omega
    · intro h; apply BitVec.eq_of_toNat_eq; rw [BitVec.toNat_ofNat]; omega
  simp only [hx, hy]
  have hb := b.isLt
  have hs := s.isLt
  rcases one_or_zero (inPic x y) with p | p
  · have q := (inPic_iff _ _).mp p
    have hv : (aim (BitVec.ofNat 32 b.val) x y).toNat = b.val * 245760 + (y.toNat * 640 + x.toNat) := by
      unfold aim
      rw [p]
      show (BitVec.ofNat 32 b.val * 245760#32 + y * 640#32 + x).toNat = _
      rw [BitVec.toNat_add, BitVec.toNat_add, BitVec.toNat_mul, BitVec.toNat_mul, BitVec.toNat_ofNat]
      norm_num
      omega
    have hw : aimW (BitVec.ofNat 32 b.val) x y = aim (BitVec.ofNat 32 b.val) x y :=
      Routing.wrap_of_lt _ _ (by rw [hv]; omega)
    rw [hw, BitVec.toInt_eq_toNat_of_lt (by rw [hv]; omega), hv, p]
    have hif : ((b.val * 245760 + (y.toNat * 640 + x.toNat) : ℕ) : ℤ) = ((s.val * 245760 + (Y * 640 + X) : ℕ) : ℤ)
        ↔ b = s ∧ (x.toNat = X ∧ y.toNat = Y) := by
      rw [Fin.ext_iff]
      omega
    have hsel : Scalar.select (1#1) w (0 : EReal) = w := rfl
    rw [hsel]
    by_cases h1 : b = s
    · by_cases h2 : x.toNat = X ∧ y.toNat = Y
      · rw [if_pos (hif.mpr ⟨h1, h2⟩), if_pos h1, if_pos h2, mul_comm]
      · rw [if_neg fun h => h2 (hif.mp h).2, if_pos h1, if_neg h2, zero_mul]
    · rw [if_neg fun h => h1 (hif.mp h).1, if_neg h1]
  · have q : ¬ inPic x y = 1#1 := by rw [p]; decide
    rw [inPic_iff] at q
    have h2 : ¬ (x.toNat = X ∧ y.toNat = Y) := by omega
    have hsel : Scalar.select (0#1) w (0 : EReal) = 0 := rfl
    rw [p, hsel, mul_zero, ite_self, if_neg h2, zero_mul, ite_self]

end Cert.Proof.Val

end
-- ==== Proof.Val.Sum.lean ====
/-  The accumulator of the level-0 program at a row: the sum of what the pixels' corners bring to it. -/
module

public import proofs.«01_k».proof.Proof.L0I.Run
public import proofs.«01_k».proof.Proof.Val.Scalar

@[expose] public section

set_option maxRecDepth 16384

noncomputable section

namespace Cert.Proof.Kernel0Ideal

open Cert.Kernel0Ideal Cert.Kernel0Ideal.Gen
open Idealize.ShloMosaic Idealize.ShloMosaic.TcCoe

/-- One pixel's step at a row that at most one of its corners names. -/
theorem pix_row (i : Fin 4 → BitVec 32) (w : Fin 4 → Elt Ideal .f32) (v : Fin 128 → Elt Ideal .f32) (A : S1x82432x1x128.Idx → Elt Ideal .f32)
    (r : Fin 82432) (l : Fin 128) (hd : ∀ a b, (i a).toNat = r.val → (i b).toNat = r.val → a = b) :
    (pix i w v A (ix4 0 r 0 l) : EReal)
      = A (ix4 0 r 0 l) + ∑ k : Fin 4, (if (i k).toNat = r.val then (w k : EReal) * v l else 0) := by
  rw [Fin.sum_univ_four]
  have n : ∀ a b, a ≠ b → (i a).toNat = r.val → ¬ (i b).toNat = r.val := fun a b h p q => h (hd a b p q)
  show (if r.val = (i 3).toNat then (A (ix4 0 r 0 l) : EReal) + (w 3 : EReal) * v l
    else if r.val = (i 2).toNat then (A (ix4 0 r 0 l) : EReal) + (w 2 : EReal) * v l
    else if r.val = (i 1).toNat then (A (ix4 0 r 0 l) : EReal) + (w 1 : EReal) * v l
    else if r.val = (i 0).toNat then (A (ix4 0 r 0 l) : EReal) + (w 0 : EReal) * v l
    else A (ix4 0 r 0 l)) = _
  simp only [eq_comm (a := r.val)]
  by_cases h3 : (i 3).toNat = r.val
  · rw [if_pos h3, if_pos h3, if_neg (n 3 0 (by decide) h3), if_neg (n 3 1 (by decide) h3), if_neg (n 3 2 (by decide) h3), zero_add, zero_add, zero_add]
  rw [if_neg h3, if_neg h3]
  by_cases h2 : (i 2).toNat = r.val
  · rw [if_pos h2, if_pos h2, if_neg (n 2 0 (by decide) h2), if_neg (n 2 1 (by decide) h2), zero_add, zero_add, add_zero]
  rw [if_neg h2, if_neg h2]
  by_cases h1 : (i 1).toNat = r.val
  · rw [if_pos h1, if_pos h1, if_neg (n 1 0 (by decide) h1), zero_add, add_zero, add_zero]
  rw [if_neg h1, if_neg h1]
  by_cases h0 : (i 0).toNat = r.val
  · rw [if_pos h0, if_pos h0, add_zero, add_zero, add_zero]
  rw [if_neg h0, if_neg h0, add_zero, add_zero, add_zero, add_zero]

/-- What pixel `n` of a chunk brings to row `r`, lane `l`. -/
def brings (I : S1x1x1x4096.Idx → BitVec 32) (W : S1x1x1x4096.Idx → EReal) (Z : S1024x1x128.Idx → EReal) (r : ℕ) (l : Fin 128) (n : Fin 1024) : EReal :=
  ∑ k : Fin 4, (if (I (ix4 0 0 0 ⟨4 * n.val + k.val, by omega⟩)).toNat = r then W (ix4 0 0 0 ⟨4 * n.val + k.val, by omega⟩) * Z (ix3 n 0 l) else 0)

/-- No two corners of a pixel name row `r`. -/
def Apart (I : S1x1x1x4096.Idx → BitVec 32) (r : ℕ) : Prop :=
  ∀ (n : Fin 1024) (a b : Fin 4), (I (ix4 0 0 0 ⟨4 * n.val + a.val, by omega⟩)).toNat = r → (I (ix4 0 0 0 ⟨4 * n.val + b.val, by omega⟩)).toNat = r → a = b

/-- A chunk's pixels, at a row. -/
theorem upTo_row (I : S1x1x1x4096.Idx → BitVec 32) (W : S1x1x1x4096.Idx → Elt Ideal .f32) (Z : S1024x1x128.Idx → Elt Ideal .f32)
    (A : S1x82432x1x128.Idx → Elt Ideal .f32) (r : Fin 82432) (l : Fin 128) (hd : Apart I r.val) :
    (upTo I W Z A 1024 (ix4 0 r 0 l) : EReal) = A (ix4 0 r 0 l) + ∑ n : Fin 1024, brings I W Z r.val l n := by
  have step : ∀ n : ℕ, (upTo I W Z A n (ix4 0 r 0 l) : EReal)
      = A (ix4 0 r 0 l) + ∑ k ∈ Finset.range n, (if h : k < 1024 then brings I W Z r.val l ⟨k, h⟩ else 0) := by
    intro n
    induction n with
    | zero => rw [Finset.range_zero, Finset.sum_empty, add_zero]; rfl
    | succ n ih =>
      rw [Finset.sum_range_succ, ← add_assoc, ← ih, upTo]
      by_cases h : n < 1024
      · rw [dif_pos h, dif_pos h]
        exact pix_row _ _ _ _ r l (hd ⟨n, h⟩)
      · rw [dif_neg h, dif_neg h, add_zero]
  rw [step 1024, Finset.sum_range]
  refine congrArg (fun z : EReal => A (ix4 0 r 0 l) + z) (Finset.sum_congr rfl fun n _ => ?_)
  rw [dif_pos n.isLt]

variable (m : (ℓ : Loc nD τ sig) → Buf (Elt Ideal) ℓ)

/-- What the chunk of grid point `t` brings to row `r`, lane `l`. -/
def chunk (c : Dev nD) (r : ℕ) (l : Fin 128) (t : ℕ) : EReal :=
  if h : t < cfg0.N then ∑ n : Fin 1024, brings (iblk m c 1 ⟨t, h⟩) (iblk m c 2 ⟨t, h⟩) (k0_pay2 (iblk m c 0 ⟨t, h⟩)) r l n else 0

/-- The accumulator of block `p` before its last step's normalisation, after `k + 1` chunks. -/
theorem acc_row (c : Dev nD) (p : ℕ) (hp : p < 12) (r : Fin 82432) (l : Fin 128) (hd : ∀ t : Fin cfg0.N, Apart (iblk m c 1 t) r.val) :
    ∀ (k : ℕ) (hk : k < 240) (ht : 240 * p + k < cfg0.N),
      (upTo (iblk m c 1 ⟨240 * p + k, ht⟩) (iblk m c 2 ⟨240 * p + k, ht⟩) (k0_pay2 (iblk m c 0 ⟨240 * p + k, ht⟩))
        (if (240 * p + k) % 240 = 0 then fun _ => zc else accTo m c (240 * p + k)) 1024 (ix4 0 r 0 l) : EReal)
      = (zc (F := Ideal) : EReal) + ∑ i ∈ Finset.range (k + 1), chunk m c r.val l (240 * p + i) := by
  intro k
  induction k with
  | zero =>
    intro hk ht
    rw [upTo_row _ _ _ _ r l (hd _), if_pos (by omega), Finset.sum_range_one, chunk, dif_pos ht]
  | succ k ih =>
    intro hk ht
    rw [upTo_row _ _ _ _ r l (hd _), if_neg (by omega), Finset.sum_range_succ, ← add_assoc (G := EReal), ← ih (by omega) (by omega)]
    have e : accTo m c (240 * p + (k + 1)) (ix4 0 r 0 l)
        = upTo (iblk m c 1 ⟨240 * p + k, by omega⟩) (iblk m c 2 ⟨240 * p + k, by omega⟩) (k0_pay2 (iblk m c 0 ⟨240 * p + k, by omega⟩))
          (if (240 * p + k) % 240 = 0 then fun _ => zc else accTo m c (240 * p + k)) 1024 (ix4 0 r 0 l) := by
      show accTo m c ((240 * p + k) + 1) (ix4 0 r 0 l) = _
      rw [accTo, dif_pos (by omega : 240 * p + k < cfg0.N), pointStep]
      rw [if_neg (by omega : ¬ (240 * p + k) % 240 = 239)]
    rw [e, show chunk m c r.val l (240 * p + (k + 1)) = _ from dif_pos ht]

/-- What the chunks of block `p` bring to row `r`, lane `l`. -/
def total (c : Dev nD) (p r : ℕ) (l : Fin 128) : EReal := ∑ i ∈ Finset.range 240, chunk m c r l (240 * p + i)

/-- The accumulator at the end of block `p`. -/
theorem acc_end (c : Dev nD) (p : ℕ) (hp : p < 12) (r : Fin 82432) (hr : r.val < 81920) (l : Fin 128) (hd : ∀ t : Fin cfg0.N, Apart (iblk m c 1 t) r.val) :
    accTo m c (240 * p + 239 + 1) (ix4 0 r 0 l) = nrm (F := Ideal) (fun l => total m c p r.val l) l := by
  have hN : cfg0.N = 2880 := by decide
  have ht : 240 * p + 239 < cfg0.N := by omega
  rw [accTo, dif_pos ht, pointStep]
  rw [if_pos (by omega : (240 * p + 239) % 240 = 239)]
  show (if r.val < 512 * 160 then nrmAll _ (ix4 0 r 0 l) else _) = _
  rw [if_pos (by omega)]
  unfold nrmAll
  congr 1
  funext l'
  refine (acc_row m c p hp r l' hd 239 (by decide) ht).trans ?_
  have hz : (zc (F := Ideal) : EReal) = 0 := by
    show Ideal.ofBits .f32 0x00000000#32 = 0
    exact Ideal.ofBits_zero_f32
  rw [hz, zero_add]
  rfl

end Cert.Proof.Kernel0Ideal

end
-- ==== Proof.Val.Tab.lean ====
/-  The two tables of the level-0 program at an index. -/
module

public import proofs.«01_k».proof.Proof.L0I.Run
public import proofs.«01_k».proof.Proof.L0I.Host
public import proofs.«01_k».proof.Proof.Val.Scalar
public import Idealize.ShloMosaic.Lib.Pipeline.Value

@[expose] public section

set_option maxRecDepth 16384

noncomputable section

namespace Cert.Proof.Kernel0Ideal

open Cert.Kernel0Ideal Cert.Kernel0Ideal.Gen Cert.Proof.Val
open Idealize.ShloMosaic Idealize.ShloMosaic.TcCoe

/-- The pixel `P` of picture `q`, as an index of the four pictures. -/
def pq (q : Fin 4) (P : Fin 245760) : S4x384x640.Idx :=
  ix3 q (⟨P.val / 640, by omega⟩ : Fin 384) (⟨P.val % 640, by omega⟩ : Fin 640)
/-- Where the tables hold corner `k` of pixel `P` of picture `q` for band `b`. -/
def at4 (q : Fin 4) (b : Fin 3) (P : Fin 245760) (k : Fin 4) : S12x240x1x4096.Idx :=
  ix4 (⟨3 * q.val + b.val, by omega⟩ : Fin 12) (⟨P.val / 1024, by omega⟩ : Fin 240) 0 (⟨4 * (P.val % 1024) + k.val, by omega⟩ : Fin 4096)

variable {α : Type}

theorem flat1_at (a : S4x384x640.Idx → α) (q : Fin 4) (P : Fin 245760) : flat1 a (ix3 q P 0) = a (pq q P) := by
  unfold flat1
  refine (broadcastInDim_apply _ _ _ _ (ix2 q P) fun x => ?_).trans ?_
  · match x with
    | ⟨0, _⟩ => rfl
    | ⟨1, _⟩ => rfl
  · refine shapeCast_apply a _ _ _ ?_
    rw [Shape.rowMajor_val_three, Shape.rowMajor_val_two]
    show (q.val * 384 + P.val / 640) * 640 + P.val % 640 = q.val * 245760 + P.val
    omega

theorem corners4_at (a : Fin 4 → S4x245760x1.Idx → α) (q : Fin 4) (P : Fin 245760) (k : Fin 4) :
    corners4 (a 0) (a 1) (a 2) (a 3) (ix3 q P k) = a k (ix3 q P 0) := by
  unfold corners4
  have hi : ∀ b : Fin S4x245760x1.rank, b.cast (rfl : S4x245760x1.rank = S4x245760x4.rank) ≠ 2 →
      ((ix3 q P 0 : S4x245760x1.Idx) b).val = ((ix3 q P k : S4x245760x4.Idx) (b.cast rfl)).val := by
    intro b hb
    match b with
    | ⟨0, _⟩ => rfl
    | ⟨1, _⟩ => rfl
    | ⟨2, _⟩ => exact absurd rfl hb
  match k, hi with
  | 0, hi => exact concatenate_apply_piece (t := S4x245760x4) 2 _ _ _ 0 (by simp) S4x245760x1 (a 0) (by exact rfl) rfl 0 (by exact rfl) (ix3 q P 0) hi rfl
  | 1, hi => exact concatenate_apply_piece (t := S4x245760x4) 2 _ _ _ 1 (by simp) S4x245760x1 (a 1) (by exact rfl) rfl 1 (by exact rfl) (ix3 q P 0) hi rfl
  | 2, hi => exact concatenate_apply_piece (t := S4x245760x4) 2 _ _ _ 2 (by simp) S4x245760x1 (a 2) (by exact rfl) rfl 2 (by exact rfl) (ix3 q P 0) hi rfl
  | 3, hi => exact concatenate_apply_piece (t := S4x245760x4) 2 _ _ _ 3 (by simp) S4x245760x1 (a 3) (by exact rfl) rfl 3 (by exact rfl) (ix3 q P 0) hi rfl

theorem band1_at (a : S4x245760x4.Idx → α) (q : Fin 4) (P : Fin 245760) (k : Fin 4) : band1 a (ix4 q 0 P k) = a (ix3 q P k) := by
  unfold band1
  refine broadcastInDim_apply _ _ _ _ (ix3 q P k) fun x => ?_
  match x with
  | ⟨0, _⟩ => rfl
  | ⟨1, _⟩ => rfl
  | ⟨2, _⟩ => rfl

theorem bands3_at (a : Fin 3 → S4x1x245760x4.Idx → α) (q : Fin 4) (b : Fin 3) (P : Fin 245760) (k : Fin 4) :
    bands3 (a 0) (a 1) (a 2) (at4 q b P k) = a b (ix4 q 0 P k) := by
  unfold bands3
  refine (shapeCast_apply _ _ _ (ix3 (⟨3 * q.val + b.val, by omega⟩ : Fin 12) P k) ?_).trans ?_
  · rw [Shape.rowMajor_val_three, Shape.rowMajor_val_four]
    show ((3 * q.val + b.val) * 245760 + P.val) * 4 + k.val
      = (((3 * q.val + b.val) * 240 + P.val / 1024) * 1 + 0) * 4096 + (4 * (P.val % 1024) + k.val)
    omega
  refine (shapeCast_apply _ _ _ (ix4 q b P k) ?_).trans ?_
  · rw [Shape.rowMajor_val_three, Shape.rowMajor_val_four]
    show ((q.val * 3 + b.val) * 245760 + P.val) * 4 + k.val = ((3 * q.val + b.val) * 245760 + P.val) * 4 + k.val
    omega
  have hi : ∀ x : Fin S4x1x245760x4.rank, x.cast (rfl : S4x1x245760x4.rank = S4x3x245760x4.rank) ≠ 1 →
      ((ix4 q 0 P k : S4x1x245760x4.Idx) x).val = ((ix4 q b P k : S4x3x245760x4.Idx) (x.cast rfl)).val := by
    intro x hx
    match x with
    | ⟨0, _⟩ => rfl
    | ⟨1, _⟩ => exact absurd rfl hx
    | ⟨2, _⟩ => rfl
    | ⟨3, _⟩ => rfl
  match b, hi with
  | 0, hi => exact concatenate_apply_piece (t := S4x3x245760x4) 1 _ _ _ 0 (by simp) S4x1x245760x4 (a 0) (by exact rfl) rfl 0 (by exact rfl) (ix4 q 0 P k) hi rfl
  | 1, hi => exact concatenate_apply_piece (t := S4x3x245760x4) 1 _ _ _ 1 (by simp) S4x1x245760x4 (a 1) (by exact rfl) rfl 1 (by exact rfl) (ix4 q 0 P k) hi rfl
  | 2, hi => exact concatenate_apply_piece (t := S4x3x245760x4) 1 _ _ _ 2 (by simp) S4x1x245760x4 (a 2) (by exact rfl) rfl 2 (by exact rfl) (ix4 q 0 P k) hi rfl

/-- Corner `k`'s step to the right. -/
def dxk : Fin 4 → Bool := ![false, true, false, true]
/-- Corner `k`'s step down. -/
def dyk : Fin 4 → Bool := ![false, false, true, true]

/-- The table of rows, at an index. -/
theorem tabI_at (x0 y0 : IVec S4x384x640 32) (q : Fin 4) (b : Fin 3) (P : Fin 245760) (k : Fin 4) :
    tabI x0 y0 (at4 q b P k)
      = Scalar.select (inBand (x0 (pq q P) + stp (dxk k)) (y0 (pq q P) + stp (dyk k)) (BitVec.ofNat 32 (81920 * b.val)))
          (rowW (x0 (pq q P) + stp (dxk k)) (y0 (pq q P) + stp (dyk k)) (BitVec.ofNat 32 (81920 * b.val))) 81920#32 := by
  have h : tabI x0 y0 (at4 q b P k) = rowA (addi x0 (cI (stp (dxk k)))) (addi y0 (cI (stp (dyk k)))) (BitVec.ofNat 32 (81920 * b.val)) (pq q P) := by
    let f : Fin 3 → Fin 4 → S4x245760x1.Idx → BitVec 32 := fun b k =>
      flat1 (rowA (addi x0 (cI (stp (dxk k)))) (addi y0 (cI (stp (dyk k)))) (BitVec.ofNat 32 (81920 * b.val)))
    refine (bands3_at (fun b => band1 (corners4 (f b 0) (f b 1) (f b 2) (f b 3))) q b P k).trans ?_
    refine (band1_at _ q P k).trans ((corners4_at (f b) q P k).trans (flat1_at _ q P))
  rw [h]
  rfl

theorem zero_at (i : S4x384x640.Idx) : (cF (F := Ideal) 0x00000000#32 i : EReal) = 0 := by
  show Ideal.ofBits .f32 0x00000000#32 = 0
  exact Ideal.ofBits_zero_f32

/-- The weight of corner `k` over the pictures. -/
def wk (vx vy : FVec Ideal S4x384x640 .f32) (k : Fin 4) : FVec Ideal S4x384x640 .f32 :=
  mulf (if dxk k then fracA vx else restA vx) (if dyk k then fracA vy else restA vy)

theorem wk_at (vx vy : FVec Ideal S4x384x640 .f32) (k : Fin 4) (i : S4x384x640.Idx) :
    (wk vx vy k i : EReal) = wt (dxk k) (vx i) * wt (dyk k) (vy i) := by
  have one : (cF (F := Ideal) 0x3F800000#32 i : EReal) = 1 := by
    show Ideal.ofBits .f32 0x3F800000#32 = 1
    exact Ideal.ofBits_one_f32
  have e : ∀ (d : Bool) (v : FVec Ideal S4x384x640 .f32), ((if d then fracA v else restA v) i : EReal) = wt d (v i) := by
    intro d v
    cases d
    · show (cF (F := Ideal) 0x3F800000#32 i : EReal) - fracA v i = _
      rw [one]
      rfl
    · rfl
  show ((if dxk k then fracA vx else restA vx) i : EReal) * (if dyk k then fracA vy else restA vy) i = _
  rw [e, e]

/-- The table of weights, at an index. -/
theorem tabW_at (x0 y0 : IVec S4x384x640 32) (vx vy : FVec Ideal S4x384x640 .f32) (q : Fin 4) (b : Fin 3) (P : Fin 245760) (k : Fin 4) :
    (tabW (F := Ideal) x0 y0 vx vy (at4 q b P k) : EReal)
      = Scalar.select (inBand (x0 (pq q P) + stp (dxk k)) (y0 (pq q P) + stp (dyk k)) (BitVec.ofNat 32 (81920 * b.val)))
          (wt (dxk k) (vx (pq q P)) * wt (dyk k) (vy (pq q P))) 0 := by
  have h : tabW (F := Ideal) x0 y0 vx vy (at4 q b P k)
      = wgtA (addi x0 (cI (stp (dxk k)))) (addi y0 (cI (stp (dyk k)))) (BitVec.ofNat 32 (81920 * b.val)) (wk vx vy k) (pq q P) := by
    let f : Fin 3 → Fin 4 → S4x245760x1.Idx → Ideal .f32 := fun b k =>
      flat1 (wgtA (addi x0 (cI (stp (dxk k)))) (addi y0 (cI (stp (dyk k)))) (BitVec.ofNat 32 (81920 * b.val)) (wk vx vy k))
    refine (bands3_at (fun b => band1 (corners4 (f b 0) (f b 1) (f b 2) (f b 3))) q b P k).trans ?_
    refine (band1_at _ q P k).trans ((corners4_at (f b) q P k).trans (flat1_at _ q P))
  rw [h]
  show Scalar.select _ (wk vx vy k (pq q P) : EReal) (cF (F := Ideal) 0x00000000#32 (pq q P) : EReal) = _
  rw [wk_at, zero_at]
  rfl

end Cert.Proof.Kernel0Ideal

end
-- ==== Proof.Val.Blk.lean ====
/-  The level-0 program's windows at an index: what a block of an input holds, and what the output array ends with. -/
module

public import proofs.«01_k».proof.Proof.L0I.Run
public import Idealize.ShloMosaic.Lib.Pipeline.Value
public import Idealize.ShloMosaic.Lib.Pipeline.ValueKit.Geometry
public import Idealize.ShloMosaic.Lib.IdealHost

@[expose] public section

set_option maxRecDepth 16384

noncomputable section

namespace Cert.Proof.Kernel0Ideal

open Cert.Kernel0Ideal Cert.Kernel0Ideal.Gen
open Idealize.ShloMosaic Idealize.ShloMosaic.TcCoe Idealize.ShloMosaic.Tactic

theorem points : cfg0.N = 2880 := by decide

/-- The two coordinates of a grid point: the picture's band and the chunk. -/
theorem coord0 (t : Fin cfg0.N) : (grid0.coords t (0 : Fin 2)).val = t.val / 240 := by
  have h := Pipeline.Grid.coords_val (G := grid0) t (0 : Fin 2) (S := 240) (B := 12) rfl rfl
  have : t.val < 2880 := points ▸ t.isLt
  rw [h]
  omega
theorem coord1 (t : Fin cfg0.N) : (grid0.coords t (1 : Fin 2)).val = t.val % 240 := by
  have h := Pipeline.Grid.coords_val (G := grid0) t (1 : Fin 2) (S := 1) (B := 240) rfl rfl
  rw [h, Nat.div_one]

theorem word_val (n : ℕ) (h : n < 2880) : (BitVec.ofNat 32 n).toNat = n := by
  rw [BitVec.toNat_ofNat]
  omega

/-- A grid point's coordinates from the first alone. -/
def firstOf (a : Fin 12) : grid0.Coords := fun x => match x with
  | ⟨0, _⟩ => a
  | ⟨1, _⟩ => (0 : Fin 240)

/-- Where each window's block lies, as a number for each axis. -/
theorem place0 (t : Fin cfg0.N) : cc0_transform_0 (grid0.coords t) 0 = t.val / 720 ∧ cc0_transform_0 (grid0.coords t) 1 = t.val % 240
    ∧ cc0_transform_0 (grid0.coords t) 2 = 0 ∧ cc0_transform_0 (grid0.coords t) 3 = 0 := by
  have hd : ∀ a : Fin 12, ∀ i : grid0.Coords, i (0 : Fin 2) = a → cc0_transform_0 i 0 = cc0_transform_0 (firstOf a) 0 := by
    intro a i hi
    subst hi
    rfl
  have hv : ∀ a : Fin 12, cc0_transform_0 (firstOf a) 0 = a.val / 3 := by decide
  refine ⟨(hd _ _ rfl).trans ((hv _).trans ?_), ?_, rfl, rfl⟩
  · have := coord0 t
    show (grid0.coords t (0 : Fin 2)).val / 3 = _
    omega
  · have h := coord1 t
    show (BitVec.ofNat 32 (grid0.coords t (1 : Fin 2)).val).toNat = _
    rw [h]
    exact word_val _ (by omega)
theorem place1 (t : Fin cfg0.N) : cc0_transform_1 (grid0.coords t) 0 = t.val / 240 ∧ cc0_transform_1 (grid0.coords t) 1 = t.val % 240
    ∧ cc0_transform_1 (grid0.coords t) 2 = 0 ∧ cc0_transform_1 (grid0.coords t) 3 = 0 := by
  have : t.val < 2880 := points ▸ t.isLt
  refine ⟨?_, ?_, rfl, rfl⟩
  · show (BitVec.ofNat 32 (grid0.coords t (0 : Fin 2)).val).toNat = _
    rw [coord0 t]
    exact word_val _ (by omega)
  · show (BitVec.ofNat 32 (grid0.coords t (1 : Fin 2)).val).toNat = _
    rw [coord1 t]
    exact word_val _ (by omega)
theorem place2 (t : Fin cfg0.N) : cc0_transform_2 (grid0.coords t) 0 = t.val / 240 ∧ cc0_transform_2 (grid0.coords t) 1 = t.val % 240
    ∧ cc0_transform_2 (grid0.coords t) 2 = 0 ∧ cc0_transform_2 (grid0.coords t) 3 = 0 := place1 t
theorem place3 (t : Fin cfg0.N) : cc0_transform_3 (grid0.coords t) 0 = t.val / 240 ∧ cc0_transform_3 (grid0.coords t) 1 = 0
    ∧ cc0_transform_3 (grid0.coords t) 2 = 0 ∧ cc0_transform_3 (grid0.coords t) 3 = 0 := ⟨(place1 t).1, rfl, rfl, rfl⟩

variable (m : (ℓ : Loc nD τ sig) → Buf (Elt Ideal) ℓ)

/-- The chunk of features of a grid point. -/
theorem blk0_at (c : Dev nD) (t : Fin cfg0.N) (n : Fin 1024) (l : Fin 49) (q : Fin 4) (P : Fin 245760) (hq : q.val = t.val / 720)
    (hP : P.val = t.val % 240 * 1024 + n.val) : iblk m c 0 t (ix4 0 n 0 l) = V m c main_v4 (ix4 q P 0 l) := by
  have e : ((cfg0.win 0).rect t).emb (ix4 0 n 0 l : S1x1024x1x49.Idx) = (ix4 q P 0 l : S4x245760x1x49.Idx) := by
    obtain ⟨h0, h1, h2, h3⟩ := place0 t
    funext a
    refine Fin.ext ((Pipeline.Window.rect_emb_val (cfg0.win 0) t _ a).trans ?_)
    match a with
    | ⟨0, _⟩ => refine (congrArg (fun z => z * 1 + 0) h0).trans ?_; show t.val / 720 * 1 + 0 = q.val; omega
    | ⟨1, _⟩ => refine (congrArg (fun z => z * 1024 + n.val) h1).trans ?_; show t.val % 240 * 1024 + n.val = P.val; omega
    | ⟨2, _⟩ => exact congrArg (fun z => z * 1 + 0) h2
    | ⟨3, _⟩ => refine (congrArg (fun z => z * 49 + l.val) h3).trans ?_; show 0 * 49 + l.val = l.val; omega
  have g : ∀ A : S4x245760x1x49.Idx → EReal, ((cfg0.win 0).blk t).view.read (Elt Ideal) A (ix4 0 n 0 l : S1x1024x1x49.Idx) = A (ix4 q P 0 l) := fun A => congrArg A e
  exact g (V m c main_v4)

/-- The chunk of rows of a grid point. -/
theorem blk1_at (c : Dev nD) (t : Fin cfg0.N) (j : Fin 4096) (p : Fin 12) (i : Fin 240) (hp : p.val = t.val / 240) (hi : i.val = t.val % 240) :
    iblk m c 1 t (ix4 0 0 0 j) = V m c main_v462 (ix4 p i 0 j) := by
  have e : ((cfg0.win 1).rect t).emb (ix4 0 0 0 j : S1x1x1x4096.Idx) = (ix4 p i 0 j : S12x240x1x4096.Idx) := by
    obtain ⟨h0, h1, h2, h3⟩ := place1 t
    funext a
    refine Fin.ext ((Pipeline.Window.rect_emb_val (cfg0.win 1) t _ a).trans ?_)
    match a with
    | ⟨0, _⟩ => refine (congrArg (fun z => z * 1 + 0) h0).trans ?_; show t.val / 240 * 1 + 0 = p.val; omega
    | ⟨1, _⟩ => refine (congrArg (fun z => z * 1 + 0) h1).trans ?_; show t.val % 240 * 1 + 0 = i.val; omega
    | ⟨2, _⟩ => exact congrArg (fun z => z * 1 + 0) h2
    | ⟨3, _⟩ => refine (congrArg (fun z => z * 4096 + j.val) h3).trans ?_; show 0 * 4096 + j.val = j.val; omega
  have g : ∀ A : S12x240x1x4096.Idx → BitVec 32, ((cfg0.win 1).blk t).view.read (Elt Ideal) A (ix4 0 0 0 j : S1x1x1x4096.Idx) = A (ix4 p i 0 j) := fun A => congrArg A e
  exact g (V m c main_v462)

/-- The chunk of weights of a grid point. -/
theorem blk2_at (c : Dev nD) (t : Fin cfg0.N) (j : Fin 4096) (p : Fin 12) (i : Fin 240) (hp : p.val = t.val / 240) (hi : i.val = t.val % 240) :
    iblk m c 2 t (ix4 0 0 0 j) = V m c main_v463 (ix4 p i 0 j) := by
  have e : ((cfg0.win 2).rect t).emb (ix4 0 0 0 j : S1x1x1x4096.Idx) = (ix4 p i 0 j : S12x240x1x4096.Idx) := by
    obtain ⟨h0, h1, h2, h3⟩ := place2 t
    funext a
    refine Fin.ext ((Pipeline.Window.rect_emb_val (cfg0.win 2) t _ a).trans ?_)
    match a with
    | ⟨0, _⟩ => refine (congrArg (fun z => z * 1 + 0) h0).trans ?_; show t.val / 240 * 1 + 0 = p.val; omega
    | ⟨1, _⟩ => refine (congrArg (fun z => z * 1 + 0) h1).trans ?_; show t.val % 240 * 1 + 0 = i.val; omega
    | ⟨2, _⟩ => exact congrArg (fun z => z * 1 + 0) h2
    | ⟨3, _⟩ => refine (congrArg (fun z => z * 4096 + j.val) h3).trans ?_; show 0 * 4096 + j.val = j.val; omega
  have g : ∀ A : S12x240x1x4096.Idx → EReal, ((cfg0.win 2).blk t).view.read (Elt Ideal) A (ix4 0 0 0 j : S1x1x1x4096.Idx) = A (ix4 p i 0 j) := fun A => congrArg A e
  exact g (V m c main_v463)

/-- What the output array ends with: block `p` is the accumulator after its last chunk. -/
def ends (c : Dev nD) : S12x82432x1x128.Idx → EReal :=
  fun j => accTo m c (240 * (j 0).val + 239 + 1) (ix4 0 (j 1) 0 (j 3) : S1x82432x1x128.Idx)

theorem emb3 (t : Fin cfg0.N) (y : S1x82432x1x128.Idx) (p : Fin 12) (hp : p.val = t.val / 240) :
    ((cfg0.win 3).rect t).emb y = (ix4 p (y 1) 0 (y 3) : S12x82432x1x128.Idx) := by
  obtain ⟨h0, h1, h2, h3⟩ := place3 t
  funext a
  refine Fin.ext ((Pipeline.Window.rect_emb_val (cfg0.win 3) t _ a).trans ?_)
  match a with
  | ⟨0, _⟩ =>
    refine (congrArg (fun z => z * 1 + (y 0).val) h0).trans ?_
    show t.val / 240 * 1 + (y 0).val = p.val
    have : (y 0).val < 1 := (y 0).isLt
    omega
  | ⟨1, _⟩ => refine (congrArg (fun z => z * 82432 + (y 1).val) h1).trans ?_; show 0 * 82432 + (y 1).val = (y 1).val; omega
  | ⟨2, _⟩ =>
    refine (congrArg (fun z => z * 1 + (y 2).val) h2).trans ?_
    show 0 * 1 + (y 2).val = 0
    have : (y 2).val < 1 := (y 2).isLt
    omega
  | ⟨3, _⟩ => refine (congrArg (fun z => z * 128 + (y 3).val) h3).trans ?_; show 0 * 128 + (y 3).val = (y 3).val; omega

theorem unit_idx (y : S1x82432x1x128.Idx) : (ix4 0 (y 1) 0 (y 3) : S1x82432x1x128.Idx) = y := by
  funext a
  match a with
  | ⟨0, _⟩ => exact Fin.ext (by have : (y 0).val < 1 := (y 0).isLt; show 0 = (y 0).val; omega)
  | ⟨1, _⟩ => rfl
  | ⟨2, _⟩ => exact Fin.ext (by have : (y 2).val < 1 := (y 2).isLt; show 0 = (y 2).val; omega)
  | ⟨3, _⟩ => rfl

/-- The output array at the end of the region. -/
theorem arr_end (c : Dev nD) (p : Fin 12) (r : Fin 82432) (l : Fin 128) :
    (dats m 0 c).arrAt 3 cfg0.N (ix4 p r 0 l : S12x82432x1x128.Idx) = accTo m c (240 * p.val + 239 + 1) (ix4 0 r 0 l) := by
  have hN := points
  have ht : 240 * p.val + 239 < cfg0.N := by have := p.isLt; omega
  have hG : ∀ t, (cfg0.win 3).flush t = true → (dats m 0 c).flushed 3 t = ((cfg0.win 3).blk t).view.read (Elt Ideal) (ends m c) := by
    intro t hf
    have hm := (flush0_3 t).mp hf
    have hlt : t.val < cfg0.N := t.isLt
    funext y
    have hp : t.val / 240 < 12 := by omega
    have e := emb3 t y ⟨t.val / 240, hp⟩ rfl
    show (dats m 0 c).after 3 t y = ends m c (((cfg0.win 3).rect t).emb y)
    rw [e, dats_after3]
    show accTo m c (t.val + 1) y = accTo m c (240 * (t.val / 240) + 239 + 1) (ix4 0 (y 1) 0 (y 3) : S1x82432x1x128.Idx)
    rw [unit_idx, show 240 * (t.val / 240) + 239 + 1 = t.val + 1 by omega]
  have hf : (cfg0.win 3).flush ⟨240 * p.val + 239, ht⟩ = true := (flush0_3 _).mpr (by show (240 * p.val + 239) % 240 = 239; omega)
  have e := emb3 ⟨240 * p.val + 239, ht⟩ (ix4 0 r 0 l) p (by show p.val = (240 * p.val + 239) / 240; omega)
  have hmem := ((cfg0.win 3).blk ⟨240 * p.val + 239, ht⟩).view.emb_mem_set (ix4 0 r 0 l : S1x82432x1x128.Idx)
  have h := (dats m 0 c).arrAt_apply_of_mem 3 (ends m c) hG cfg0.N ⟨240 * p.val + 239, ht⟩ _ ht hf hmem
  have e' : ((cfg0.win 3).blk ⟨240 * p.val + 239, ht⟩).view.emb (ix4 0 r 0 l : S1x82432x1x128.Idx) = (ix4 p r 0 l : S12x82432x1x128.Idx) := e
  rw [e'] at h
  exact h

end Cert.Proof.Kernel0Ideal

end
-- ==== Proof.Val.Out.lean ====
/-  The level-0 program's results: what the host lines after the region make of the output array. -/
module

public import proofs.«01_k».proof.Proof.L0I.Run
public import Idealize.ShloMosaic.Lib.Pipeline.Value
public import Idealize.ShloMosaic.Lib.IdealHost

@[expose] public section

set_option maxRecDepth 16384

noncomputable section

namespace Cert.Proof.Kernel0Ideal

open Cert.Kernel0Ideal Cert.Kernel0Ideal.Gen
open Idealize.ShloMosaic Idealize.ShloMosaic.TcCoe Idealize.ShloMosaic.Tactic

variable {α : Type}

/-- The bands joined to pictures, the lanes past the last result left off. -/
def joined (B : S12x82432x1x128.Idx → α) : S4x245760x50.Idx → α :=
  shapeCast S4x245760x50 (shapeCast S12x81920x50 (extractStridedSlice S12x81920x1x50 ![0, 0, 0, 0] B slices_S12x82432x1x128_S12x81920x1x50_0_0_0_0)
    shapeCasts_S12x81920x1x50_S12x81920x50) shapeCasts_S12x81920x50_S4x245760x50
/-- The four pictures' features. -/
def feats4 (B : S12x82432x1x128.Idx → α) : S4x49x384x640.Idx → α :=
  transpose S4x49x384x640 [0, 3, 1, 2] (shapeCast S4x384x640x49 (extractStridedSlice S4x245760x49 ![0, 0, 0] (joined B) slices_S4x245760x50_S4x245760x49_0_0_0)
    shapeCasts_S4x245760x49_S4x384x640x49) transposes_S4x384x640x49_S4x49x384x640_0_3_1_2
/-- The four pictures' masks. -/
def masks4 (B : S12x82432x1x128.Idx → α) : S4x1x384x640.Idx → α :=
  transpose S4x1x384x640 [0, 3, 1, 2] (shapeCast S4x384x640x1 (extractStridedSlice S4x245760x1 ![0, 0, 49] (joined B) slices_S4x245760x50_S4x245760x1_0_0_49)
    shapeCasts_S4x245760x1_S4x384x640x1) transposes_S4x384x640x1_S4x1x384x640_0_3_1_2
def featF (B : S12x82432x1x128.Idx → α) : S2x49x384x640.Idx → α :=
  extractStridedSlice S2x49x384x640 ![0, 0, 0, 0] (feats4 B) slices_S4x49x384x640_S2x49x384x640_0_0_0_0
def featB (B : S12x82432x1x128.Idx → α) : S2x49x384x640.Idx → α :=
  extractStridedSlice S2x49x384x640 ![2, 0, 0, 0] (feats4 B) slices_S4x49x384x640_S2x49x384x640_2_0_0_0
def maskF (B : S12x82432x1x128.Idx → α) : S2x1x384x640.Idx → α :=
  extractStridedSlice S2x1x384x640 ![0, 0, 0, 0] (masks4 B) slices_S4x1x384x640_S2x1x384x640_0_0_0_0
def maskB (B : S12x82432x1x128.Idx → α) : S2x1x384x640.Idx → α :=
  extractStridedSlice S2x1x384x640 ![2, 0, 0, 0] (masks4 B) slices_S4x1x384x640_S2x1x384x640_2_0_0_0

/-- The pixel of a row and a column. -/
def pxl (Y : Fin 384) (X : Fin 640) : Fin 245760 := ⟨Y.val * 640 + X.val, by omega⟩
/-- The place of a pixel of a picture in the output array. -/
def spot (q : Fin 4) (P : Fin 245760) (l : Fin 128) : S12x82432x1x128.Idx :=
  ix4 (⟨3 * q.val + P.val / 81920, by omega⟩ : Fin 12) (⟨P.val % 81920, by omega⟩ : Fin 82432) 0 l

theorem joined_at (B : S12x82432x1x128.Idx → α) (q : Fin 4) (P : Fin 245760) (l : Fin 50) :
    joined B (ix3 q P l) = B (spot q P ⟨l.val, by omega⟩) := by
  unfold joined
  refine (shapeCast_apply _ _ _ (ix3 (⟨3 * q.val + P.val / 81920, by omega⟩ : Fin 12) (⟨P.val % 81920, by omega⟩ : Fin 81920) l) ?_).trans ?_
  · rw [Shape.rowMajor_val_three, Shape.rowMajor_val_three]
    show ((3 * q.val + P.val / 81920) * 81920 + P.val % 81920) * 50 + l.val = (q.val * 245760 + P.val) * 50 + l.val
    omega
  refine (shapeCast_apply _ _ _ (ix4 (⟨3 * q.val + P.val / 81920, by omega⟩ : Fin 12) (⟨P.val % 81920, by omega⟩ : Fin 81920) 0 l) ?_).trans ?_
  · rw [Shape.rowMajor_val_three, Shape.rowMajor_val_four]
    show (((3 * q.val + P.val / 81920) * 81920 + P.val % 81920) * 1 + 0) * 50 + l.val = ((3 * q.val + P.val / 81920) * 81920 + P.val % 81920) * 50 + l.val
    omega
  · refine extractStridedSlice_apply _ _ _ _ _ fun a => ?_
    match a with
    | ⟨0, _⟩ => exact (Nat.zero_add _).symm
    | ⟨1, _⟩ => exact (Nat.zero_add _).symm
    | ⟨2, _⟩ => rfl
    | ⟨3, _⟩ => exact (Nat.zero_add _).symm

theorem feats4_at (B : S12x82432x1x128.Idx → α) (q : Fin 4) (l : Fin 49) (Y : Fin 384) (X : Fin 640) :
    feats4 B (ix4 q l Y X) = B (spot q (pxl Y X) ⟨l.val, by omega⟩) := by
  unfold feats4
  refine (transpose_apply _ _ _ _ (ix4 q Y X l) fun b => ?_).trans ?_
  · match b with
    | ⟨0, _⟩ => rfl
    | ⟨1, _⟩ => rfl
    | ⟨2, _⟩ => rfl
    | ⟨3, _⟩ => rfl
  refine (shapeCast_apply _ _ _ (ix3 q (pxl Y X) l) ?_).trans ?_
  · rw [Shape.rowMajor_val_three, Shape.rowMajor_val_four]
    show (q.val * 245760 + (Y.val * 640 + X.val)) * 49 + l.val = ((q.val * 384 + Y.val) * 640 + X.val) * 49 + l.val
    omega
  refine (extractStridedSlice_apply _ _ _ _ (ix3 q (pxl Y X) (⟨l.val, by omega⟩ : Fin 50)) fun a => ?_).trans (joined_at B q (pxl Y X) ⟨l.val, by omega⟩)
  match a with
  | ⟨0, _⟩ => exact (Nat.zero_add _).symm
  | ⟨1, _⟩ => exact (Nat.zero_add _).symm
  | ⟨2, _⟩ => exact (Nat.zero_add _).symm

theorem masks4_at (B : S12x82432x1x128.Idx → α) (q : Fin 4) (Y : Fin 384) (X : Fin 640) :
    masks4 B (ix4 q 0 Y X) = B (spot q (pxl Y X) 49) := by
  unfold masks4
  refine (transpose_apply _ _ _ _ (ix4 q Y X 0) fun b => ?_).trans ?_
  · match b with
    | ⟨0, _⟩ => rfl
    | ⟨1, _⟩ => rfl
    | ⟨2, _⟩ => rfl
    | ⟨3, _⟩ => rfl
  refine (shapeCast_apply _ _ _ (ix3 q (pxl Y X) 0) ?_).trans ?_
  · rw [Shape.rowMajor_val_three, Shape.rowMajor_val_four]
    show (q.val * 245760 + (Y.val * 640 + X.val)) * 1 + 0 = ((q.val * 384 + Y.val) * 640 + X.val) * 1 + 0
    omega
  refine (extractStridedSlice_apply _ _ _ _ (ix3 q (pxl Y X) (49 : Fin 50)) fun a => ?_).trans (joined_at B q (pxl Y X) 49)
  match a with
  | ⟨0, _⟩ => exact (Nat.zero_add _).symm
  | ⟨1, _⟩ => exact (Nat.zero_add _).symm
  | ⟨2, _⟩ => rfl

theorem featF_at (B : S12x82432x1x128.Idx → α) (s : Fin 2) (l : Fin 49) (Y : Fin 384) (X : Fin 640) :
    featF B (ix4 s l Y X) = B (spot ⟨2 * 0 + s.val, by omega⟩ (pxl Y X) ⟨l.val, by omega⟩) := by
  refine (extractStridedSlice_apply _ _ _ _ (ix4 (⟨2 * 0 + s.val, by omega⟩ : Fin 4) l Y X) fun a => ?_).trans (feats4_at B _ l Y X)
  match a with
  | ⟨0, _⟩ => rfl
  | ⟨1, _⟩ => exact (Nat.zero_add _).symm
  | ⟨2, _⟩ => exact (Nat.zero_add _).symm
  | ⟨3, _⟩ => exact (Nat.zero_add _).symm
theorem featB_at (B : S12x82432x1x128.Idx → α) (s : Fin 2) (l : Fin 49) (Y : Fin 384) (X : Fin 640) :
    featB B (ix4 s l Y X) = B (spot ⟨2 * 1 + s.val, by omega⟩ (pxl Y X) ⟨l.val, by omega⟩) := by
  refine (extractStridedSlice_apply _ _ _ _ (ix4 (⟨2 * 1 + s.val, by omega⟩ : Fin 4) l Y X) fun a => ?_).trans (feats4_at B _ l Y X)
  match a with
  | ⟨0, _⟩ => rfl
  | ⟨1, _⟩ => exact (Nat.zero_add _).symm
  | ⟨2, _⟩ => exact (Nat.zero_add _).symm
  | ⟨3, _⟩ => exact (Nat.zero_add _).symm
theorem maskF_at (B : S12x82432x1x128.Idx → α) (s : Fin 2) (Y : Fin 384) (X : Fin 640) :
    maskF B (ix4 s 0 Y X) = B (spot ⟨2 * 0 + s.val, by omega⟩ (pxl Y X) 49) := by
  refine (extractStridedSlice_apply _ _ _ _ (ix4 (⟨2 * 0 + s.val, by omega⟩ : Fin 4) 0 Y X) fun a => ?_).trans (masks4_at B _ Y X)
  match a with
  | ⟨0, _⟩ => rfl
  | ⟨1, _⟩ => rfl
  | ⟨2, _⟩ => exact (Nat.zero_add _).symm
  | ⟨3, _⟩ => exact (Nat.zero_add _).symm
theorem maskB_at (B : S12x82432x1x128.Idx → α) (s : Fin 2) (Y : Fin 384) (X : Fin 640) :
    maskB B (ix4 s 0 Y X) = B (spot ⟨2 * 1 + s.val, by omega⟩ (pxl Y X) 49) := by
  refine (extractStridedSlice_apply _ _ _ _ (ix4 (⟨2 * 1 + s.val, by omega⟩ : Fin 4) 0 Y X) fun a => ?_).trans (masks4_at B _ Y X)
  match a with
  | ⟨0, _⟩ => rfl
  | ⟨1, _⟩ => rfl
  | ⟨2, _⟩ => exact (Nat.zero_add _).symm
  | ⟨3, _⟩ => exact (Nat.zero_add _).symm

variable (m : (ℓ : Loc nD τ sig) → Buf (Elt Ideal) ℓ)

/-- The output array as the region leaves it. -/
def outArr (c : Dev nD) : S12x82432x1x128.Idx → Elt Ideal .f32 := (dats m 0 c).arrAt 3 cfg0.N

theorem left_arr (c : Dev nD) :
    Pipeline.withArrays (cfgs 0).spec c (V0 m c) (fun w => (dats m 0 c).arrAt w (cfgs 0).N) (Proc.devRef .tc main_v464) = outArr m c :=
  Pipeline.withArrays_arr spec0 (by decide) c (V0 m c) (fun w => (dats m 0 c).arrAt w (cfgs 0).N) 3

theorem end_feats (c : Dev nD) : Pipeline.afterTail₀ cfgs (dats m) 0 (V0 m) [hostOps1] c main_v471 = featF (outArr m c)
    ∧ Pipeline.afterTail₀ cfgs (dats m) 0 (V0 m) [hostOps1] c main_v472 = featB (outArr m c)
    ∧ Pipeline.afterTail₀ cfgs (dats m) 0 (V0 m) [hostOps1] c main_v476 = maskF (outArr m c)
    ∧ Pipeline.afterTail₀ cfgs (dats m) 0 (V0 m) [hostOps1] c main_v477 = maskB (outArr m c) := by
  rw [← left_arr m c]
  unfold Pipeline.afterTail₀
  generalize Pipeline.withArrays (cfgs 0).spec c (V0 m c) (fun w => (dats m 0 c).arrAt w (cfgs 0).N) = V'
  refine ⟨?_, ?_, ?_, ?_⟩ <;>
  · simp only [List.flatten_cons, List.flatten_nil, List.append_nil]
    after_reads_simp
    rfl

end Cert.Proof.Kernel0Ideal

end
-- ==== Proof.Val.Scatter.lean ====
/-  An accumulating scatter by one word per update, over a table of rows: the exact sum, at an index. -/
module

public import Idealize.ShloMosaic.Lib.Pipeline
public import Idealize.ShloMosaic.Lib.IdealHost
public import Idealize.ShloMosaic.Lib.Routing.OpsPair

@[expose] public section

noncomputable section

namespace Cert.Proof.Val

open Idealize.ShloMosaic Idealize.ShloMosaic.ValueIdx Idealize.ShloMosaic.Routing

/-- Update `(c, u)` of a scatter of columns lands at `(c', n)` exactly when it is of row `c'` and its word, read signed, is `n`. -/
theorem lands {C N U : ℕ} (d : ScatterDims (shape2 C N) (shape2 U 1) (shape2 C U)) (h1 : d.updateWindowDims = [0])
    (h2 : d.insertedWindowDims = [1]) (h3 : d.scatterDimsToOperandDims = [1]) (h4 : d.indexVectorDim = 1)
    (idx : IVec (shape2 U 1) 32) (c c' : Fin C) (u : Fin U) (n : Fin N) :
    d.resultIdx? (ix2 c u) idx = some (ix2 c' n) ↔ c = c' ∧ (idx (ix2 u 0)).toInt = (n.val : ℤ) := by
  obtain ⟨f1, f2, f3, f4, wf⟩ := d
  dsimp only at h1 h2 h3 h4
  subst h1 h2 h3 h4
  rw [resultIdx?_ix2, Fin.ext_iff]
  have s0 : (ScatterDims.mk [0] [1] [1] 1 wf : ScatterDims (shape2 C N) (shape2 U 1) (shape2 C U)).start (ix2 c u) idx 0 = 0 := rfl
  have w0 : (ScatterDims.mk [0] [1] [1] 1 wf : ScatterDims (shape2 C N) (shape2 U 1) (shape2 C U)).window (ix2 c u) 0 = c.val := rfl
  have w1 : (ScatterDims.mk [0] [1] [1] 1 wf : ScatterDims (shape2 C N) (shape2 U 1) (shape2 C U)).window (ix2 c u) 1 = 0 := rfl
  have s1 : (ScatterDims.mk [0] [1] [1] 1 wf : ScatterDims (shape2 C N) (shape2 U 1) (shape2 C U)).start (ix2 c u) idx 1
      = (idx (ix2 u 0)).toInt := by
    unfold ScatterDims.start
    rw [dif_pos (List.mem_singleton.mpr rfl)]
    congr 2
    funext a
    apply Fin.ext
    match a with
    | ⟨0, _⟩ => rfl
    | ⟨1, _⟩ => rfl
  rw [s0, s1, w0, w1]
  omega

/-- The accumulating scatter at an index: the old entry plus the updates whose word is the index. -/
theorem scatter_sum {C N U : ℕ} (d : ScatterDims (shape2 C N) (shape2 U 1) (shape2 C U)) (h1 : d.updateWindowDims = [0])
    (h2 : d.insertedWindowDims = [1]) (h3 : d.scatterDimsToOperandDims = [1]) (h4 : d.indexVectorDim = 1)
    (x : FVec Ideal (shape2 C N) .f32) (idx : IVec (shape2 U 1) 32) (upd : FVec Ideal (shape2 C U) .f32) (c : Fin C) (n : Fin N) :
    (Host.scatterAdd d x idx upd (ix2 c n) : EReal)
      = x (ix2 c n) + ∑ u : Fin U, (if (idx (ix2 u 0)).toInt = (n.val : ℤ) then (upd (ix2 c u) : EReal) else 0) := by
  show (x (ix2 c n) : EReal) + ∑ j ∈ Finset.univ.filter (fun j => d.resultIdx? j idx = some (ix2 c n)), (upd j : EReal) = _
  congr 1
  rw [← Finset.sum_filter]
  symm
  refine Finset.sum_bij (fun u _ => ix2 c u) ?_ ?_ ?_ ?_
  · intro u hu
    rw [Finset.mem_filter] at hu ⊢
    exact ⟨Finset.mem_univ _, (lands d h1 h2 h3 h4 idx c c u n).mpr ⟨rfl, hu.2⟩⟩
  · intro u _ u' _ e
    exact congrFun e 1
  · intro j hj
    rw [Finset.mem_filter] at hj
    have ej : j = ix2 (j 0) (j 1) := by
      funext a
      match a with
      | ⟨0, _⟩ => rfl
      | ⟨1, _⟩ => rfl
    rw [ej] at hj
    have := (lands d h1 h2 h3 h4 idx (j 0) c (j 1) n).mp hj.2
    refine ⟨j 1, Finset.mem_filter.mpr ⟨Finset.mem_univ _, this.2⟩, ?_⟩
    rw [← this.1]
    exact ej.symm
  · intro u _
    rfl

end Cert.Proof.Val

end
-- ==== Proof.Val.Splat.lean ====
/-  The reference's splat at an index: what four accumulating scatters leave at a pixel is the sum of the shares that reach it. -/
module

public import proofs.«01_k».proof.Proof.Gen.Reference0Ideal
public import Idealize.ShloMosaic.Lib.Pipeline.Value
public import proofs.«01_k».proof.Proof.Val.Scalar
public import proofs.«01_k».proof.Proof.Val.Scatter

@[expose] public section

set_option maxRecDepth 16384

noncomputable section

namespace Cert.Proof.Val

open Cert.Reference0Ideal Cert.Reference0Ideal.Gen
open Idealize.ShloMosaic Idealize.ShloMosaic.ValueIdx Idealize.ShloMosaic.Routing

/-- A word over two pictures. -/
abbrev bI (b : BitVec 32) : IVec S2x384x640 32 := broadcastInDim S2x384x640 ![] bcast_S_S2x384x640 (constantI S_ 32 b)
/-- A float over two pictures. -/
abbrev bF (b : BitVec 32) : FVec Ideal S2x384x640 .f32 := broadcastInDim S2x384x640 ![] bcast_S_S2x384x640 (constant S_ .f32 b)
/-- A word over the line of all pixels. -/
abbrev lI (b : BitVec 32) : IVec S491520 32 := broadcastInDim S491520 ![] bcast_S_S491520 (constantI S_ 32 b)

/-- The corner lies in the picture. -/
def validR (x y : IVec S2x384x640 32) : IVec S2x384x640 1 :=
  andi (andi (andi (cmpi .sge x (bI 0#32)) (cmpi .slt x (bI 640#32))) (cmpi .sge y (bI 0#32))) (cmpi .slt y (bI 384#32))
/-- Where each sample's pixels begin in the line. -/
def boffR : IVec S2x1x1 32 :=
  broadcastInDim S2x1x1 ![0] bcast_S2_S2x1x1_0 (muli (iotaInDim S2 32 0) (broadcastInDim S2 ![] bcast_S_S2 (constantI S_ 32 245760#32)))
/-- Each pixel's target in the line. -/
def aimR (x y : IVec S2x384x640 32) : IVec S491520 32 :=
  shapeCast S491520 (select (validR x y)
    (addi (addi (broadcastInDim S2x384x640 ![0, 1, 2] bcast_S2x1x1_S2x384x640_0_1_2 boffR) (muli y (bI 640#32))) x) (bI 0#32)) shapeCasts_S2x384x640_S491520
/-- The targets as the scatter takes them. -/
def wrapR (a : IVec S491520 32) : IVec S491520x1 32 :=
  broadcastInDim S491520x1 ![0] bcast_S491520_S491520x1_0 (select (cmpi .slt a (lI 0#32)) (addi a (lI 491520#32)) a)
/-- Each pixel's weight in the line. -/
def wgtR (x y : IVec S2x384x640 32) (w : FVec Ideal S2x384x640 .f32) : FVec Ideal S491520 .f32 :=
  shapeCast S491520 (select (validR x y) w (bF 0x00000000#32)) shapeCasts_S2x384x640_S491520

/-- The pixel `P` of sample `b`, as an index of the two pictures. -/
def px (b : Fin 2) (P : Fin 245760) : S2x384x640.Idx :=
  ix3 b (⟨P.val / 640, by omega⟩ : Fin 384) (⟨P.val % 640, by omega⟩ : Fin 640)
/-- The pixel `P` of sample `b`, as a place in the line. -/
def ln (b : Fin 2) (P : Fin 245760) : Fin 491520 := ⟨P.val + 245760 * b.val, by omega⟩

/-- Laying two pictures in a line. -/
theorem line_at {α : Type} (a : S2x384x640.Idx → α) (h : S2x384x640.ShapeCasts S491520) (b : Fin 2) (P : Fin 245760) :
    shapeCast S491520 a h (ix1 (ln b P)) = a (px b P) := by
  refine shapeCast_apply a h _ _ ?_
  rw [Shape.rowMajor_val_three, Shape.rowMajor_val_one]
  show (b.val * 384 + P.val / 640) * 640 + P.val % 640 = P.val + 245760 * b.val
  omega

theorem wgtR_at (x y : IVec S2x384x640 32) (w : FVec Ideal S2x384x640 .f32) (b : Fin 2) (P : Fin 245760) :
    (wgtR x y w (ix1 (ln b P)) : EReal) = Scalar.select (inPic (x (px b P)) (y (px b P))) (w (px b P) : EReal) 0 := by
  unfold wgtR
  rw [line_at]
  have hz : (bF 0x00000000#32 (px b P) : EReal) = 0 := by
    show Ideal.ofBits .f32 0x00000000#32 = 0
    exact Ideal.ofBits_zero_f32
  show Scalar.select _ (w (px b P) : EReal) (bF 0x00000000#32 (px b P) : EReal) = _
  rw [hz]
  rfl

theorem wrapR_at (x y : IVec S2x384x640 32) (b : Fin 2) (P : Fin 245760) :
    wrapR (aimR x y) (ix2 (ln b P) 0) = aimW (BitVec.ofNat 32 b.val) (x (px b P)) (y (px b P)) := by
  have h1 : aimR x y (ix1 (ln b P)) = aim (BitVec.ofNat 32 b.val) (x (px b P)) (y (px b P)) := by
    unfold aimR
    rw [line_at]
    have hb : broadcastInDim S2x384x640 ![0, 1, 2] bcast_S2x1x1_S2x384x640_0_1_2 boffR (px b P) = BitVec.ofNat 32 b.val * 245760#32 := by
      refine (broadcastInDim_apply _ _ _ _ (ix3 b 0 0) fun a => ?_).trans ?_
      · match a with
        | ⟨0, _⟩ => rfl
        | ⟨1, _⟩ => rfl
        | ⟨2, _⟩ => rfl
      · unfold boffR
        refine (broadcastInDim_apply _ _ _ _ (ix1 b) fun a => ?_).trans ?_
        · match a with
          | ⟨0, _⟩ => rfl
        · rfl
    show Scalar.select (inPic (x (px b P)) (y (px b P))) (broadcastInDim S2x384x640 ![0, 1, 2] bcast_S2x1x1_S2x384x640_0_1_2 boffR (px b P)
      + y (px b P) * 640#32 + x (px b P)) 0#32 = _
    rw [hb]
    rfl
  unfold wrapR
  refine (broadcastInDim_apply _ _ _ _ (ix1 (ln b P)) fun a => ?_).trans ?_
  · match a with
    | ⟨0, _⟩ => rfl
  · show Scalar.select (IntOp.cmpi .slt (aimR x y (ix1 (ln b P))) 0#32) (aimR x y (ix1 (ln b P)) + 491520#32) (aimR x y (ix1 (ln b P))) = _
    rw [h1]
    rfl

/-- A line of two equal stretches. -/
theorem sum_two (n N : ℕ) (h : 2 * n = N) (f : Fin N → EReal) (g : Fin 2 → Fin n → Fin N) (hg : ∀ b P, (g b P).val = P.val + n * b.val) :
    ∑ u, f u = ∑ b : Fin 2, ∑ P : Fin n, f (g b P) := by
  subst h
  rw [← Equiv.sum_comp (finProdFinEquiv (m := 2) (n := n)) f, Fintype.sum_prod_type]
  refine Finset.sum_congr rfl fun b _ => Finset.sum_congr rfl fun P _ => congrArg f (Fin.ext ?_)
  rw [hg]
  rfl

/-- The line of all pixels, sample by sample. -/
theorem sum_line (f : Fin 491520 → EReal) : ∑ u, f u = ∑ b : Fin 2, ∑ P : Fin 245760, f (ln b P) := by
  have h : 2 * 245760 = 491520 := by norm_num
  have e := sum_two 245760 491520 h f ln (fun b P => by unfold ln; exact rfl)
  exact e

variable {C : ℕ} (d : ScatterDims (shape2 C 491520) (shape2 491520 1) (shape2 C 491520))
  (bc : FVec Ideal S491520 .f32 → FVec Ideal (shape2 C 491520) .f32)

/-- One corner's accumulating scatter. -/
def addG (acc val : FVec Ideal (shape2 C 491520) .f32) (x y : IVec S2x384x640 32) (w : FVec Ideal S2x384x640 .f32) :
    FVec Ideal (shape2 C 491520) .f32 :=
  Host.scatterAdd d acc (wrapR (aimR x y)) (mulf val (bc (wgtR x y w)))

/-- What is said of the scatter's axes, and of the weights' copies. -/
structure Cols : Prop where
  h1 : d.updateWindowDims = [0]
  h2 : d.insertedWindowDims = [1]
  h3 : d.scatterDimsToOperandDims = [1]
  h4 : d.indexVectorDim = 1
  hb : ∀ a c u, bc a (ix2 c u) = a (ix1 u)

variable {d bc}

theorem addG_at (hd : Cols d bc) (acc val : FVec Ideal (shape2 C 491520) .f32) (x y : IVec S2x384x640 32) (w : FVec Ideal S2x384x640 .f32)
    (c : Fin C) (s : Fin 2) (Q : Fin 245760) :
    (addG d bc acc val x y w (ix2 c (ln s Q)) : EReal) = acc (ix2 c (ln s Q))
      + ∑ P : Fin 245760, (if x (px s P) = BitVec.ofNat 32 (Q.val % 640) ∧ y (px s P) = BitVec.ofNat 32 (Q.val / 640) then (w (px s P) : EReal) else 0)
          * val (ix2 c (ln s P)) := by
  unfold addG
  rw [scatter_sum d hd.h1 hd.h2 hd.h3 hd.h4]
  refine congrArg (fun z : EReal => acc (ix2 c (ln s Q)) + z) ?_
  rw [sum_line]
  have key : ∀ (b : Fin 2) (P : Fin 245760),
      (if (wrapR (aimR x y) (ix2 (ln b P) 0)).toInt = ((ln s Q).val : ℤ) then (mulf val (bc (wgtR x y w)) (ix2 c (ln b P)) : EReal) else 0)
        = if b = s then (if x (px b P) = BitVec.ofNat 32 (Q.val % 640) ∧ y (px b P) = BitVec.ofNat 32 (Q.val / 640) then (w (px b P) : EReal) else 0)
          * val (ix2 c (ln b P)) else 0 := by
    intro b P
    have e : (ln s Q).val = s.val * 245760 + (Q.val / 640 * 640 + Q.val % 640) := by
      show Q.val + 245760 * s.val = _
      omega
    have m : (mulf val (bc (wgtR x y w)) (ix2 c (ln b P)) : EReal)
        = val (ix2 c (ln b P)) * Scalar.select (inPic (x (px b P)) (y (px b P))) (w (px b P) : EReal) 0 := by
      show (val (ix2 c (ln b P)) : EReal) * bc (wgtR x y w) (ix2 c (ln b P)) = _
      rw [hd.hb, wgtR_at]
    rw [wrapR_at, e, m]
    exact scatter_term _ _ b s (Q.val / 640) (Q.val % 640) (by omega) (by omega) _ _
  simp only [key]
  rw [Finset.sum_comm]
  refine Finset.sum_congr rfl fun P _ => ?_
  rw [Finset.sum_ite_eq' Finset.univ s, if_pos (Finset.mem_univ s)]

/-- The four corners' scatters, one after the other, from `z`. -/
def splatG (d : ScatterDims (shape2 C 491520) (shape2 491520 1) (shape2 C 491520)) (bc : FVec Ideal S491520 .f32 → FVec Ideal (shape2 C 491520) .f32)
    (z val : FVec Ideal (shape2 C 491520) .f32) (fx fy : FVec Ideal S2x384x640 .f32) : FVec Ideal (shape2 C 491520) .f32 :=
  addG d bc
    (addG d bc
      (addG d bc
        (addG d bc z val (fptosi 32 (Host.floor fx)) (fptosi 32 (Host.floor fy))
          (mulf (subf (bF 0x3F800000#32) (subf fx (Host.floor fx))) (subf (bF 0x3F800000#32) (subf fy (Host.floor fy)))))
        val (addi (fptosi 32 (Host.floor fx)) (bI 1#32)) (fptosi 32 (Host.floor fy))
        (mulf (subf fx (Host.floor fx)) (subf (bF 0x3F800000#32) (subf fy (Host.floor fy)))))
      val (fptosi 32 (Host.floor fx)) (addi (fptosi 32 (Host.floor fy)) (bI 1#32))
      (mulf (subf (bF 0x3F800000#32) (subf fx (Host.floor fx))) (subf fy (Host.floor fy))))
    val (addi (fptosi 32 (Host.floor fx)) (bI 1#32)) (addi (fptosi 32 (Host.floor fy)) (bI 1#32))
    (mulf (subf fx (Host.floor fx)) (subf fy (Host.floor fy)))

/-- What reaches the pixel `Q`, of values `v` at coordinates `gx` and `gy`: the sum of all shares. -/
def reach (gx gy v : Fin 245760 → EReal) (Q : Fin 245760) : EReal :=
  ∑ P : Fin 245760, (share false false (gx P) (gy P) (Q.val / 640) (Q.val % 640) * v P
    + share true false (gx P) (gy P) (Q.val / 640) (Q.val % 640) * v P
    + share false true (gx P) (gy P) (Q.val / 640) (Q.val % 640) * v P
    + share true true (gx P) (gy P) (Q.val / 640) (Q.val % 640) * v P)

theorem one_at (i : S2x384x640.Idx) : (bF 0x3F800000#32 i : EReal) = 1 := by
  show Ideal.ofBits .f32 0x3F800000#32 = 1
  exact Ideal.ofBits_one_f32

/-- The reference's splat, at a pixel. -/
theorem splatG_at (hd : Cols d bc) (z val : FVec Ideal (shape2 C 491520) .f32) (hz : ∀ j, (z j : EReal) = 0) (fx fy : FVec Ideal S2x384x640 .f32)
    (c : Fin C) (s : Fin 2) (Q : Fin 245760) :
    (splatG d bc z val fx fy (ix2 c (ln s Q)) : EReal)
      = reach (fun P => fx (px s P)) (fun P => fy (px s P)) (fun P => val (ix2 c (ln s P))) Q := by
  unfold splatG reach
  rw [addG_at hd, addG_at hd, addG_at hd, addG_at hd, hz, zero_add, ← Finset.sum_add_distrib, ← Finset.sum_add_distrib, ← Finset.sum_add_distrib]
  refine Finset.sum_congr rfl fun P _ => ?_
  have o := one_at (px s P)
  have c0 : ∀ g : EReal, corner g + stp false = corner g := fun g => BitVec.add_zero _
  unfold share
  rw [c0, c0]
  have w0 : ∀ f : FVec Ideal S2x384x640 .f32, (subf (bF 0x3F800000#32) (subf f (Host.floor f)) (px s P) : EReal) = wt false (f (px s P)) := fun f => by
    show (bF 0x3F800000#32 (px s P) : EReal) - _ = _
    rw [o]
    rfl
  have m : ∀ a b : FVec Ideal S2x384x640 .f32, (mulf a b (px s P) : EReal) = (a (px s P) : EReal) * b (px s P) := fun _ _ => rfl
  rw [m, m, m, m, w0, w0]
  rfl

end Cert.Proof.Val

end
-- ==== Proof.Val.Kern.lean ====
/-  What the level-0 program leaves at a pixel: the shares of the pixels that reach it, normalised. -/
module

public import proofs.«01_k».proof.Proof.Val.Sum
public import proofs.«01_k».proof.Proof.Val.Tab
public import proofs.«01_k».proof.Proof.Val.Blk
public import proofs.«01_k».proof.Proof.Val.Out
public import proofs.«01_k».proof.Proof.Val.Splat

@[expose] public section

set_option maxRecDepth 16384

noncomputable section

namespace Cert.Proof.Kernel0Ideal

open Cert.Kernel0Ideal Cert.Kernel0Ideal.Gen Cert.Proof.Val
open Idealize.ShloMosaic Idealize.ShloMosaic.TcCoe

/-- A sum over all pixels, chunk by chunk. -/
theorem sum_blocks (k n N : ℕ) (h : k * n = N) (f : Fin N → EReal) (g : Fin k → Fin n → Fin N) (hg : ∀ b P, (g b P).val = P.val + n * b.val) :
    ∑ u, f u = ∑ b : Fin k, ∑ P : Fin n, f (g b P) := by
  subst h
  rw [← Equiv.sum_comp (finProdFinEquiv (m := k) (n := n)) f, Fintype.sum_prod_type]
  refine Finset.sum_congr rfl fun b _ => Finset.sum_congr rfl fun P _ => congrArg f (Fin.ext ?_)
  rw [hg]
  rfl

/-- Pixel `n` of chunk `i`. -/
def pin (i : Fin 240) (n : Fin 1024) : Fin 245760 := ⟨n.val + 1024 * i.val, by omega⟩

theorem sum_chunks (f : Fin 245760 → EReal) : ∑ u, f u = ∑ i : Fin 240, ∑ n : Fin 1024, f (pin i n) := by
  have h : 240 * 1024 = 245760 := by norm_num
  have e := sum_blocks 240 1024 245760 h f pin (fun b P => by unfold pin; exact rfl)
  exact e

theorem ofBits_m4 : Ideal.ofBits .f32 0xC0800000#32 = ((-4 : ℝ) : EReal) := by
  simp [Ideal.ofBits, Ideal.ieee, -EReal.coe_mul]; norm_num
theorem ofBits_644 : Ideal.ofBits .f32 0x44210000#32 = ((644 : ℝ) : EReal) := by
  simp [Ideal.ofBits, Ideal.ieee, -EReal.coe_mul]; norm_num
theorem ofBits_388 : Ideal.ofBits .f32 0x43C20000#32 = ((388 : ℝ) : EReal) := by
  simp [Ideal.ofBits, Ideal.ieee, -EReal.coe_mul]; norm_num

/-- Bounding the targets changes nothing that reaches a pixel. -/
theorem reach_clip (gx gy v : Fin 245760 → EReal) (Q : Fin 245760) :
    reach (fun P => min (Ideal.ofBits .f32 0x44210000#32) (max (Ideal.ofBits .f32 0xC0800000#32) (gx P)))
      (fun P => min (Ideal.ofBits .f32 0x43C20000#32) (max (Ideal.ofBits .f32 0xC0800000#32) (gy P))) v Q = reach gx gy v Q := by
  unfold reach
  have hX : Q.val % 640 < 640 := Nat.mod_lt _ (by decide)
  have hY : Q.val / 640 < 384 := by have := Q.isLt; omega
  have k : ∀ dx dy P, share dx dy (min (Ideal.ofBits .f32 0x44210000#32) (max (Ideal.ofBits .f32 0xC0800000#32) (gx P)))
      (min (Ideal.ofBits .f32 0x43C20000#32) (max (Ideal.ofBits .f32 0xC0800000#32) (gy P))) (Q.val / 640) (Q.val % 640)
      = share dx dy (gx P) (gy P) (Q.val / 640) (Q.val % 640) := by
    intro dx dy P
    rw [ofBits_m4, ofBits_644, ofBits_388]
    exact share_clip dx dy (gx P) (gy P) _ _ hX hY (-4) 644 388 (by norm_num) (by norm_num) (by norm_num)
  simp only [k]

variable (m : (ℓ : Loc nD τ sig) → Buf (Elt Ideal) ℓ)

/-- The bounded target of a pixel of a picture, across. -/
def gX (c : Dev nD) (q : Fin 4) (P : Fin 245760) : EReal := vxA (F := Ideal) (m ⟨c, main_arg4⟩) (m ⟨c, main_arg5⟩) (pq q P)
/-- And down. -/
def gY (c : Dev nD) (q : Fin 4) (P : Fin 245760) : EReal := vyA (F := Ideal) (m ⟨c, main_arg4⟩) (m ⟨c, main_arg5⟩) (pq q P)

/-- The row a corner names. -/
theorem row_at (c : Dev nD) (t : Fin cfg0.N) (n : Fin 1024) (k : Fin 4) (h : 4 * n.val + k.val < 4096) (q : Fin 4) (b : Fin 3) (P : Fin 245760)
    (ht : t.val = 240 * (3 * q.val + b.val) + P.val / 1024) (hn : n.val = P.val % 1024) :
    iblk m c 1 t (ix4 0 0 0 ⟨4 * n.val + k.val, h⟩)
      = Scalar.select (inBand (Val.corner (gX m c q P) + stp (dxk k)) (Val.corner (gY m c q P) + stp (dyk k)) (BitVec.ofNat 32 (81920 * b.val)))
          (rowW (Val.corner (gX m c q P) + stp (dxk k)) (Val.corner (gY m c q P) + stp (dyk k)) (BitVec.ofNat 32 (81920 * b.val))) 81920#32 := by
  have hj : (⟨4 * n.val + k.val, h⟩ : Fin 4096) = ⟨4 * (P.val % 1024) + k.val, by omega⟩ := Fin.ext (by show 4 * n.val + k.val = 4 * (P.val % 1024) + k.val; omega)
  rw [hj]
  refine (blk1_at m c t _ (⟨3 * q.val + b.val, by omega⟩ : Fin 12) (⟨P.val / 1024, by omega⟩ : Fin 240) ?_ ?_).trans ?_
  · show 3 * q.val + b.val = t.val / 240
    omega
  · show P.val / 1024 = t.val % 240
    omega
  refine (congrFun (V_rows (F := Ideal) m c) (at4 q b P k)).trans ?_
  exact tabI_at _ _ q b P k

/-- The weight a corner brings. -/
theorem weight_at (c : Dev nD) (t : Fin cfg0.N) (n : Fin 1024) (k : Fin 4) (h : 4 * n.val + k.val < 4096) (q : Fin 4) (b : Fin 3) (P : Fin 245760)
    (ht : t.val = 240 * (3 * q.val + b.val) + P.val / 1024) (hn : n.val = P.val % 1024) :
    (iblk m c 2 t (ix4 0 0 0 ⟨4 * n.val + k.val, h⟩) : EReal)
      = Scalar.select (inBand (Val.corner (gX m c q P) + stp (dxk k)) (Val.corner (gY m c q P) + stp (dyk k)) (BitVec.ofNat 32 (81920 * b.val)))
          (wt (dxk k) (gX m c q P) * wt (dyk k) (gY m c q P)) 0 := by
  have hj : (⟨4 * n.val + k.val, h⟩ : Fin 4096) = ⟨4 * (P.val % 1024) + k.val, by omega⟩ := Fin.ext (by show 4 * n.val + k.val = 4 * (P.val % 1024) + k.val; omega)
  rw [hj]
  refine (blk2_at m c t _ (⟨3 * q.val + b.val, by omega⟩ : Fin 12) (⟨P.val / 1024, by omega⟩ : Fin 240) ?_ ?_).trans ?_
  · show 3 * q.val + b.val = t.val / 240
    omega
  · show P.val / 1024 = t.val % 240
    omega
  refine (congrFun (V_weights (F := Ideal) m c) (at4 q b P k)).trans ?_
  exact tabW_at _ _ _ _ q b P k

theorem steps_apart : ∀ a b : Fin 4, stp (dxk a) = stp (dxk b) → stp (dyk a) = stp (dyk b) → a = b := by decide

theorem word_cancel {a b c : BitVec 32} (h : a + b = a + c) : b = c := by
  refine BitVec.eq_of_toNat_eq ?_
  have h' := congrArg BitVec.toNat h
  rw [BitVec.toNat_add, BitVec.toNat_add] at h'
  have := b.isLt
  have := c.isLt
  omega

/-- No two corners of a pixel are the same pixel. -/
theorem apart (c : Dev nD) (r : ℕ) (hr : r < 81920) (t : Fin cfg0.N) : Apart (iblk m c 1 t) r := by
  intro n a b ha hb
  have hN := points
  have htl := t.isLt
  have hq : t.val / 720 < 4 := by omega
  have hb3 : t.val / 240 % 3 < 3 := Nat.mod_lt _ (by decide)
  have hP : n.val + 1024 * (t.val % 240) < 245760 := by have := n.isLt; have := Nat.mod_lt t.val (by decide : 0 < 240); omega
  have ht : t.val = 240 * (3 * (t.val / 720) + t.val / 240 % 3) + (n.val + 1024 * (t.val % 240)) / 1024 := by have := n.isLt; omega
  have hn : n.val = (n.val + 1024 * (t.val % 240)) % 1024 := by have := n.isLt; omega
  rw [row_at m c t n a _ ⟨_, hq⟩ ⟨_, hb3⟩ ⟨_, hP⟩ ht hn] at ha
  rw [row_at m c t n b _ ⟨_, hq⟩ ⟨_, hb3⟩ ⟨_, hP⟩ ht hn] at hb
  have hb3' : t.val / 240 % 3 ≤ 2 := by omega
  have hX : (81920 * (t.val / 240 % 3) + r) % 640 < 640 := Nat.mod_lt _ (by decide)
  have hY : (81920 * (t.val / 240 % 3) + r) / 640 < 384 := by omega
  have e : 81920 * (t.val / 240 % 3) + r = (81920 * (t.val / 240 % 3) + r) / 640 * 640 + (81920 * (t.val / 240 % 3) + r) % 640 := by omega
  obtain ⟨xa, ya⟩ := (row_iff _ _ _ r _ _ hr hX hY e).mp ha
  obtain ⟨xb, yb⟩ := (row_iff _ _ _ r _ _ hr hX hY e).mp hb
  exact steps_apart a b (word_cancel (xa.trans xb.symm)) (word_cancel (ya.trans yb.symm))

/-- What a pixel brings to a row, from its four corners' rows and weights. -/
theorem brings_of (I : S1x1x1x4096.Idx → BitVec 32) (W : S1x1x1x4096.Idx → EReal) (Z : S1024x1x128.Idx → EReal) (l : Fin 128) (n : Fin 1024) (gx gy : EReal)
    (lo r Y X : ℕ) (hr : r < 81920) (hX : X < 640) (hY : Y < 384) (e : lo + r = Y * 640 + X)
    (hI : ∀ (k : Fin 4) (h : 4 * n.val + k.val < 4096), I (ix4 0 0 0 ⟨4 * n.val + k.val, h⟩)
      = Scalar.select (inBand (Val.corner gx + stp (dxk k)) (Val.corner gy + stp (dyk k)) (BitVec.ofNat 32 lo))
          (rowW (Val.corner gx + stp (dxk k)) (Val.corner gy + stp (dyk k)) (BitVec.ofNat 32 lo)) 81920#32)
    (hW : ∀ (k : Fin 4) (h : 4 * n.val + k.val < 4096), W (ix4 0 0 0 ⟨4 * n.val + k.val, h⟩)
      = Scalar.select (inBand (Val.corner gx + stp (dxk k)) (Val.corner gy + stp (dyk k)) (BitVec.ofNat 32 lo)) (wt (dxk k) gx * wt (dyk k) gy) 0) :
    brings I W Z r l n = share false false gx gy Y X * Z (ix3 n 0 l) + share true false gx gy Y X * Z (ix3 n 0 l)
      + share false true gx gy Y X * Z (ix3 n 0 l) + share true true gx gy Y X * Z (ix3 n 0 l) := by
  have k : ∀ (k : Fin 4) (h : 4 * n.val + k.val < 4096), (if (I (ix4 0 0 0 ⟨4 * n.val + k.val, h⟩)).toNat = r
      then W (ix4 0 0 0 ⟨4 * n.val + k.val, h⟩) * Z (ix3 n 0 l) else 0) = share (dxk k) (dyk k) gx gy Y X * Z (ix3 n 0 l) := by
    intro k h
    rw [hI k h, hW k h]
    exact table_term _ _ _ r _ _ hr hX hY e _ _
  unfold brings
  rw [Fin.sum_univ_four, k 0, k 1, k 2, k 3]
  rfl

/-- What the pixel `P` brings to the pixel `Q` of its picture. -/
theorem brings_at (c : Dev nD) (t : Fin cfg0.N) (n : Fin 1024) (Z : S1024x1x128.Idx → EReal) (l : Fin 128) (q : Fin 4) (b : Fin 3) (P Q : Fin 245760)
    (r : ℕ) (hr : r < 81920) (hQ : Q.val = 81920 * b.val + r) (ht : t.val = 240 * (3 * q.val + b.val) + P.val / 1024) (hn : n.val = P.val % 1024) :
    brings (iblk m c 1 t) (iblk m c 2 t) Z r l n
      = share false false (gX m c q P) (gY m c q P) (Q.val / 640) (Q.val % 640) * Z (ix3 n 0 l)
        + share true false (gX m c q P) (gY m c q P) (Q.val / 640) (Q.val % 640) * Z (ix3 n 0 l)
        + share false true (gX m c q P) (gY m c q P) (Q.val / 640) (Q.val % 640) * Z (ix3 n 0 l)
        + share true true (gX m c q P) (gY m c q P) (Q.val / 640) (Q.val % 640) * Z (ix3 n 0 l) :=
  brings_of (iblk m c 1 t) (iblk m c 2 t) Z l n (gX m c q P) (gY m c q P) (81920 * b.val) r (Q.val / 640) (Q.val % 640) hr
    (Nat.mod_lt _ (by decide)) (by have := Q.isLt; omega) (by omega) (fun k h => row_at m c t n k h q b P ht hn) (fun k h => weight_at m c t n k h q b P ht hn)

/-- All the chunks of a block together, at a row. -/
theorem total_at (c : Dev nD) (q : Fin 4) (b : Fin 3) (Q : Fin 245760) (r : ℕ) (hr : r < 81920) (hQ : Q.val = 81920 * b.val + r) (l : Fin 128)
    (v : Fin 245760 → EReal)
    (hv : ∀ (t : Fin cfg0.N) (n : Fin 1024) (P : Fin 245760), t.val = 240 * (3 * q.val + b.val) + P.val / 1024 → n.val = P.val % 1024 →
      (k0_pay2 (F := Ideal) (iblk m c 0 t) (ix3 n 0 l) : EReal) = v P) :
    total m c (3 * q.val + b.val) r l = reach (gX m c q) (gY m c q) v Q := by
  have hN := points
  unfold total reach
  rw [sum_chunks, Finset.sum_range]
  refine Finset.sum_congr rfl fun i _ => ?_
  have hi := i.isLt
  have hq := q.isLt
  have hb := b.isLt
  have hlt : 240 * (3 * q.val + b.val) + i.val < cfg0.N := by omega
  unfold chunk
  rw [dif_pos hlt]
  refine Finset.sum_congr rfl fun n _ => ?_
  have hnl := n.isLt
  have ht : (⟨240 * (3 * q.val + b.val) + i.val, hlt⟩ : Fin cfg0.N).val = 240 * (3 * q.val + b.val) + (pin i n).val / 1024 := by
    show 240 * (3 * q.val + b.val) + i.val = 240 * (3 * q.val + b.val) + (n.val + 1024 * i.val) / 1024
    omega
  have hn : n.val = (pin i n).val % 1024 := by
    show n.val = (n.val + 1024 * i.val) % 1024
    omega
  rw [brings_at m c _ n _ l q b (pin i n) Q r hr hQ ht hn, hv _ n (pin i n) ht hn]

/-- What the program leaves at a pixel of a picture. -/
theorem out_at (c : Dev nD) (q : Fin 4) (Q : Fin 245760) (l : Fin 128) (v : Fin 128 → Fin 245760 → EReal)
    (hv : ∀ (l : Fin 128) (t : Fin cfg0.N) (n : Fin 1024) (P : Fin 245760), q.val = t.val / 720 → P.val = t.val % 240 * 1024 + n.val →
      (k0_pay2 (F := Ideal) (iblk m c 0 t) (ix3 n 0 l) : EReal) = v l P) :
    (outArr m c (spot q Q l) : EReal) = nrm (F := Ideal) (fun l => reach (gX m c q) (gY m c q) (v l) Q) l := by
  have hq := q.isLt
  have hQl := Q.isLt
  have hb : Q.val / 81920 < 3 := by omega
  have hr : Q.val % 81920 < 81920 := Nat.mod_lt _ (by decide)
  refine (arr_end m c (⟨3 * q.val + Q.val / 81920, by omega⟩ : Fin 12) (⟨Q.val % 81920, by omega⟩ : Fin 82432) l).trans ?_
  refine (acc_end m c (3 * q.val + Q.val / 81920) (by omega) (⟨Q.val % 81920, by omega⟩ : Fin 82432) hr l (fun t => apart m c _ hr t)).trans ?_
  refine congrFun (congrArg (nrm (F := Ideal)) (funext fun l => ?_)) l
  refine total_at m c q ⟨Q.val / 81920, hb⟩ Q (Q.val % 81920) hr (by show Q.val = 81920 * (Q.val / 81920) + Q.val % 81920; omega) l (v l) ?_
  intro t n P ht hn
  have hP := P.isLt
  have ht' : t.val = 240 * (3 * q.val + Q.val / 81920) + P.val / 1024 := ht
  exact hv l t n P (by omega) (by omega)

end Cert.Proof.Kernel0Ideal

end
-- ==== Proof.Val.Feat.lean ====
/-  What a pixel carries in the level-0 program: the features at an index, and the lanes the body lays out. -/
module

public import proofs.«01_k».proof.Proof.L0I.Run
public import proofs.«01_k».proof.Proof.Val.Scalar
public import Idealize.ShloMosaic.Lib.Pipeline.Value

@[expose] public section

set_option maxRecDepth 16384

noncomputable section

namespace Cert.Proof.Kernel0Ideal

open Cert.Kernel0Ideal Cert.Kernel0Ideal.Gen Cert.Proof.Val
open Idealize.ShloMosaic Idealize.ShloMosaic.TcCoe Idealize.ShloMosaic.Tactic

/-- The weight a pixel with importance `s` carries. -/
def ew (s : EReal) : EReal := Ideal.exp (min (Ideal.ofBits .f32 0x41A00000#32) (max (Ideal.ofBits .f32 0xC1A00000#32) (Ideal.ofBits .f32 0x00000000#32 - s)))

/-- What a pixel with features `x` carries in lane `l`. -/
def carry (x : Fin 49 → EReal) (l : Fin 128) : EReal :=
  if h : l.val < 49 then x ⟨l.val, h⟩ * ew (x 48) else if l.val = 49 then ew (x 48) else if l.val = 50 then Ideal.ofBits .f32 0x3F800000#32
  else Ideal.ofBits .f32 0x00000000#32

/-- The lanes the body lays out for pixel `n` of a chunk. -/
theorem pay2_at (X : S1x1024x1x49.Idx → Elt Ideal .f32) (n : Fin 1024) (l : Fin 128) :
    (k0_pay2 (F := Ideal) X (ix3 n 0 l) : EReal) = carry (fun k => X (ix4 0 n 0 k)) l := by
  have hin : ∀ k : Fin 49, shapeCast S1024x1x49 X shapeCasts_S1x1024x1x49_S1024x1x49 (ix3 n 0 k) = X (ix4 0 n 0 k) := fun k => by
    refine shapeCast_apply X _ _ _ ?_
    rw [Shape.rowMajor_val_three, Shape.rowMajor_val_four]
    show ((0 * 1024 + n.val) * 1 + 0) * 49 + k.val = (n.val * 1 + 0) * 49 + k.val
    omega
  unfold k0_pay2
  refine (shapeCast_apply _ _ _ (ix3 n 0 l) rfl).trans ?_
  have hsl : ∀ z : Fin 1, (extractStridedSlice S1024x1x1 ![0, 0, 48] (shapeCast S1024x1x49 X shapeCasts_S1x1024x1x49_S1024x1x49) slices_S1024x1x49_o0_0_48_S1024x1x1
      (ix3 n 0 z) : EReal) = X (ix4 0 n 0 48) := fun z => by
    refine (extractStridedSlice_apply _ _ _ _ (ix3 n 0 48) fun a => ?_).trans (hin 48)
    match a with
    | ⟨0, _⟩ => exact (Nat.zero_add _).symm
    | ⟨1, _⟩ => rfl
    | ⟨2, _⟩ => have := z.isLt; show 48 = 48 + z.val; omega
  have hi : ∀ (w : ℕ) (z : Fin w) (b : Fin 3), b ≠ 2 → ((ix3 n 0 z : (⟨3, ![1024, 1, w]⟩ : Shape).Idx) b).val = ((ix3 n 0 l : S1024x1x128.Idx) b).val := by
    intro w z b hb
    match b with
    | ⟨0, _⟩ => rfl
    | ⟨1, _⟩ => rfl
    | ⟨2, _⟩ => exact absurd rfl hb
  have he : ∀ z : Fin 1, (exp (F := Ideal) (minimumf (broadcast S1024x1x1 (Scalar.ofBits .f32 0x41A00000#32)) (maximumf (broadcast S1024x1x1 (Scalar.ofBits .f32 0xC1A00000#32))
      (subf (broadcast S1024x1x1 (Scalar.ofBits .f32 0x00000000#32)) (extractStridedSlice S1024x1x1 ![0, 0, 48]
        (shapeCast S1024x1x49 X shapeCasts_S1x1024x1x49_S1024x1x49) slices_S1024x1x49_o0_0_48_S1024x1x1)))) (ix3 n 0 z) : EReal) = ew (X (ix4 0 n 0 48)) := fun z => by
    rw [← hsl z]
    rfl
  unfold carry
  by_cases h : l.val < 49
  · rw [dif_pos h]
    refine Eq.trans (concatenate_apply_piece (t := S1024x1x128) 2 _ _ _ 0 (by simp) S1024x1x49 _ (by exact rfl) rfl 0 (by exact rfl) (ix3 n 0 ⟨l.val, h⟩) (hi 49 _) (Nat.zero_add _)) ?_
    show (shapeCast S1024x1x49 X shapeCasts_S1x1024x1x49_S1024x1x49 (ix3 n 0 ⟨l.val, h⟩) : EReal) * _ = _
    rw [hin]
    refine congrArg (fun z : EReal => X (ix4 0 n 0 ⟨l.val, h⟩) * z) ?_
    exact he 0
  rw [dif_neg h]
  by_cases h1 : l.val = 49
  · rw [if_pos h1]
    refine Eq.trans (concatenate_apply_piece (t := S1024x1x128) 2 _ _ _ 1 (by simp) S1024x1x1 _ (by exact rfl) rfl 49 (by exact rfl) (ix3 n 0 0) (hi 1 _) h1.symm) ?_
    exact he 0
  rw [if_neg h1]
  by_cases h2 : l.val = 50
  · rw [if_pos h2]
    refine Eq.trans (concatenate_apply_piece (t := S1024x1x128) 2 _ _ _ 2 (by simp) S1024x1x1 _ (by exact rfl) rfl 50 (by exact rfl) (ix3 n 0 0) (hi 1 _) h2.symm) rfl
  rw [if_neg h2]
  have := l.isLt
  refine Eq.trans (concatenate_apply_piece (t := S1024x1x128) 2 _ _ _ 3 (by simp) S1024x1x77 _ (by exact rfl) rfl 51 (by exact rfl) (ix3 n 0 ⟨l.val - 51, by omega⟩) (hi 77 _) (by show 51 + (l.val - 51) = l.val; omega)) rfl

variable (m : (ℓ : Loc nD τ sig) → Buf (Elt Ideal) ℓ)

section Layout

variable {α : Type}

/-- Features and importance side by side. -/
def with1 (f : S2x48x384x640.Idx → α) (g : S2x1x384x640.Idx → α) : S2x49x384x640.Idx → α :=
  concatenate S2x49x384x640 1 [⟨S2x48x384x640, f⟩, ⟨S2x1x384x640, g⟩] concatenates_S2x48x384x640_S2x1x384x640_S2x49x384x640_d1
/-- The two directions' pictures one after the other. -/
def both (f g : S2x49x384x640.Idx → α) : S4x49x384x640.Idx → α :=
  concatenate S4x49x384x640 0 [⟨S2x49x384x640, f⟩, ⟨S2x49x384x640, g⟩] concatenates_S2x49x384x640_S2x49x384x640_S4x49x384x640_d0
/-- The pictures laid out pixel by pixel. -/
def perPixel (a : S4x49x384x640.Idx → α) : S4x245760x1x49.Idx → α :=
  shapeCast S4x245760x1x49 (transpose S4x384x640x49 [0, 2, 3, 1] a transposes_S4x49x384x640_S4x384x640x49_0_2_3_1) shapeCasts_S4x384x640x49_S4x245760x1x49

end Layout

set_option maxHeartbeats 1600000 in
/-- The features the region is given. -/
theorem V_feats (c : Dev nD) : V m c main_v4
    = perPixel (both (with1 (m ⟨c, main_arg0⟩) (m ⟨c, main_arg2⟩)) (with1 (m ⟨c, main_arg1⟩) (m ⟨c, main_arg3⟩))) := by
  unfold V V0
  after_reads_simp
  change perPixel (both (StableHlo.upto _ _ _ (Proc.tc.devRef main_v0)) (StableHlo.upto _ _ _ (Proc.tc.devRef main_v1))) = _
  after_reads_simp
  rfl

theorem perPixel_at (a : S4x49x384x640.Idx → EReal) (q : Fin 4) (P : Fin 245760) (l : Fin 49) :
    perPixel a (ix4 q P 0 l) = a (ix4 q l (⟨P.val / 640, by omega⟩ : Fin 384) (⟨P.val % 640, by omega⟩ : Fin 640)) := by
  unfold perPixel
  refine (shapeCast_apply _ _ _ (ix4 q (⟨P.val / 640, by omega⟩ : Fin 384) (⟨P.val % 640, by omega⟩ : Fin 640) l) ?_).trans ?_
  · rw [Shape.rowMajor_val_four, Shape.rowMajor_val_four]
    show ((q.val * 384 + P.val / 640) * 640 + P.val % 640) * 49 + l.val = ((q.val * 245760 + P.val) * 1 + 0) * 49 + l.val
    omega
  · refine transpose_apply _ a _ _ _ fun b => ?_
    match b with
    | ⟨0, _⟩ => rfl
    | ⟨1, _⟩ => rfl
    | ⟨2, _⟩ => rfl
    | ⟨3, _⟩ => rfl

/-- A picture of the four is one of the two directions'. -/
theorem both_at (f : Fin 2 → S2x49x384x640.Idx → EReal) (d s : Fin 2) (l : Fin 49) (Y : Fin 384) (X : Fin 640) :
    both (f 0) (f 1) (ix4 (⟨2 * d.val + s.val, by omega⟩ : Fin 4) l Y X) = f d (ix4 s l Y X) := by
  unfold both
  have hi : ∀ x : Fin 4, x ≠ 0 → ((ix4 s l Y X : S2x49x384x640.Idx) x).val
      = ((ix4 (⟨2 * d.val + s.val, by omega⟩ : Fin 4) l Y X : S4x49x384x640.Idx) x).val := by
    intro x hx
    match x with
    | ⟨0, _⟩ => exact absurd rfl hx
    | ⟨1, _⟩ => rfl
    | ⟨2, _⟩ => rfl
    | ⟨3, _⟩ => rfl
  match d, hi with
  | 0, hi => exact concatenate_apply_piece (t := S4x49x384x640) 0 _ _ _ 0 (by simp) S2x49x384x640 (f 0) (by exact rfl) rfl 0 (by exact rfl) (ix4 s l Y X) hi rfl
  | 1, hi => exact concatenate_apply_piece (t := S4x49x384x640) 0 _ _ _ 1 (by simp) S2x49x384x640 (f 1) (by exact rfl) rfl 2 (by exact rfl) (ix4 s l Y X) hi rfl

end Cert.Proof.Kernel0Ideal

end
-- ==== Proof.Val.Ref.lean ====
/-  The reference's four results at an index, as shares of the pixels that reach it. -/
module

public import proofs.«01_k».proof.Proof.Val.Splat

@[expose] public section

set_option maxRecDepth 16384

noncomputable section

namespace Cert.Proof.Val

open Cert.Reference0Ideal Cert.Reference0Ideal.Gen
open Idealize.ShloMosaic Idealize.ShloMosaic.ValueIdx Idealize.ShloMosaic.Routing

/-- The row of a pixel. -/
def rw' (P : Fin 245760) : Fin 384 := ⟨P.val / 640, by omega⟩
/-- The column of a pixel. -/
def cl' (P : Fin 245760) : Fin 640 := ⟨P.val % 640, by omega⟩

/-- Where pixel `P` of sample `s` goes, across. -/
def gxOf (w : S2x2x384x640.Idx → EReal) (s : Fin 2) (P : Fin 245760) : EReal :=
  (sitofp (F := Ideal) .f32 (iotaInDim S640 32 0) (ix1 (cl' P)) : EReal) + w (ix4 s 0 (rw' P) (cl' P))
/-- Where pixel `P` of sample `s` goes, down. -/
def gyOf (w : S2x2x384x640.Idx → EReal) (s : Fin 2) (P : Fin 245760) : EReal :=
  (sitofp (F := Ideal) .f32 (iotaInDim S384 32 0) (ix1 (rw' P)) : EReal) + w (ix4 s 1 (rw' P) (cl' P))

/-- The horizontal target of each pixel. -/
def fxR (w : FVec Ideal S2x2x384x640 .f32) : FVec Ideal S2x384x640 .f32 :=
  addf (broadcastInDim S2x384x640 ![0, 1, 2] bcast_S1x1x640_S2x384x640_0_1_2 (broadcastInDim S1x1x640 ![2] bcast_S640_S1x1x640_2 (sitofp .f32 (iotaInDim S640 32 0))))
    (shapeCast _ (extractStridedSlice S2x1x384x640 ![0, 0, 0, 0] w slices_S2x2x384x640_S2x1x384x640_0_0_0_0) shapeCasts_S2x1x384x640_S2x384x640)
/-- The vertical target of each pixel. -/
def fyR (w : FVec Ideal S2x2x384x640 .f32) : FVec Ideal S2x384x640 .f32 :=
  addf (broadcastInDim S2x384x640 ![0, 1, 2] bcast_S1x384x1_S2x384x640_0_1_2 (broadcastInDim S1x384x1 ![1] bcast_S384_S1x384x1_1 (sitofp .f32 (iotaInDim S384 32 0))))
    (shapeCast _ (extractStridedSlice S2x1x384x640 ![0, 1, 0, 0] w slices_S2x2x384x640_S2x1x384x640_0_1_0_0) shapeCasts_S2x1x384x640_S2x384x640)

theorem fxR_at (w : FVec Ideal S2x2x384x640 .f32) (s : Fin 2) (P : Fin 245760) : (fxR w (px s P) : EReal) = gxOf w s P := by
  have h1 : broadcastInDim S2x384x640 ![0, 1, 2] bcast_S1x1x640_S2x384x640_0_1_2 (broadcastInDim S1x1x640 ![2] bcast_S640_S1x1x640_2
      (sitofp (F := Ideal) .f32 (iotaInDim S640 32 0))) (px s P) = sitofp (F := Ideal) .f32 (iotaInDim S640 32 0) (ix1 (cl' P)) := by
    refine (broadcastInDim_apply _ _ _ _ (ix3 0 0 (cl' P)) fun a => ?_).trans (broadcastInDim_apply _ _ _ _ (ix1 (cl' P)) fun a => ?_)
    · match a with
      | ⟨0, _⟩ => rfl
      | ⟨1, _⟩ => rfl
      | ⟨2, _⟩ => rfl
    · match a with
      | ⟨0, _⟩ => rfl
  have h2 : shapeCast S2x384x640 (extractStridedSlice S2x1x384x640 ![0, 0, 0, 0] w slices_S2x2x384x640_S2x1x384x640_0_0_0_0) shapeCasts_S2x1x384x640_S2x384x640 (px s P)
      = w (ix4 s 0 (rw' P) (cl' P)) := by
    refine (shapeCast_apply _ _ _ (ix4 s 0 (rw' P) (cl' P)) ?_).trans (extractStridedSlice_apply _ _ _ _ _ fun a => ?_)
    · rw [Shape.rowMajor_val_three, Shape.rowMajor_val_four]
      show ((s.val * 1 + 0) * 384 + P.val / 640) * 640 + P.val % 640 = (s.val * 384 + P.val / 640) * 640 + P.val % 640
      omega
    · match a with
      | ⟨0, _⟩ => exact (Nat.zero_add _).symm
      | ⟨1, _⟩ => rfl
      | ⟨2, _⟩ => exact (Nat.zero_add _).symm
      | ⟨3, _⟩ => exact (Nat.zero_add _).symm
  show (broadcastInDim S2x384x640 ![0, 1, 2] bcast_S1x1x640_S2x384x640_0_1_2 (broadcastInDim S1x1x640 ![2] bcast_S640_S1x1x640_2
      (sitofp (F := Ideal) .f32 (iotaInDim S640 32 0))) (px s P) : EReal) + shapeCast S2x384x640 (extractStridedSlice S2x1x384x640 ![0, 0, 0, 0] w
        slices_S2x2x384x640_S2x1x384x640_0_0_0_0) shapeCasts_S2x1x384x640_S2x384x640 (px s P) = _
  rw [h1, h2]
  rfl

theorem fyR_at (w : FVec Ideal S2x2x384x640 .f32) (s : Fin 2) (P : Fin 245760) : (fyR w (px s P) : EReal) = gyOf w s P := by
  have h1 : broadcastInDim S2x384x640 ![0, 1, 2] bcast_S1x384x1_S2x384x640_0_1_2 (broadcastInDim S1x384x1 ![1] bcast_S384_S1x384x1_1
      (sitofp (F := Ideal) .f32 (iotaInDim S384 32 0))) (px s P) = sitofp (F := Ideal) .f32 (iotaInDim S384 32 0) (ix1 (rw' P)) := by
    refine (broadcastInDim_apply _ _ _ _ (ix3 0 (rw' P) 0) fun a => ?_).trans (broadcastInDim_apply _ _ _ _ (ix1 (rw' P)) fun a => ?_)
    · match a with
      | ⟨0, _⟩ => rfl
      | ⟨1, _⟩ => rfl
      | ⟨2, _⟩ => rfl
    · match a with
      | ⟨0, _⟩ => rfl
  have h2 : shapeCast S2x384x640 (extractStridedSlice S2x1x384x640 ![0, 1, 0, 0] w slices_S2x2x384x640_S2x1x384x640_0_1_0_0) shapeCasts_S2x1x384x640_S2x384x640 (px s P)
      = w (ix4 s 1 (rw' P) (cl' P)) := by
    refine (shapeCast_apply _ _ _ (ix4 s 0 (rw' P) (cl' P)) ?_).trans (extractStridedSlice_apply _ _ _ _ _ fun a => ?_)
    · rw [Shape.rowMajor_val_three, Shape.rowMajor_val_four]
      show ((s.val * 1 + 0) * 384 + P.val / 640) * 640 + P.val % 640 = (s.val * 384 + P.val / 640) * 640 + P.val % 640
      omega
    · match a with
      | ⟨0, _⟩ => exact (Nat.zero_add _).symm
      | ⟨1, _⟩ => rfl
      | ⟨2, _⟩ => exact (Nat.zero_add _).symm
      | ⟨3, _⟩ => exact (Nat.zero_add _).symm
  show (broadcastInDim S2x384x640 ![0, 1, 2] bcast_S1x384x1_S2x384x640_0_1_2 (broadcastInDim S1x384x1 ![1] bcast_S384_S1x384x1_1
      (sitofp (F := Ideal) .f32 (iotaInDim S384 32 0))) (px s P) : EReal) + shapeCast S2x384x640 (extractStridedSlice S2x1x384x640 ![0, 1, 0, 0] w
        slices_S2x2x384x640_S2x1x384x640_0_1_0_0) shapeCasts_S2x1x384x640_S2x384x640 (px s P) = _
  rw [h1, h2]
  rfl

/-- A float over one channel of two pictures. -/
abbrev oF (b : BitVec 32) : FVec Ideal S2x1x384x640 .f32 := broadcastInDim S2x1x384x640 ![] bcast_S_S2x1x384x640 (constant S_ .f32 b)
/-- The weight each pixel carries. -/
def expR (g : FVec Ideal S2x1x384x640 .f32) : FVec Ideal S2x1x384x640 .f32 :=
  Host.exp (minimumf (oF 0x41A00000#32) (maximumf (oF 0xC1A00000#32) (Host.negf g)))
/-- The same at one pixel. -/
def eOf (x : EReal) : EReal := Ideal.exp (min (Ideal.ofBits .f32 0x41A00000#32) (max (Ideal.ofBits .f32 0xC1A00000#32) (-x)))
/-- Features and importance side by side. -/
def joinR (f : FVec Ideal S2x48x384x640 .f32) (g : FVec Ideal S2x1x384x640 .f32) : FVec Ideal S2x49x384x640 .f32 :=
  concatenate S2x49x384x640 1 [⟨S2x48x384x640, f⟩, ⟨S2x1x384x640, g⟩] concatenates_S2x48x384x640_S2x1x384x640_S2x49x384x640_d1
/-- What is splatted: the weighted features, then the weights. -/
def valR (f : FVec Ideal S2x48x384x640 .f32) (g : FVec Ideal S2x1x384x640 .f32) : FVec Ideal S50x491520 .f32 :=
  shapeCast _ (transpose S50x2x384x640 [1, 0, 2, 3]
    (concatenate S2x50x384x640 1
      [⟨S2x49x384x640, mulf (joinR f g) (broadcastInDim S2x49x384x640 ![0, 1, 2, 3] bcast_S2x1x384x640_S2x49x384x640_0_1_2_3 (expR g))⟩, ⟨S2x1x384x640, expR g⟩]
      concatenates_S2x49x384x640_S2x1x384x640_S2x50x384x640_d1) transposes_S2x50x384x640_S50x2x384x640_1_0_2_3) shapeCasts_S50x2x384x640_S50x491520

theorem expR_at (g : FVec Ideal S2x1x384x640 .f32) (i : S2x1x384x640.Idx) : (expR g i : EReal) = eOf (g i) := rfl

/-- A channel of two pictures in the line. -/
theorem chan_at {C : ℕ} {α : Type} (a : (⟨4, ![2, C, 384, 640]⟩ : Shape).Idx → α)
    (h1 : (⟨4, ![2, C, 384, 640]⟩ : Shape).Transposes [1, 0, 2, 3] ⟨4, ![C, 2, 384, 640]⟩)
    (h2 : (⟨4, ![C, 2, 384, 640]⟩ : Shape).ShapeCasts (shape2 C 491520)) (c : Fin C) (s : Fin 2) (P : Fin 245760) :
    shapeCast (shape2 C 491520) (transpose (⟨4, ![C, 2, 384, 640]⟩ : Shape) [1, 0, 2, 3] a h1) h2 (ix2 c (ln s P)) = a (ix4 s c (rw' P) (cl' P)) := by
  refine (shapeCast_apply _ _ _ (ix4 c s (rw' P) (cl' P)) ?_).trans (transpose_apply _ a _ _ _ fun b => ?_)
  · rw [Shape.rowMajor_val_two, Shape.rowMajor_val_four]
    show ((c.val * 2 + s.val) * 384 + P.val / 640) * 640 + P.val % 640 = c.val * 491520 + (P.val + 245760 * s.val)
    omega
  · match b with
    | ⟨0, _⟩ => rfl
    | ⟨1, _⟩ => rfl
    | ⟨2, _⟩ => rfl
    | ⟨3, _⟩ => rfl

/-- And back. -/
theorem unchan_at {C : ℕ} {α : Type} (a : (shape2 C 491520).Idx → α)
    (h1 : (⟨4, ![C, 2, 384, 640]⟩ : Shape).Transposes [1, 0, 2, 3] ⟨4, ![2, C, 384, 640]⟩)
    (h2 : (shape2 C 491520).ShapeCasts ⟨4, ![C, 2, 384, 640]⟩) (c : Fin C) (s : Fin 2) (P : Fin 245760) :
    transpose (⟨4, ![2, C, 384, 640]⟩ : Shape) [1, 0, 2, 3] (shapeCast (⟨4, ![C, 2, 384, 640]⟩ : Shape) a h2) h1 (ix4 s c (rw' P) (cl' P)) = a (ix2 c (ln s P)) := by
  refine (transpose_apply _ _ _ _ (ix4 c s (rw' P) (cl' P)) fun b => ?_).trans (shapeCast_apply _ _ _ _ ?_)
  · match b with
    | ⟨0, _⟩ => rfl
    | ⟨1, _⟩ => rfl
    | ⟨2, _⟩ => rfl
    | ⟨3, _⟩ => rfl
  · rw [Shape.rowMajor_val_two, Shape.rowMajor_val_four]
    show c.val * 491520 + (P.val + 245760 * s.val) = ((c.val * 2 + s.val) * 384 + P.val / 640) * 640 + P.val % 640
    omega

theorem valR_feat (f : FVec Ideal S2x48x384x640 .f32) (g : FVec Ideal S2x1x384x640 .f32) (l : Fin 50) (hl : l.val < 49) (s : Fin 2) (P : Fin 245760) :
    (valR f g (ix2 l (ln s P)) : EReal) = joinR f g (ix4 s ⟨l.val, hl⟩ (rw' P) (cl' P)) * eOf (g (ix4 s 0 (rw' P) (cl' P))) := by
  unfold valR
  refine (chan_at _ _ _ l s P).trans ?_
  refine Eq.trans (concatenate_apply_piece (t := S2x50x384x640) 1 _ _ _ 0 (by simp) S2x49x384x640 _ (by exact rfl) rfl 0 (by exact rfl) (ix4 s ⟨l.val, hl⟩ (rw' P) (cl' P)) ?_ (Nat.zero_add _)) ?_
  · intro b hb
    match b with
    | ⟨0, _⟩ => rfl
    | ⟨1, _⟩ => exact absurd rfl hb
    | ⟨2, _⟩ => rfl
    | ⟨3, _⟩ => rfl
  · have h : (broadcastInDim S2x49x384x640 ![0, 1, 2, 3] bcast_S2x1x384x640_S2x49x384x640_0_1_2_3 (expR g) (ix4 s ⟨l.val, hl⟩ (rw' P) (cl' P)) : EReal)
        = eOf (g (ix4 s 0 (rw' P) (cl' P))) := by
      refine (broadcastInDim_apply _ _ _ _ (ix4 s 0 (rw' P) (cl' P)) fun a => ?_).trans rfl
      match a with
      | ⟨0, _⟩ => rfl
      | ⟨1, _⟩ => rfl
      | ⟨2, _⟩ => rfl
      | ⟨3, _⟩ => rfl
    exact congrArg (fun z : EReal => joinR f g (ix4 s ⟨l.val, hl⟩ (rw' P) (cl' P)) * z) h

theorem valR_weight (f : FVec Ideal S2x48x384x640 .f32) (g : FVec Ideal S2x1x384x640 .f32) (s : Fin 2) (P : Fin 245760) :
    (valR f g (ix2 (49 : Fin 50) (ln s P)) : EReal) = eOf (g (ix4 s 0 (rw' P) (cl' P))) := by
  unfold valR
  refine (chan_at _ _ _ 49 s P).trans ?_
  refine Eq.trans (concatenate_apply_piece (t := S2x50x384x640) 1 _ _ _ 1 (by simp) S2x1x384x640 _ (by exact rfl) rfl 49 (by exact rfl) (ix4 s 0 (rw' P) (cl' P)) ?_ rfl) rfl
  intro b hb
  match b with
  | ⟨0, _⟩ => rfl
  | ⟨1, _⟩ => exact absurd rfl hb
  | ⟨2, _⟩ => rfl
  | ⟨3, _⟩ => rfl

/-- The weights' copies, over 50 channels. -/
def bc50 (a : FVec Ideal S491520 .f32) : FVec Ideal S50x491520 .f32 :=
  broadcastInDim S50x491520 ![0, 1] bcast_S1x491520_S50x491520_0_1 (broadcastInDim S1x491520 ![1] bcast_S491520_S1x491520_1 a)
/-- The weights' copies, over two channels. -/
def bc2 (a : FVec Ideal S491520 .f32) : FVec Ideal S2x491520 .f32 :=
  broadcastInDim S2x491520 ![0, 1] bcast_S1x491520_S2x491520_0_1 (broadcastInDim S1x491520 ![1] bcast_S491520_S1x491520_1 a)

theorem cols50 : Cols (C := 50) scatter_S50x491520_S491520x1_S50x491520_0_1_1_1 bc50 where
  h1 := rfl
  h2 := rfl
  h3 := rfl
  h4 := rfl
  hb a c u := by
    refine (broadcastInDim_apply _ _ _ _ (ix2 0 u) fun x => ?_).trans (broadcastInDim_apply _ _ _ _ (ix1 u) fun x => ?_)
    · match x with
      | ⟨0, _⟩ => rfl
      | ⟨1, _⟩ => rfl
    · match x with
      | ⟨0, _⟩ => rfl

theorem cols2 : Cols (C := 2) scatter_S2x491520_S491520x1_S2x491520_0_1_1_1 bc2 where
  h1 := rfl
  h2 := rfl
  h3 := rfl
  h4 := rfl
  hb a c u := by
    refine (broadcastInDim_apply _ _ _ _ (ix2 0 u) fun x => ?_).trans (broadcastInDim_apply _ _ _ _ (ix1 u) fun x => ?_)
    · match x with
      | ⟨0, _⟩ => rfl
      | ⟨1, _⟩ => rfl
    · match x with
      | ⟨0, _⟩ => rfl

/-- The splat of features and weights. -/
def sumR (f : FVec Ideal S2x48x384x640 .f32) (g : FVec Ideal S2x1x384x640 .f32) (w : FVec Ideal S2x2x384x640 .f32) : FVec Ideal S2x50x384x640 .f32 :=
  transpose S2x50x384x640 [1, 0, 2, 3] (shapeCast _
    (splatG (C := 50) scatter_S50x491520_S491520x1_S50x491520_0_1_1_1 bc50 (broadcastInDim S50x491520 ![] bcast_S_S50x491520 (constant S_ .f32 0x00000000#32))
      (valR f g) (fxR w) (fyR w)) shapeCasts_S50x491520_S50x2x384x640) transposes_S50x2x384x640_S2x50x384x640_1_0_2_3
/-- Ones, over two channels. -/
def onesR : FVec Ideal S2x491520 .f32 :=
  shapeCast _ (transpose S2x2x384x640 [1, 0, 2, 3] (concatenate S2x2x384x640 1 [⟨S2x1x384x640, oF 0x3F800000#32⟩, ⟨S2x1x384x640, oF 0x3F800000#32⟩]
    concatenates_S2x1x384x640_S2x1x384x640_S2x2x384x640_d1) transposes_S2x2x384x640_S2x2x384x640_1_0_2_3) shapeCasts_S2x2x384x640_S2x491520
/-- The splat of ones. -/
def cntR (w : FVec Ideal S2x2x384x640 .f32) : FVec Ideal S2x2x384x640 .f32 :=
  transpose S2x2x384x640 [1, 0, 2, 3] (shapeCast _
    (splatG (C := 2) scatter_S2x491520_S491520x1_S2x491520_0_1_1_1 bc2 (broadcastInDim S2x491520 ![] bcast_S_S2x491520 (constant S_ .f32 0x00000000#32))
      onesR (fxR w) (fyR w)) shapeCasts_S2x491520_S2x2x384x640) transposes_S2x2x384x640_S2x2x384x640_1_0_2_3

theorem onesR_at (k : Fin 2) (s : Fin 2) (P : Fin 245760) : (onesR (ix2 k (ln s P)) : EReal) = Ideal.ofBits .f32 0x3F800000#32 := by
  unfold onesR
  refine (chan_at _ _ _ k s P).trans ?_
  match k with
  | 0 =>
    refine Eq.trans (concatenate_apply_piece (t := S2x2x384x640) 1 _ _ _ 0 (by simp) S2x1x384x640 _ (by exact rfl) rfl 0 (by exact rfl) (ix4 s 0 (rw' P) (cl' P)) ?_ rfl) rfl
    intro b hb
    match b with
    | ⟨0, _⟩ => rfl
    | ⟨1, _⟩ => exact absurd rfl hb
    | ⟨2, _⟩ => rfl
    | ⟨3, _⟩ => rfl
  | 1 =>
    refine Eq.trans (concatenate_apply_piece (t := S2x2x384x640) 1 _ _ _ 1 (by simp) S2x1x384x640 _ (by exact rfl) rfl 1 (by exact rfl) (ix4 s 0 (rw' P) (cl' P)) ?_ rfl) rfl
    intro b hb
    match b with
    | ⟨0, _⟩ => rfl
    | ⟨1, _⟩ => exact absurd rfl hb
    | ⟨2, _⟩ => rfl
    | ⟨3, _⟩ => rfl

theorem sumR_at (f : FVec Ideal S2x48x384x640 .f32) (g : FVec Ideal S2x1x384x640 .f32) (w : FVec Ideal S2x2x384x640 .f32) (l : Fin 50) (s : Fin 2) (Q : Fin 245760) :
    (sumR f g w (ix4 s l (rw' Q) (cl' Q)) : EReal) = reach (gxOf w s) (gyOf w s) (fun P => valR f g (ix2 l (ln s P))) Q := by
  unfold sumR
  refine (unchan_at _ _ _ l s Q).trans ?_
  refine (splatG_at cols50 _ _ (fun j => Ideal.ofBits_zero_f32) _ _ l s Q).trans ?_
  simp only [fxR_at, fyR_at]

theorem cntR_at (w : FVec Ideal S2x2x384x640 .f32) (k : Fin 2) (s : Fin 2) (Q : Fin 245760) :
    (cntR w (ix4 s k (rw' Q) (cl' Q)) : EReal) = reach (gxOf w s) (gyOf w s) (fun _ => Ideal.ofBits .f32 0x3F800000#32) Q := by
  unfold cntR
  refine (unchan_at _ _ _ k s Q).trans ?_
  refine (splatG_at cols2 _ _ (fun j => Ideal.ofBits_zero_f32) _ _ k s Q).trans ?_
  simp only [fxR_at, fyR_at, onesR_at]

/-- The reference's features, from its splat. -/
def outR (S : FVec Ideal S2x50x384x640 .f32) : FVec Ideal S2x49x384x640 .f32 :=
  Host.divf (extractStridedSlice S2x49x384x640 ![0, 0, 0, 0] S slices_S2x50x384x640_S2x49x384x640_0_0_0_0)
    (broadcastInDim S2x49x384x640 ![0, 1, 2, 3] bcast_S2x1x384x640_S2x49x384x640_0_1_2_3
      (addf (extractStridedSlice S2x1x384x640 ![0, 49, 0, 0] S slices_S2x50x384x640_S2x1x384x640_0_49_0_0) (oF 0x33D6BF95#32)))
/-- The reference's mask, from its splat of ones. -/
def holeR (S : FVec Ideal S2x2x384x640 .f32) : FVec Ideal S2x1x384x640 .f32 :=
  select (cmpf .ole (Host.divf (extractStridedSlice S2x1x384x640 ![0, 0, 0, 0] S slices_S2x2x384x640_S2x1x384x640_0_0_0_0)
    (addf (extractStridedSlice S2x1x384x640 ![0, 1, 0, 0] S slices_S2x2x384x640_S2x1x384x640_0_1_0_0) (oF 0x33D6BF95#32))) (oF 0x3F000000#32)) (oF 0x3F800000#32) (oF 0x00000000#32)

theorem outR_at (S : FVec Ideal S2x50x384x640 .f32) (s : Fin 2) (l : Fin 49) (Y : Fin 384) (X : Fin 640) :
    (outR S (ix4 s l Y X) : EReal) = Ideal.div (S (ix4 s (⟨l.val, by omega⟩ : Fin 50) Y X)) ((S (ix4 s (49 : Fin 50) Y X) : EReal) + Ideal.ofBits .f32 0x33D6BF95#32) := by
  have h1 : extractStridedSlice S2x49x384x640 ![0, 0, 0, 0] S slices_S2x50x384x640_S2x49x384x640_0_0_0_0 (ix4 s l Y X) = S (ix4 s (⟨l.val, by omega⟩ : Fin 50) Y X) := by
    refine extractStridedSlice_apply _ _ _ _ _ fun a => ?_
    match a with
    | ⟨0, _⟩ => exact (Nat.zero_add _).symm
    | ⟨1, _⟩ => exact (Nat.zero_add _).symm
    | ⟨2, _⟩ => exact (Nat.zero_add _).symm
    | ⟨3, _⟩ => exact (Nat.zero_add _).symm
  have h2 : extractStridedSlice S2x1x384x640 ![0, 49, 0, 0] S slices_S2x50x384x640_S2x1x384x640_0_49_0_0 (ix4 s 0 Y X) = S (ix4 s (49 : Fin 50) Y X) := by
    refine extractStridedSlice_apply _ _ _ _ _ fun a => ?_
    match a with
    | ⟨0, _⟩ => exact (Nat.zero_add _).symm
    | ⟨1, _⟩ => rfl
    | ⟨2, _⟩ => exact (Nat.zero_add _).symm
    | ⟨3, _⟩ => exact (Nat.zero_add _).symm
  have h3 : (broadcastInDim S2x49x384x640 ![0, 1, 2, 3] bcast_S2x1x384x640_S2x49x384x640_0_1_2_3
      (addf (extractStridedSlice S2x1x384x640 ![0, 49, 0, 0] S slices_S2x50x384x640_S2x1x384x640_0_49_0_0) (oF 0x33D6BF95#32)) (ix4 s l Y X) : EReal)
      = (S (ix4 s (49 : Fin 50) Y X) : EReal) + Ideal.ofBits .f32 0x33D6BF95#32 := by
    refine (broadcastInDim_apply _ _ _ _ (ix4 s 0 Y X) fun a => ?_).trans ?_
    · match a with
      | ⟨0, _⟩ => rfl
      | ⟨1, _⟩ => rfl
      | ⟨2, _⟩ => rfl
      | ⟨3, _⟩ => rfl
    · exact congrArg (fun z : EReal => z + Ideal.ofBits .f32 0x33D6BF95#32) h2
  exact congrArg₂ Ideal.div h1 h3

/-- Whether a count leaves a hole. -/
def holed (a b : EReal) : EReal :=
  Scalar.select (FloatOps.cmpf (F := Ideal) (φ := .f32) .ole (Ideal.div a (b + Ideal.ofBits .f32 0x33D6BF95#32)) (Ideal.ofBits .f32 0x3F000000#32))
    (Ideal.ofBits .f32 0x3F800000#32) (Ideal.ofBits .f32 0x00000000#32)

theorem holeR_at (S : FVec Ideal S2x2x384x640 .f32) (s : Fin 2) (Y : Fin 384) (X : Fin 640) :
    (holeR S (ix4 s 0 Y X) : EReal) = holed (S (ix4 s (0 : Fin 2) Y X)) (S (ix4 s (1 : Fin 2) Y X)) := by
  have h1 : extractStridedSlice S2x1x384x640 ![0, 0, 0, 0] S slices_S2x2x384x640_S2x1x384x640_0_0_0_0 (ix4 s 0 Y X) = S (ix4 s (0 : Fin 2) Y X) := by
    refine extractStridedSlice_apply _ _ _ _ _ fun a => ?_
    match a with
    | ⟨0, _⟩ => exact (Nat.zero_add _).symm
    | ⟨1, _⟩ => rfl
    | ⟨2, _⟩ => exact (Nat.zero_add _).symm
    | ⟨3, _⟩ => exact (Nat.zero_add _).symm
  have h2 : extractStridedSlice S2x1x384x640 ![0, 1, 0, 0] S slices_S2x2x384x640_S2x1x384x640_0_1_0_0 (ix4 s 0 Y X) = S (ix4 s (1 : Fin 2) Y X) := by
    refine extractStridedSlice_apply _ _ _ _ _ fun a => ?_
    match a with
    | ⟨0, _⟩ => exact (Nat.zero_add _).symm
    | ⟨1, _⟩ => rfl
    | ⟨2, _⟩ => exact (Nat.zero_add _).symm
    | ⟨3, _⟩ => exact (Nat.zero_add _).symm
  exact congrArg₂ holed h1 h2

end Cert.Proof.Val

end
-- ==== Proof.Val.Eq.lean ====
/-  The level-0 program's four results are the reference's. -/
module

public import proofs.«01_k».proof.Proof.Val.Kern
public import proofs.«01_k».proof.Proof.Val.Feat
public import proofs.«01_k».proof.Proof.Val.Ref

@[expose] public section

set_option maxRecDepth 16384

noncomputable section

namespace Cert.Proof.Kernel0Ideal

open Cert.Kernel0Ideal Cert.Kernel0Ideal.Gen Cert.Proof.Val
open Idealize.ShloMosaic Idealize.ShloMosaic.TcCoe

/-- The two spellings of an index of four coordinates. -/
theorem ix4_same {a b c d : ℕ} (i : Fin a) (j : Fin b) (k : Fin c) (l : Fin d) :
    (ix4 i j k l : (⟨4, ![a, b, c, d]⟩ : Shape).Idx) = ValueIdx.ix4 i j k l := by
  funext x
  match x with
  | ⟨0, _⟩ => rfl
  | ⟨1, _⟩ => rfl
  | ⟨2, _⟩ => rfl
  | ⟨3, _⟩ => rfl

/-- The flows of the two directions, one after the other. -/
theorem flow_at (w : Fin 2 → S2x2x384x640.Idx → EReal) (d s ch : Fin 2) (Y : Fin 384) (X : Fin 640) :
    flowA (F := Ideal) (w 0) (w 1) (ix4 (⟨2 * d.val + s.val, by omega⟩ : Fin 4) ch Y X) = w d (ix4 s ch Y X) := by
  unfold flowA
  have hi : ∀ x : Fin 4, x ≠ 0 → ((ix4 s ch Y X : S2x2x384x640.Idx) x).val
      = ((ix4 (⟨2 * d.val + s.val, by omega⟩ : Fin 4) ch Y X : S4x2x384x640.Idx) x).val := by
    intro x hx
    match x with
    | ⟨0, _⟩ => exact absurd rfl hx
    | ⟨1, _⟩ => rfl
    | ⟨2, _⟩ => rfl
    | ⟨3, _⟩ => rfl
  match d, hi with
  | 0, hi => exact concatenate_apply_piece (t := S4x2x384x640) 0 _ _ _ 0 (by simp) S2x2x384x640 (w 0) (by exact rfl) rfl 0 (by exact rfl) (ix4 s ch Y X) hi rfl
  | 1, hi => exact concatenate_apply_piece (t := S4x2x384x640) 0 _ _ _ 1 (by simp) S2x2x384x640 (w 1) (by exact rfl) rfl 2 (by exact rfl) (ix4 s ch Y X) hi rfl

/-- The targets, across: those of the reference. -/
theorem fxA_at (w : Fin 2 → S2x2x384x640.Idx → EReal) (d s : Fin 2) (P : Fin 245760) :
    (fxA (F := Ideal) (flowA (w 0) (w 1)) (pq (⟨2 * d.val + s.val, by omega⟩ : Fin 4) P) : EReal) = gxOf (w d) s P := by
  have h1 : broadcastInDim S4x384x640 ![0, 1, 2] bcast_S1x1x640_S4x384x640_0_1_2 (broadcastInDim S1x1x640 ![2] bcast_S640_S1x1x640_2
      (sitofp (F := Ideal) .f32 (iotaInDim S640 32 0))) (pq (⟨2 * d.val + s.val, by omega⟩ : Fin 4) P)
      = sitofp (F := Ideal) .f32 (iotaInDim S640 32 0) (ValueIdx.ix1 (cl' P)) := by
    refine (broadcastInDim_apply _ _ _ _ (ix3 0 0 (cl' P)) fun a => ?_).trans (broadcastInDim_apply _ _ _ _ (ValueIdx.ix1 (cl' P)) fun a => ?_)
    · match a with
      | ⟨0, _⟩ => rfl
      | ⟨1, _⟩ => rfl
      | ⟨2, _⟩ => rfl
    · match a with
      | ⟨0, _⟩ => rfl
  have h2 : shapeCast S4x384x640 (extractStridedSlice S4x1x384x640 ![0, 0, 0, 0] (flowA (F := Ideal) (w 0) (w 1)) slices_S4x2x384x640_S4x1x384x640_0_0_0_0)
      shapeCasts_S4x1x384x640_S4x384x640 (pq (⟨2 * d.val + s.val, by omega⟩ : Fin 4) P) = w d (ix4 s 0 (rw' P) (cl' P)) := by
    refine (shapeCast_apply _ _ _ (ix4 (⟨2 * d.val + s.val, by omega⟩ : Fin 4) 0 (rw' P) (cl' P)) ?_).trans
      ((extractStridedSlice_apply _ _ _ _ (ix4 (⟨2 * d.val + s.val, by omega⟩ : Fin 4) 0 (rw' P) (cl' P)) fun a => ?_).trans (flow_at w d s 0 _ _))
    · rw [Shape.rowMajor_val_three, Shape.rowMajor_val_four]
      show (((2 * d.val + s.val) * 1 + 0) * 384 + P.val / 640) * 640 + P.val % 640 = ((2 * d.val + s.val) * 384 + P.val / 640) * 640 + P.val % 640
      omega
    · match a with
      | ⟨0, _⟩ => exact (Nat.zero_add _).symm
      | ⟨1, _⟩ => rfl
      | ⟨2, _⟩ => exact (Nat.zero_add _).symm
      | ⟨3, _⟩ => exact (Nat.zero_add _).symm
  refine (congrArg₂ (fun x y : EReal => x + y) h1 h2).trans ?_
  rw [ix4_same]
  rfl

/-- The targets, down. -/
theorem fyA_at (w : Fin 2 → S2x2x384x640.Idx → EReal) (d s : Fin 2) (P : Fin 245760) :
    (fyA (F := Ideal) (flowA (w 0) (w 1)) (pq (⟨2 * d.val + s.val, by omega⟩ : Fin 4) P) : EReal) = gyOf (w d) s P := by
  have h1 : broadcastInDim S4x384x640 ![0, 1, 2] bcast_S1x384x1_S4x384x640_0_1_2 (broadcastInDim S1x384x1 ![1] bcast_S384_S1x384x1_1
      (sitofp (F := Ideal) .f32 (iotaInDim S384 32 0))) (pq (⟨2 * d.val + s.val, by omega⟩ : Fin 4) P)
      = sitofp (F := Ideal) .f32 (iotaInDim S384 32 0) (ValueIdx.ix1 (rw' P)) := by
    refine (broadcastInDim_apply _ _ _ _ (ix3 0 (rw' P) 0) fun a => ?_).trans (broadcastInDim_apply _ _ _ _ (ValueIdx.ix1 (rw' P)) fun a => ?_)
    · match a with
      | ⟨0, _⟩ => rfl
      | ⟨1, _⟩ => rfl
      | ⟨2, _⟩ => rfl
    · match a with
      | ⟨0, _⟩ => rfl
  have h2 : shapeCast S4x384x640 (extractStridedSlice S4x1x384x640 ![0, 1, 0, 0] (flowA (F := Ideal) (w 0) (w 1)) slices_S4x2x384x640_S4x1x384x640_0_1_0_0)
      shapeCasts_S4x1x384x640_S4x384x640 (pq (⟨2 * d.val + s.val, by omega⟩ : Fin 4) P) = w d (ix4 s 1 (rw' P) (cl' P)) := by
    refine (shapeCast_apply _ _ _ (ix4 (⟨2 * d.val + s.val, by omega⟩ : Fin 4) 0 (rw' P) (cl' P)) ?_).trans
      ((extractStridedSlice_apply _ _ _ _ (ix4 (⟨2 * d.val + s.val, by omega⟩ : Fin 4) 1 (rw' P) (cl' P)) fun a => ?_).trans (flow_at w d s 1 _ _))
    · rw [Shape.rowMajor_val_three, Shape.rowMajor_val_four]
      show (((2 * d.val + s.val) * 1 + 0) * 384 + P.val / 640) * 640 + P.val % 640 = ((2 * d.val + s.val) * 384 + P.val / 640) * 640 + P.val % 640
      omega
    · match a with
      | ⟨0, _⟩ => exact (Nat.zero_add _).symm
      | ⟨1, _⟩ => rfl
      | ⟨2, _⟩ => exact (Nat.zero_add _).symm
      | ⟨3, _⟩ => exact (Nat.zero_add _).symm
  refine (congrArg₂ (fun x y : EReal => x + y) h1 h2).trans ?_
  rw [ix4_same]
  rfl

variable (m : (ℓ : Loc nD τ sig) → Buf (Elt Ideal) ℓ)

/-- The flows, by direction. -/
def flowOf (c : Dev nD) : Fin 2 → S2x2x384x640.Idx → EReal
  | 0 => m ⟨c, main_arg4⟩
  | 1 => m ⟨c, main_arg5⟩
/-- The features, by direction. -/
def encOf (c : Dev nD) : Fin 2 → S2x48x384x640.Idx → EReal
  | 0 => m ⟨c, main_arg0⟩
  | 1 => m ⟨c, main_arg1⟩
/-- The importances, by direction. -/
def metOf (c : Dev nD) : Fin 2 → S2x1x384x640.Idx → EReal
  | 0 => m ⟨c, main_arg2⟩
  | 1 => m ⟨c, main_arg3⟩

theorem gX_at (c : Dev nD) (d s : Fin 2) (P : Fin 245760) : gX m c (⟨2 * d.val + s.val, by omega⟩ : Fin 4) P
    = min (Ideal.ofBits .f32 0x44210000#32) (max (Ideal.ofBits .f32 0xC0800000#32) (gxOf (flowOf m c d) s P)) :=
  congrArg (fun z : EReal => min (Ideal.ofBits .f32 0x44210000#32) (max (Ideal.ofBits .f32 0xC0800000#32) z)) (fxA_at (flowOf m c) d s P)
theorem gY_at (c : Dev nD) (d s : Fin 2) (P : Fin 245760) : gY m c (⟨2 * d.val + s.val, by omega⟩ : Fin 4) P
    = min (Ideal.ofBits .f32 0x43C20000#32) (max (Ideal.ofBits .f32 0xC0800000#32) (gyOf (flowOf m c d) s P)) :=
  congrArg (fun z : EReal => min (Ideal.ofBits .f32 0x43C20000#32) (max (Ideal.ofBits .f32 0xC0800000#32) z)) (fyA_at (flowOf m c) d s P)

/-- What the program is given at a pixel: features and importance. -/
theorem feat_at (c : Dev nD) (d s : Fin 2) (P : Fin 245760) (l : Fin 49) :
    (V m c main_v4 (ix4 (⟨2 * d.val + s.val, by omega⟩ : Fin 4) P 0 l) : EReal) = with1 (encOf m c d) (metOf m c d) (ix4 s l (rw' P) (cl' P)) := by
  refine (congrFun (V_feats m c) (ix4 (⟨2 * d.val + s.val, by omega⟩ : Fin 4) P 0 l)).trans ?_
  refine (perPixel_at _ _ P l).trans ?_
  exact both_at (fun d => with1 (encOf m c d) (metOf m c d)) d s l (rw' P) (cl' P)

/-- What the program leaves at a pixel of a picture, by direction. -/
theorem left_at (c : Dev nD) (d s : Fin 2) (Q : Fin 245760) (l : Fin 128) :
    (outArr m c (spot (⟨2 * d.val + s.val, by omega⟩ : Fin 4) Q l) : EReal)
      = nrm (F := Ideal) (fun l => reach (gxOf (flowOf m c d) s) (gyOf (flowOf m c d) s)
          (fun P => carry (fun k => with1 (encOf m c d) (metOf m c d) (ix4 s k (rw' P) (cl' P))) l) Q) l := by
  refine (out_at m c (⟨2 * d.val + s.val, by omega⟩ : Fin 4) Q l
    (fun l P => carry (fun k => with1 (encOf m c d) (metOf m c d) (ix4 s k (rw' P) (cl' P))) l) ?_).trans ?_
  · intro l t n P hq hP
    refine (pay2_at (iblk m c 0 t) n l).trans (congrFun (congrArg carry (funext fun k => ?_)) l)
    exact (blk0_at m c t n k (⟨2 * d.val + s.val, by omega⟩ : Fin 4) P hq hP).trans (feat_at m c d s P k)
  · refine congrFun (congrArg (nrm (F := Ideal)) (funext fun l => ?_)) l
    refine Eq.trans ?_ (reach_clip _ _ _ Q)
    exact congrArg₂ (fun x y => reach x y _ Q) (funext fun P => gX_at m c d s P) (funext fun P => gY_at m c d s P)

section Carried

variable (f : S2x48x384x640.Idx → EReal) (g : S2x1x384x640.Idx → EReal)

theorem last_at (s : Fin 2) (Y : Fin 384) (X : Fin 640) : with1 f g (ix4 s 48 Y X) = g (ValueIdx.ix4 s 0 Y X) := by
  unfold with1
  refine Eq.trans (concatenate_apply_piece (t := S2x49x384x640) 1 _ _ _ 1 (by simp) S2x1x384x640 g (by exact rfl) rfl 48 (by exact rfl) (ValueIdx.ix4 s 0 Y X) ?_ rfl) rfl
  intro b hb
  match b with
  | ⟨0, _⟩ => rfl
  | ⟨1, _⟩ => exact absurd rfl hb
  | ⟨2, _⟩ => rfl
  | ⟨3, _⟩ => rfl

theorem ew_eq (x : EReal) : ew x = eOf x := by
  unfold ew eOf
  rw [Ideal.ofBits_zero_f32, sub_eq_add_neg, zero_add]

theorem weigh (s : Fin 2) (P : Fin 245760) : ew (with1 f g (ix4 s 48 (rw' P) (cl' P))) = eOf (g (ValueIdx.ix4 s 0 (rw' P) (cl' P))) :=
  (ew_eq _).trans (congrArg eOf (last_at f g s (rw' P) (cl' P)))

/-- The features a pixel carries, in both programs. -/
theorem carry_feat (s : Fin 2) (P : Fin 245760) (l : Fin 49) :
    carry (fun k => with1 f g (ix4 s k (rw' P) (cl' P))) ⟨l.val, by omega⟩
      = valR f g (ValueIdx.ix2 (⟨l.val, by omega⟩ : Fin 50) (ln s P)) := by
  refine Eq.trans ?_ (valR_feat f g (⟨l.val, by omega⟩ : Fin 50) l.isLt s P).symm
  unfold carry
  rw [dif_pos (show l.val < 49 from l.isLt)]
  exact congrArg₂ (fun x y : EReal => x * y) (congrArg (with1 f g) (ix4_same s l (rw' P) (cl' P))) (weigh f g s P)

/-- The weight a pixel carries, in both programs. -/
theorem carry_weight (s : Fin 2) (P : Fin 245760) :
    carry (fun k => with1 f g (ix4 s k (rw' P) (cl' P))) 49 = valR f g (ValueIdx.ix2 (49 : Fin 50) (ln s P)) := by
  refine Eq.trans ?_ (valR_weight f g s P).symm
  unfold carry
  rw [dif_neg (by decide), if_pos (by decide)]
  exact weigh f g s P

/-- And the one it counts for. -/
theorem carry_one (s : Fin 2) (P : Fin 245760) :
    carry (fun k => with1 f g (ix4 s k (rw' P) (cl' P))) 50 = Ideal.ofBits .f32 0x3F800000#32 := by
  unfold carry
  rw [dif_neg (by decide), if_neg (by decide), if_pos (by decide)]

end Carried

theorem rw_pxl (Y : Fin 384) (X : Fin 640) : rw' (pxl Y X) = Y := Fin.ext (by have := X.isLt; show (Y.val * 640 + X.val) / 640 = Y.val; omega)
theorem cl_pxl (Y : Fin 384) (X : Fin 640) : cl' (pxl Y X) = X := Fin.ext (by have := X.isLt; show (Y.val * 640 + X.val) % 640 = X.val; omega)

/-- A feature the program leaves is the reference's. -/
theorem feat_eq (c : Dev nD) (d s : Fin 2) (l : Fin 49) (Y : Fin 384) (X : Fin 640) :
    (outArr m c (spot (⟨2 * d.val + s.val, by omega⟩ : Fin 4) (pxl Y X) ⟨l.val, by omega⟩) : EReal)
      = outR (sumR (encOf m c d) (metOf m c d) (flowOf m c d)) (ValueIdx.ix4 s l Y X) := by
  rw [outR_at]
  have hS : ∀ k : Fin 50, (sumR (encOf m c d) (metOf m c d) (flowOf m c d) (ValueIdx.ix4 s k Y X) : EReal)
      = reach (gxOf (flowOf m c d) s) (gyOf (flowOf m c d) s) (fun P => valR (encOf m c d) (metOf m c d) (ValueIdx.ix2 k (ln s P))) (pxl Y X) := by
    intro k
    have h := sumR_at (encOf m c d) (metOf m c d) (flowOf m c d) k s (pxl Y X)
    rw [rw_pxl, cl_pxl] at h
    exact h
  rw [hS, hS]
  refine (left_at m c d s (pxl Y X) ⟨l.val, by omega⟩).trans ?_
  unfold nrm
  rw [if_pos (show l.val < 49 from l.isLt)]
  refine congrArg₂ (fun x y : EReal => Ideal.div x (y + Ideal.ofBits .f32 0x33D6BF95#32)) ?_ ?_
  · exact congrArg (fun v => reach _ _ v (pxl Y X)) (funext fun P => carry_feat (encOf m c d) (metOf m c d) s P l)
  · exact congrArg (fun v => reach _ _ v (pxl Y X)) (funext fun P => carry_weight (encOf m c d) (metOf m c d) s P)

/-- A mask the program leaves is the reference's. -/
theorem mask_eq (c : Dev nD) (d s : Fin 2) (Y : Fin 384) (X : Fin 640) :
    (outArr m c (spot (⟨2 * d.val + s.val, by omega⟩ : Fin 4) (pxl Y X) 49) : EReal) = holeR (cntR (flowOf m c d)) (ValueIdx.ix4 s 0 Y X) := by
  rw [holeR_at]
  have hS : ∀ k : Fin 2, (cntR (flowOf m c d) (ValueIdx.ix4 s k Y X) : EReal)
      = reach (gxOf (flowOf m c d) s) (gyOf (flowOf m c d) s) (fun _ => Ideal.ofBits .f32 0x3F800000#32) (pxl Y X) := by
    intro k
    have h := cntR_at (flowOf m c d) k s (pxl Y X)
    rw [rw_pxl, cl_pxl] at h
    exact h
  rw [hS, hS]
  refine (left_at m c d s (pxl Y X) 49).trans ?_
  unfold nrm
  rw [if_neg (by decide), if_pos (by decide)]
  have h : reach (gxOf (flowOf m c d) s) (gyOf (flowOf m c d) s)
      (fun P => carry (fun k => with1 (encOf m c d) (metOf m c d) (ix4 s k (rw' P) (cl' P))) 50) (pxl Y X)
      = reach (gxOf (flowOf m c d) s) (gyOf (flowOf m c d) s) (fun _ => Ideal.ofBits .f32 0x3F800000#32) (pxl Y X) :=
    congrArg (fun v => reach _ _ v (pxl Y X)) (funext fun P => carry_one (encOf m c d) (metOf m c d) s P)
  exact congrArg (fun z : EReal => holed z z) h

end Cert.Proof.Kernel0Ideal

end
-- ==== Proof.Val.RefRun.lean ====
/-  The reference's results are the splats of its arguments. -/
module

public import proofs.«01_k».proof.Proof.Val.Ref
public import proofs.«01_k».proof.Proof.Gen.Reference0Ideal.Run

@[expose] public section

set_option maxRecDepth 16384

noncomputable section

namespace Cert.Proof.Val

open Cert.Reference0Ideal Cert.Reference0Ideal.Gen
open Idealize.ShloMosaic Idealize.ShloMosaic.TcCoe Idealize.ShloMosaic.StableHlo

set_option maxHeartbeats 1000000 in
/-- The forward features. -/
theorem run_feats0 (V : Valuation τ sig (Elt Idealize.ShloMosaic.Ideal)) : Cert.Reference0Ideal.Value.res_main_v184 (F := Idealize.ShloMosaic.Ideal) V
    = sumR (V (Proc.devRef .tc main_arg0)) (V (Proc.devRef .tc main_arg2)) (V (Proc.devRef .tc main_arg4)) := rfl

set_option maxHeartbeats 1000000 in
/-- The backward features. -/
theorem run_feats1 (V : Valuation τ sig (Elt Idealize.ShloMosaic.Ideal)) : Cert.Reference0Ideal.Value.res_main_v375 (F := Idealize.ShloMosaic.Ideal) V
    = sumR (V (Proc.devRef .tc main_arg1)) (V (Proc.devRef .tc main_arg3)) (V (Proc.devRef .tc main_arg5)) := rfl

set_option maxHeartbeats 1000000 in
/-- The forward counts. -/
theorem run_count0 (V : Valuation τ sig (Elt Idealize.ShloMosaic.Ideal)) : Cert.Reference0Ideal.Value.res_main_v559 (F := Idealize.ShloMosaic.Ideal) V
    = cntR (V (Proc.devRef .tc main_arg4)) := rfl

set_option maxHeartbeats 1000000 in
/-- The backward counts. -/
theorem run_count1 (V : Valuation τ sig (Elt Idealize.ShloMosaic.Ideal)) : Cert.Reference0Ideal.Value.res_main_v747 (F := Idealize.ShloMosaic.Ideal) V
    = cntR (V (Proc.devRef .tc main_arg5)) := rfl

end Cert.Proof.Val

end
-- ==== Proof.Val.Same.lean ====
/-  The level-0 program and the reference end with the same four results. -/
module

public import proofs.«01_k».proof.Proof.Val.Eq
public import proofs.«01_k».proof.Proof.Val.RefRun
public import proofs.«01_k».proof.Proof.L0I.Frame

@[expose] public section

set_option maxRecDepth 16384

noncomputable section

namespace Cert.Proof.Kernel0Ideal

open Cert.Kernel0Ideal Cert.Kernel0Ideal.Gen Cert.Proof.Val
open Idealize.ShloMosaic Idealize.ShloMosaic.TcCoe Idealize.ShloMosaic.Pipeline Idealize.SL.Sem

/-- Every index of four coordinates is given by them. -/
theorem ix4_of {a b c d : ℕ} (j : (⟨4, ![a, b, c, d]⟩ : Shape).Idx) :
    ∃ (s : Fin a) (l : Fin b) (Y : Fin c) (X : Fin d), j = ValueIdx.ix4 s l Y X := by
  refine ⟨j 0, j 1, j 2, j 3, ?_⟩
  funext x
  match x with
  | ⟨0, _⟩ => rfl
  | ⟨1, _⟩ => rfl
  | ⟨2, _⟩ => rfl
  | ⟨3, _⟩ => rfl

variable (m : (ℓ : Loc nD τ sig) → Buf (Elt Ideal) ℓ)

theorem featF_eq (c : Dev nD) : featF (outArr m c) = outR (sumR (encOf m c 0) (metOf m c 0) (flowOf m c 0)) := by
  funext j
  obtain ⟨s, l, Y, X, rfl⟩ := ix4_of j
  refine Eq.trans ?_ (feat_eq m c 0 s l Y X)
  rw [← ix4_same]
  exact featF_at (outArr m c) s l Y X

theorem featB_eq (c : Dev nD) : featB (outArr m c) = outR (sumR (encOf m c 1) (metOf m c 1) (flowOf m c 1)) := by
  funext j
  obtain ⟨s, l, Y, X, rfl⟩ := ix4_of j
  refine Eq.trans ?_ (feat_eq m c 1 s l Y X)
  rw [← ix4_same]
  exact featB_at (outArr m c) s l Y X

theorem maskF_eq (c : Dev nD) : maskF (outArr m c) = holeR (cntR (flowOf m c 0)) := by
  funext j
  obtain ⟨s, l, Y, X, rfl⟩ := ix4_of j
  obtain rfl : l = 0 := Subsingleton.elim _ _
  refine Eq.trans ?_ (mask_eq m c 0 s Y X)
  rw [← ix4_same]
  exact maskF_at (outArr m c) s Y X

theorem maskB_eq (c : Dev nD) : maskB (outArr m c) = holeR (cntR (flowOf m c 1)) := by
  funext j
  obtain ⟨s, l, Y, X, rfl⟩ := ix4_of j
  obtain rfl : l = 0 := Subsingleton.elim _ _
  refine Eq.trans ?_ (mask_eq m c 1 s Y X)
  rw [← ix4_same]
  exact maskB_at (outArr m c) s Y X

/-- The program's run: its four results as the reference spells them, its arguments kept. -/
theorem values (ρ : Dev nD → PrngReg) : θ_run defs (onTc (τ := τ) (main (F := Ideal))) ⟨m, fun _ => 0, ρ⟩ (fun r => ∀ c : Dev nD,
    r.2.mem ((c.tc : Thread nD τ).loc main_v471) = outR (sumR (encOf m c 0) (metOf m c 0) (flowOf m c 0))
    ∧ r.2.mem ((c.tc : Thread nD τ).loc main_v472) = outR (sumR (encOf m c 1) (metOf m c 1) (flowOf m c 1))
    ∧ r.2.mem ((c.tc : Thread nD τ).loc main_v476) = holeR (cntR (flowOf m c 0))
    ∧ r.2.mem ((c.tc : Thread nD τ).loc main_v477) = holeR (cntR (flowOf m c 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) := by
  refine (θ_run defs _ _).mono (fun r h c => ?_) (run m ρ (rows_ok m))
  obtain ⟨e0, e1, e2, e3⟩ := end_feats m c
  exact ⟨((h.1 c).2 main_v471 (mem_restRefs_of main_v471 (by decide) (by decide))).trans (e0.trans (featF_eq m c)),
    ((h.1 c).2 main_v472 (mem_restRefs_of main_v472 (by decide) (by decide))).trans (e1.trans (featB_eq m c)),
    ((h.1 c).2 main_v476 (mem_restRefs_of main_v476 (by decide) (by decide))).trans (e2.trans (maskF_eq m c)),
    ((h.1 c).2 main_v477 (mem_restRefs_of main_v477 (by decide) (by decide))).trans (e3.trans (maskB_eq m c)), args_kept m r h.1 c⟩

end Cert.Proof.Kernel0Ideal

namespace Cert.Proof.Val

open Cert.Reference0Ideal Cert.Reference0Ideal.Gen
open Idealize.ShloMosaic Idealize.ShloMosaic.TcCoe Idealize.SL.Sem

/-- The reference's run: its four results as splats of its arguments, its arguments kept. -/
theorem values (m : (ℓ : Loc nD τ sig) → Buf (Elt Idealize.ShloMosaic.Ideal) ℓ) (ρ : Dev nD → PrngReg) :
    θ_run defs (onTc (τ := τ) (main (F := Idealize.ShloMosaic.Ideal))) ⟨m, fun _ => 0, ρ⟩ (fun r => ∀ c : Dev nD,
    r.2.mem ((c.tc : Thread nD τ).loc main_v190) = outR (sumR (m ((c.tc : Thread nD τ).loc main_arg0)) (m ((c.tc : Thread nD τ).loc main_arg2)) (m ((c.tc : Thread nD τ).loc main_arg4)))
    ∧ r.2.mem ((c.tc : Thread nD τ).loc main_v381) = outR (sumR (m ((c.tc : Thread nD τ).loc main_arg1)) (m ((c.tc : Thread nD τ).loc main_arg3)) (m ((c.tc : Thread nD τ).loc main_arg5)))
    ∧ r.2.mem ((c.tc : Thread nD τ).loc main_v569) = holeR (cntR (m ((c.tc : Thread nD τ).loc main_arg4)))
    ∧ r.2.mem ((c.tc : Thread nD τ).loc main_v757) = holeR (cntR (m ((c.tc : Thread nD τ).loc main_arg5)))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) := by
  refine (θ_run defs _ _).mono (fun r h c => ?_) (Cert.Reference0Ideal.Value.run (F := Idealize.ShloMosaic.Ideal) m ρ)
  obtain ⟨a, b, e, f, rest⟩ := h c
  exact ⟨a.trans (congrArg outR (run_feats0 _)), b.trans (congrArg outR (run_feats1 _)), e.trans (congrArg holeR (run_count0 _)),
    f.trans (congrArg holeR (run_count1 _)), rest⟩

end Cert.Proof.Val

end
-- ==== Proof.lean ====
module

public import proofs.«01_k».proof.Defs
public import proofs.«01_k».proof.Proof.Gen.Kernel0
public import proofs.«01_k».proof.Proof.Gen.Kernel0Ideal
public import proofs.«01_k».proof.Proof.Gen.Reference0Ideal
public import proofs.«01_k».proof.Proof.Gen.Reference0Ideal.Run
public import proofs.«01_k».proof.Proof.L0.Frame
public import proofs.«01_k».proof.Proof.L0I.Frame
public import proofs.«01_k».proof.Proof.Val.Same

@[expose] public section

noncomputable section

namespace Cert.Proof

open Idealize.ShloMosaic Idealize.SL.Sem

/-- At equal arguments the level-0 program and the reference end with the same four results. -/
theorem same_results : Cert.algebraic_Kernel0Ideal_Reference0Ideal (hKernel0Ideal := Cert.Kernel0Ideal.Gen.facts)
    (hReference0Ideal := Cert.Reference0Ideal.Gen.facts) := by
  intro m g m' g' _ ha
  refine ⟨fun c => Val.outR (Val.sumR (Kernel0Ideal.encOf m c 0) (Kernel0Ideal.metOf m c 0) (Kernel0Ideal.flowOf m c 0)),
    fun c => Val.outR (Val.sumR (Kernel0Ideal.encOf m c 1) (Kernel0Ideal.metOf m c 1) (Kernel0Ideal.flowOf m c 1)),
    fun c => Val.holeR (Val.cntR (Kernel0Ideal.flowOf m c 0)), fun c => Val.holeR (Val.cntR (Kernel0Ideal.flowOf m c 1)),
    Kernel0Ideal.values m g, (θ_run Cert.Reference0Ideal.defs _ _).mono (fun r h c => ?_) (Val.values m' g')⟩
  obtain ⟨a0, a1, a2, a3, a4, a5⟩ := ha c
  obtain ⟨r0, r1, r2, r3, rest⟩ := h c
  refine ⟨r0.trans ?_, r1.trans ?_, r2.trans ?_, r3.trans ?_, rest⟩
  · rw [a0, a2, a4]; rfl
  · rw [a1, a3, a5]; rfl
  · rw [a4]; rfl
  · rw [a5]; rfl

/-- The certificate. -/
theorem claim : Cert.Claim := ⟨Cert.Kernel0.Gen.facts, Cert.Kernel0Ideal.Gen.facts, Cert.Reference0Ideal.Gen.facts,
  fun m g _ => Kernel0.quiescent m g, fun m g _ => Kernel0Ideal.quiescent m g,
  fun m g _ => (θ_run Cert.Reference0Ideal.defs _ _).mono
    (fun r h => ⟨fun c => (h c).2.2.2.2, Idealize.ShloMosaic.sem_eq_zero_of_no_sems (by decide) r.2⟩) (Cert.Reference0Ideal.Value.run (F := Ideal) m g),
  trivial, same_results⟩

end Cert.Proof

end
